-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_normal_and_untied [hKernelIdeal : Cert.KernelIdeal.Facts] [hReferenceIdeal : Cert.ReferenceIdeal.Facts] [hOn_normal_and_untied : Cert.On_normal_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 16384, 192]⟩ : Shape).Idx, (Cert.On_normal_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v38_0) i = v0 c i)
          ∧ (∀ i : (⟨3, ![1, 16384, 3072]⟩ : Shape).Idx, (Cert.On_normal_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v38_1) i = v1 c i)
          ∧ (∀ i : (⟨3, ![1, 16384, 192]⟩ : Shape).Idx, (Cert.On_normal_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v38_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 16384, 192]⟩ : Shape).Idx, (Cert.On_normal_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v42) i = v0 c i)
          ∧ (∀ i : (⟨3, ![1, 16384, 3072]⟩ : Shape).Idx, (Cert.On_normal_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v128) i = v1 c i)
          ∧ (∀ i : (⟨3, ![1, 16384, 192]⟩ : Shape).Idx, (Cert.On_normal_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v88) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_normal_and_untied : Cert.On_normal_and_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_normal_and_untied (hKernelIdeal := hKernelIdeal) (hReferenceIdeal := hReferenceIdeal) (hOn_normal_and_untied := hOn_normal_and_untied)
-- ==== On_normal_and_untied.lean ====
abbrev S1x6144x16384 : Shape := ⟨3, ![1, 6144, 16384]⟩
abbrev S16 : Shape := ⟨1, ![16]⟩
abbrev S1x16384x6144 : Shape := ⟨3, ![1, 16384, 6144]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x384x16x16384 : Shape := ⟨4, ![1, 384, 16, 16384]⟩
abbrev S16x1x384x16384 : Shape := ⟨4, ![16, 1, 384, 16384]⟩
abbrev S1x16384x384x16 : Shape := ⟨4, ![1, 16384, 384, 16]⟩
abbrev S1x16384x192x32 : Shape := ⟨4, ![1, 16384, 192, 32]⟩
abbrev S1x16384x192 : Shape := ⟨3, ![1, 16384, 192]⟩
abbrev S277 : Shape := ⟨1, ![277]⟩
abbrev S1x16384x192x1 : Shape := ⟨4, ![1, 16384, 192, 1]⟩
abbrev S1x1x1x277 : Shape := ⟨4, ![1, 1, 1, 277]⟩
abbrev S1x16384x192x277 : Shape := ⟨4, ![1, 16384, 192, 277]⟩
abbrev S1x16384x3072x2 : Shape := ⟨4, ![1, 16384, 3072, 2]⟩
abbrev S1x16384x3072x1 : Shape := ⟨4, ![1, 16384, 3072, 1]⟩
abbrev S1x16384x3072 : Shape := ⟨3, ![1, 16384, 3072]⟩

class Facts : Prop where
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bitsLt_bf16_f32 : FTy.bits .bf16 < FTy.bits .f32
  shapeCasts_S1x6144x16384_S1x384x16x16384 : S1x6144x16384.ShapeCasts S1x384x16x16384
  transposes_S16x1x384x16384_S1x16384x384x16_1_3_2_0 : S16x1x384x16384.Transposes [1, 3, 2, 0] S1x16384x384x16
  shapeCasts_S1x16384x384x16_S1x16384x192x32 : S1x16384x384x16.ShapeCasts S1x16384x192x32
  reducesTo_S1x16384x192x32_S1x16384x192_d3 : S1x16384x192x32.ReducesTo [3] S1x16384x192
  h_S_ : 0 < S_.numel
  bcast_S_S277 : S_.BroadcastsInDim S277 (![] : Fin 0 → Fin S277.rank)
  bcast_S1x16384x192_S1x16384x192x1_0_1_2 : S1x16384x192.BroadcastsInDim S1x16384x192x1 (![0, 1, 2] : Fin 3 → Fin S1x16384x192x1.rank)
  bcast_S277_S1x1x1x277_3 : S277.BroadcastsInDim S1x1x1x277 (![3] : Fin 1 → Fin S1x1x1x277.rank)
  bcast_S1x16384x192x1_S1x16384x192x277_0_1_2_3 : S1x16384x192x1.BroadcastsInDim S1x16384x192x277 (![0, 1, 2, 3] : Fin 4 → Fin S1x16384x192x277.rank)
  bcast_S1x1x1x277_S1x16384x192x277_0_1_2_3 : S1x1x1x277.BroadcastsInDim S1x16384x192x277 (![0, 1, 2, 3] : Fin 4 → Fin S1x16384x192x277.rank)
  natLt_1_32 : 1 < 32
  reducesTo_S1x16384x192x277_S1x16384x192_d3 : S1x16384x192x277.ReducesTo [3] S1x16384x192
  bcast_S_S1x16384x192 : S_.BroadcastsInDim S1x16384x192 (![] : Fin 0 → Fin S1x16384x192.rank)
  bcast_S1x16384x192x1_S1x16384x192x32_0_1_2_3 : S1x16384x192x1.BroadcastsInDim S1x16384x192x32 (![0, 1, 2, 3] : Fin 4 → Fin S1x16384x192x32.rank)
  bcast_S_S1x16384x192x32 : S_.BroadcastsInDim S1x16384x192x32 (![] : Fin 0 → Fin S1x16384x192x32.rank)
  shapeCasts_S1x16384x6144_S1x16384x192x32 : S1x16384x6144.ShapeCasts S1x16384x192x32
  natLt_8_32 : 8 < 32
  shapeCasts_S1x16384x192x32_S1x16384x3072x2 : S1x16384x192x32.ShapeCasts S1x16384x3072x2
  slices_S1x16384x3072x2_S1x16384x3072x1_0_0_0_0 : S1x16384x3072x2.Slices ![0, 0, 0, 0] S1x16384x3072x1
  shapeCasts_S1x16384x3072x1_S1x16384x3072 : S1x16384x3072x1.ShapeCasts S1x16384x3072
  slices_S1x16384x3072x2_S1x16384x3072x1_0_0_0_1 : S1x16384x3072x2.Slices ![0, 0, 0, 1] S1x16384x3072x1
  dot_S16x16_S1x384x16x16384_S16x1x384x16384_1_2_0_013_n_n_wf : DotDims.WF S16x16 S1x384x16x16384 S16x1x384x16384 [1] [2] [0] [0, 1, 3] [] []

variable [Facts]

def dot_S16x16_S1x384x16x16384_S16x1x384x16384_1_2_0_013_n_n : DotDims S16x16 S1x384x16x16384 S16x1x384x16384 where
  lhsContracting := [1]
  rhsContracting := [2]
  lhsNonContracting := [0]
  rhsNonContracting := [0, 1, 3]
  lhsBatch := []
  rhsBatch := []
  wf := dot_S16x16_S1x384x16x16384_S16x1x384x16384_1_2_0_013_n_n_wf
def fn_where {F : FTy → Type} [FloatOps F] (arg0 : IVec S1x16384x192 1) (arg1 : IVec S1x16384x192 32) (arg2 : IVec S_ 32) : IVec S1x16384x192 32 :=
  let v0 : IVec S_ 32 := id arg2
  let v1 : IVec S1x16384x192 32 := broadcastInDim S1x16384x192 ![] bcast_S_S1x16384x192 v0
  let v2 : IVec S1x16384x192 32 := select arg0 arg1 v1
  v2

def fn_clip {F : FTy → Type} [FloatOps F] (arg0 : FVec F S1x16384x192x32 .f32) (arg1 : FVec F S_ .f32) (arg2 : FVec F S_ .f32) : FVec F S1x16384x192x32 .f32 :=
  let v0 : FVec F S_ .f32 := id arg1
  let v1 : FVec F S1x16384x192x32 .f32 := broadcastInDim S1x16384x192x32 ![] bcast_S_S1x16384x192x32 v0
  let v2 : FVec F S1x16384x192x32 .f32 := maximumf v1 arg0
  let v3 : FVec F S_ .f32 := id arg2
  let v4 : FVec F S1x16384x192x32 .f32 := broadcastInDim S1x16384x192x32 ![] bcast_S_S1x16384x192x32 v3
  let v5 : FVec F S1x16384x192x32 .f32 := minimumf v4 v2
  v5

def fn_where_0 {F : FTy → Type} [FloatOps F] (arg0 : IVec S1x16384x192x32 1) (arg1 : FVec F S_ .f32) (arg2 : FVec F S_ .f32) : FVec F S1x16384x192x32 .f32 :=
  let v0 : FVec F S1x16384x192x32 .f32 := broadcastInDim S1x16384x192x32 ![] bcast_S_S1x16384x192x32 arg1
  let v1 : FVec F S1x16384x192x32 .f32 := broadcastInDim S1x16384x192x32 ![] bcast_S_S1x16384x192x32 arg2
  let v2 : FVec F S1x16384x192x32 .f32 := select arg0 v0 v1
  v2

def fn_where_1 {F : FTy → Type} [FloatOps F] (arg0 : IVec S1x16384x192x32 1) (arg1 : FVec F S_ .f32) (arg2 : FVec F S1x16384x192x32 .f32) : FVec F S1x16384x192x32 .f32 :=
  let v0 : FVec F S1x16384x192x32 .f32 := broadcastInDim S1x16384x192x32 ![] bcast_S_S1x16384x192x32 arg1
  let v1 : FVec F S1x16384x192x32 .f32 := select arg0 v0 arg2
  v1

def fn_part6 {F : FTy → Type} [FloatOps F] (main_v42 : FVec F S1x16384x192 .f32) (main_v85 : FVec F S1x16384x192x32 .f32) (main_v93 : IVec S1x16384x192 1) (main_v99 : IVec S1x16384x192 1) (main_v104 : IVec S1x16384x192x32 1) (main_v106 : FVec F S1x16384x192x32 .f32) (main_v107 : FVec F S1x16384x192x32 .f32) : IVec S1x16384x192 1 × IVec S1x16384x3072 1 × IVec S1x16384x192 1 :=
  let main_v108 : FVec F S1x16384x192x32 .f32 := addf main_v85 main_v107
  let main_cst_34 : FVec F S_ .f32 := constant S_ .f32 0x38800000#32
  let main_v109 : FVec F S1x16384x192x32 .f32 := broadcastInDim S1x16384x192x32 ![] bcast_S_S1x16384x192x32 main_cst_34
  let main_v110 : FVec F S1x16384x192x32 .f32 := addf main_v108 main_v109
  let main_v111 : IVec S1x16384x192x32 1 := cmpf .oge main_v106 main_v110
  let main_v112 : IVec S1x16384x192x32 1 := ori main_v104 main_v111
  let main_v113 : IVec S1x16384x192x1 1 := broadcastInDim S1x16384x192x1 ![0, 1, 2] bcast_S1x16384x192_S1x16384x192x1_0_1_2 main_v99
  let main_v114 : IVec S1x16384x192x32 1 := broadcastInDim S1x16384x192x32 ![0, 1, 2, 3] bcast_S1x16384x192x1_S1x16384x192x32_0_1_2_3 main_v113
  let main_v115 : IVec S1x16384x192x32 1 := andi main_v112 main_v114
  let main_v116 : IVec S1x16384x3072x2 1 := shapeCast S1x16384x3072x2 main_v115 shapeCasts_S1x16384x192x32_S1x16384x3072x2
  let main_v117 : IVec S1x16384x192 1 := cmpf .oeq main_v42 main_v42
  let main_v118 : IVec S1x16384x3072x1 1 := (extractStridedSlice S1x16384x3072x1 ![0, 0, 0, 0] · slices_S1x16384x3072x2_S1x16384x3072x1_0_0_0_0) main_v116
  let main_v119 : IVec S1x16384x3072 1 := shapeCast S1x16384x3072 main_v118 shapeCasts_S1x16384x3072x1_S1x16384x3072
  let main_v120 : IVec S1x16384x3072x1 1 := (extractStridedSlice S1x16384x3072x1 ![0, 0, 0, 1] · slices_S1x16384x3072x2_S1x16384x3072x1_0_0_0_1) main_v116
  let main_v121 : IVec S1x16384x3072 1 := shapeCast S1x16384x3072 main_v120 shapeCasts_S1x16384x3072x1_S1x16384x3072
  let main_v122 : IVec S1x16384x3072 1 := andi main_v119 main_v121
  (main_v117, main_v122, main_v93)

def fn_part5 {F : FTy → Type} [FloatOps F] (main_v42 : FVec F S1x16384x192 .f32) (main_v82 : FVec F S1x16384x192x32 .f32) (main_v85 : FVec F S1x16384x192x32 .f32) (main_v87 : IVec S1x16384x192 1) (main_v89 : IVec S1x16384x192 1) (main_cst_27 : FVec F S_ .f32) : IVec S1x16384x192 1 × IVec S1x16384x3072 1 × IVec S1x16384x192 1 :=
  let main_v90 : FVec F S1x16384x192 .f32 := broadcastInDim S1x16384x192 ![] bcast_S_S1x16384x192 main_cst_27
  let main_v91 : IVec S1x16384x192 1 := cmpf .oge main_v42 main_v90
  let main_v92 : IVec S1x16384x192 1 := ori main_v89 main_v91
  let main_v93 : IVec S1x16384x192 1 := andi main_v87 main_v92
  let main_cst_28 : FVec F S_ .f32 := constant S_ .f32 0x00000000#32
  let main_v94 : FVec F S1x16384x192 .f32 := broadcastInDim S1x16384x192 ![] bcast_S_S1x16384x192 main_cst_28
  let main_v95 : IVec S1x16384x192 1 := cmpf .oeq main_v42 main_v94
  let main_cst_29 : FVec F S_ .f32 := constant S_ .f32 0x01800000#32
  let main_v96 : FVec F S1x16384x192 .f32 := broadcastInDim S1x16384x192 ![] bcast_S_S1x16384x192 main_cst_29
  let main_v97 : IVec S1x16384x192 1 := cmpf .oge main_v42 main_v96
  let main_v98 : IVec S1x16384x192 1 := ori main_v95 main_v97
  let main_v99 : IVec S1x16384x192 1 := andi main_v87 main_v98
  let main_cst_30 : FVec F S_ .f32 := constant S_ .f32 0x43800000#32
  let main_v100 : FVec F S1x16384x192x32 .f32 := broadcastInDim S1x16384x192x32 ![] bcast_S_S1x16384x192x32 main_cst_30
  let main_v101 : FVec F S1x16384x192x32 .f32 := mulf main_v82 main_v100
  let main_cst_31 : FVec F S_ .f32 := constant S_ .f32 0x3F000000#32
  let main_v102 : FVec F S1x16384x192x32 .f32 := broadcastInDim S1x16384x192x32 ![] bcast_S_S1x16384x192x32 main_cst_31
  let main_v103 : FVec F S1x16384x192x32 .f32 := addf main_v85 main_v102
  let main_v104 : IVec S1x16384x192x32 1 := cmpf .ole main_v101 main_v103
  let main_cst_32 : FVec F S_ .f32 := constant S_ .f32 0x43800000#32
  let main_v105 : FVec F S1x16384x192x32 .f32 := broadcastInDim S1x16384x192x32 ![] bcast_S_S1x16384x192x32 main_cst_32
  let main_v106 : FVec F S1x16384x192x32 .f32 := mulf main_v82 main_v105
  let main_cst_33 : FVec F S_ .f32 := constant S_ .f32 0x3F000000#32
  let main_v107 : FVec F S1x16384x192x32 .f32 := broadcastInDim S1x16384x192x32 ![] bcast_S_S1x16384x192x32 main_cst_33
  fn_part6 (F := F) main_v42 main_v85 main_v93 main_v99 main_v104 main_v106 main_v107

def fn_part4 {F : FTy → Type} [FloatOps F] (main_arg2 : IVec S1x16384x6144 8) (main_v42 : FVec F S1x16384x192 .f32) (main_v71 : FVec F S1x16384x192x32 .f32) (main_v72 : FVec F S1x16384x192x32 .f32) : IVec S1x16384x192 1 × IVec S1x16384x3072 1 × IVec S1x16384x192 1 :=
  let main_v73 : IVec S1x16384x192x32 1 := cmpf .olt main_v71 main_v72
  let main_cst_21 : FVec F S_ .f32 := constant S_ .f32 0x40800000#32
  let main_v74 : FVec F S1x16384x192x32 .f32 := broadcastInDim S1x16384x192x32 ![] bcast_S_S1x16384x192x32 main_cst_21
  let main_v75 : IVec S1x16384x192x32 1 := cmpf .olt main_v71 main_v74
  let main_cst_22 : FVec F S_ .f32 := constant S_ .f32 0x3F800000#32
  let main_cst_23 : FVec F S_ .f32 := constant S_ .f32 0x40000000#32
  let main_v76 : FVec F S1x16384x192x32 .f32 := fn_where_0 (F := F) main_v75 main_cst_22 main_cst_23
  let main_cst_24 : FVec F S_ .f32 := constant S_ .f32 0x3F000000#32
  let main_v77 : FVec F S1x16384x192x32 .f32 := fn_where_1 (F := F) main_v73 main_cst_24 main_v76
  let main_v78 : FVec F S1x16384x192x32 .f32 := Host.divf main_v71 main_v77
  let main_v79 : FVec F S1x16384x192x32 .f32 := Host.floor main_v78
  let main_v80 : FVec F S1x16384x192x32 .f32 := mulf main_v79 main_v77
  let main_v81 : FVec F S1x16384x192x32 .f32 := subf main_v71 main_v80
  let main_v82 : FVec F S1x16384x192x32 .f32 := Host.divf main_v81 main_v77
  let main_v83 : IVec S1x16384x192x32 8 := shapeCast S1x16384x192x32 main_arg2 shapeCasts_S1x16384x6144_S1x16384x192x32
  let main_v84 : IVec S1x16384x192x32 32 := (extui 32 · natLt_8_32) main_v83
  let main_v85 : FVec F S1x16384x192x32 .f32 := sitofp .f32 main_v84
  let main_cst_25 : FVec F S_ .f32 := constant S_ .f32 0x7F7FFFFF#32
  let main_v86 : FVec F S1x16384x192 .f32 := broadcastInDim S1x16384x192 ![] bcast_S_S1x16384x192 main_cst_25
  let main_v87 : IVec S1x16384x192 1 := cmpf .ole main_v42 main_v86
  let main_cst_26 : FVec F S_ .f32 := constant S_ .f32 0x00000000#32
  let main_v88 : FVec F S1x16384x192 .f32 := broadcastInDim S1x16384x192 ![] bcast_S_S1x16384x192 main_cst_26
  let main_v89 : IVec S1x16384x192 1 := cmpf .oeq main_v42 main_v88
  let main_cst_27 : FVec F S_ .f32 := constant S_ .f32 0x00800000#32
  fn_part5 (F := F) main_v42 main_v82 main_v85 main_v87 main_v89 main_cst_27

def fn_part3 {F : FTy → Type} [FloatOps F] (main_arg2 : IVec S1x16384x6144 8) (main_v40 : FVec F S1x16384x192x32 .f32) (main_v42 : FVec F S1x16384x192 .f32) (main_v55 : IVec S1x16384x192 32) (main_c_13 : IVec S_ 32) : IVec S1x16384x192 1 × IVec S1x16384x3072 1 × IVec S1x16384x192 1 :=
  let main_v56 : IVec S1x16384x192 32 := broadcastInDim S1x16384x192 ![] bcast_S_S1x16384x192 main_c_13
  let main_v57 : IVec S1x16384x192 32 := subi main_v55 main_v56
  let main_cst_14 : FVec F S_ .f32 := constant S_ .f32 0x00000000#32
  let main_v58 : FVec F S1x16384x192 .f32 := broadcastInDim S1x16384x192 ![] bcast_S_S1x16384x192 main_cst_14
  let main_v59 : IVec S1x16384x192 1 := cmpf .ogt main_v42 main_v58
  let main_c_15 : IVec S_ 32 := constantI S_ 32 3#32
  let main_v60 : IVec S1x16384x192 32 := broadcastInDim S1x16384x192 ![] bcast_S_S1x16384x192 main_c_15
  let main_v61 : IVec S1x16384x192 32 := subi main_v57 main_v60
  let main_c_16 : IVec S_ 32 := constantI S_ 32 0#32
  let main_v62 : IVec S1x16384x192 32 := fn_where (F := F) main_v59 main_v61 main_c_16
  let main_v63 : IVec S1x16384x192 32 := negi main_v62
  let main_v64 : FVec F S1x16384x192 .f32 := sitofp .f32 main_v63
  let main_cst_17 : FVec F S_ .f32 := constant S_ .f32 0x40000000#32
  let main_v65 : FVec F S1x16384x192 .f32 := broadcastInDim S1x16384x192 ![] bcast_S_S1x16384x192 main_cst_17
  let main_v66 : FVec F S1x16384x192 .f32 := Host.powf main_v65 main_v64
  let main_v67 : FVec F S1x16384x192x1 .f32 := broadcastInDim S1x16384x192x1 ![0, 1, 2] bcast_S1x16384x192_S1x16384x192x1_0_1_2 main_v66
  let main_v68 : FVec F S1x16384x192x32 .f32 := broadcastInDim S1x16384x192x32 ![0, 1, 2, 3] bcast_S1x16384x192x1_S1x16384x192x32_0_1_2_3 main_v67
  let main_v69 : FVec F S1x16384x192x32 .f32 := mulf main_v40 main_v68
  let main_cst_18 : FVec F S_ .f32 := constant S_ .f32 0xC0C00000#32
  let main_cst_19 : FVec F S_ .f32 := constant S_ .f32 0x40C00000#32
  let main_v70 : FVec F S1x16384x192x32 .f32 := fn_clip (F := F) main_v69 main_cst_18 main_cst_19
  let main_v71 : FVec F S1x16384x192x32 .f32 := Host.absf main_v70
  let main_cst_20 : FVec F S_ .f32 := constant S_ .f32 0x40000000#32
  let main_v72 : FVec F S1x16384x192x32 .f32 := broadcastInDim S1x16384x192x32 ![] bcast_S_S1x16384x192x32 main_cst_20
  fn_part4 (F := F) main_arg2 main_v42 main_v71 main_v72

def fn_part2 {F : FTy → Type} [FloatOps F] (main_arg0 : FVec F S1x6144x16384 .bf16) (main_arg2 : IVec S1x16384x6144 8) (main_v36 : FVec F S16x16 .bf16) : IVec S1x16384x192 1 × IVec S1x16384x3072 1 × IVec S1x16384x192 1 :=
  let main_v37 : FVec F S1x384x16x16384 .bf16 := shapeCast S1x384x16x16384 main_arg0 shapeCasts_S1x6144x16384_S1x384x16x16384
  let main_v38 : FVec F S16x1x384x16384 .f32 := (fun l r => Host.dotGeneral dot_S16x16_S1x384x16x16384_S16x1x384x16384_1_2_0_013_n_n none l r) main_v36 main_v37
  let main_v39 : FVec F S1x16384x384x16 .f32 := (transpose S1x16384x384x16 [1, 3, 2, 0] · transposes_S16x1x384x16384_S1x16384x384x16_1_3_2_0) main_v38
  let main_v40 : FVec F S1x16384x192x32 .f32 := shapeCast S1x16384x192x32 main_v39 shapeCasts_S1x16384x384x16_S1x16384x192x32
  let main_v41 : FVec F S1x16384x192x32 .f32 := Host.absf main_v40
  let main_cst_9 : FVec F S_ .f32 := constant S_ .f32 0xFF800000#32
  let main_v42 : FVec F S1x16384x192 .f32 := (fun x v => Host.reduce FloatOps.maximumf x v reducesTo_S1x16384x192x32_S1x16384x192_d3 h_S_) main_v41 main_cst_9
  let main_v43 : IVec S277 32 := iotaInDim S277 32 0
  let main_c_10 : IVec S_ 32 := constantI S_ 32 4294967147#32
  let main_v44 : IVec S277 32 := broadcastInDim S277 ![] bcast_S_S277 main_c_10
  let main_v45 : IVec S277 32 := addi main_v44 main_v43
  let main_v46 : FVec F S277 .f32 := sitofp .f32 main_v45
  let main_cst_11 : FVec F S_ .f32 := constant S_ .f32 0x40000000#32
  let main_v47 : FVec F S277 .f32 := broadcastInDim S277 ![] bcast_S_S277 main_cst_11
  let main_v48 : FVec F S277 .f32 := Host.powf main_v47 main_v46
  let main_v49 : FVec F S1x16384x192x1 .f32 := broadcastInDim S1x16384x192x1 ![0, 1, 2] bcast_S1x16384x192_S1x16384x192x1_0_1_2 main_v42
  let main_v50 : FVec F S1x1x1x277 .f32 := broadcastInDim S1x1x1x277 ![3] bcast_S277_S1x1x1x277_3 main_v48
  let main_v51 : FVec F S1x16384x192x277 .f32 := broadcastInDim S1x16384x192x277 ![0, 1, 2, 3] bcast_S1x16384x192x1_S1x16384x192x277_0_1_2_3 main_v49
  let main_v52 : FVec F S1x16384x192x277 .f32 := broadcastInDim S1x16384x192x277 ![0, 1, 2, 3] bcast_S1x1x1x277_S1x16384x192x277_0_1_2_3 main_v50
  let main_v53 : IVec S1x16384x192x277 1 := cmpf .oge main_v51 main_v52
  let main_v54 : IVec S1x16384x192x277 32 := (extui 32 · natLt_1_32) main_v53
  let main_c_12 : IVec S_ 32 := constantI S_ 32 0#32
  let main_v55 : IVec S1x16384x192 32 := (fun x v => Host.reduce IntOp.addi x v reducesTo_S1x16384x192x277_S1x16384x192_d3 h_S_) main_v54 main_c_12
  let main_c_13 : IVec S_ 32 := constantI S_ 32 149#32
  fn_part3 (F := F) main_arg2 main_v40 main_v42 main_v55 main_c_13

def fn_part1 {F : FTy → Type} [FloatOps F] (main_arg0 : FVec F S1x6144x16384 .bf16) (main_arg1 : FVec F S16 .f32) (main_arg2 : IVec S1x16384x6144 8) (main_v6 : IVec S16x16 32) (main_v18 : IVec S16x16 32) : IVec S1x16384x192 1 × IVec S1x16384x3072 1 × IVec S1x16384x192 1 :=
  let main_c_4 : IVec S_ 32 := constantI S_ 32 3#32
  let main_v19 : IVec S16x16 32 := broadcastInDim S16x16 ![] bcast_S_S16x16 main_c_4
  let main_v20 : IVec S16x16 32 := Host.shrsi main_v6 main_v19
  let main_c_5 : IVec S_ 32 := constantI S_ 32 1#32
  let main_v21 : IVec S16x16 32 := broadcastInDim S16x16 ![] bcast_S_S16x16 main_c_5
  let main_v22 : IVec S16x16 32 := andi main_v20 main_v21
  let main_v23 : IVec S16x16 32 := addi main_v18 main_v22
  let main_c_6 : IVec S_ 32 := constantI S_ 32 1#32
  let main_v24 : IVec S16x16 32 := broadcastInDim S16x16 ![] bcast_S_S16x16 main_c_6
  let main_v25 : IVec S16x16 32 := andi main_v23 main_v24
  let main_v26 : FVec F S16x16 .f32 := sitofp .f32 main_v25
  let main_cst : FVec F S_ .f32 := constant S_ .f32 0x40000000#32
  let main_v27 : FVec F S16x16 .f32 := broadcastInDim S16x16 ![] bcast_S_S16x16 main_cst
  let main_v28 : FVec F S16x16 .f32 := mulf main_v27 main_v26
  let main_cst_7 : FVec F S_ .f32 := constant S_ .f32 0x3F800000#32
  let main_v29 : FVec F S16x16 .f32 := broadcastInDim S16x16 ![] bcast_S_S16x16 main_cst_7
  let main_v30 : FVec F S16x16 .f32 := subf main_v29 main_v28
  let main_cst_8 : FVec F S_ .f32 := constant S_ .f32 0x3E800000#32
  let main_v31 : FVec F S16x16 .f32 := broadcastInDim S16x16 ![] bcast_S_S16x16 main_cst_8
  let main_v32 : FVec F S16x16 .f32 := mulf main_v31 main_v30
  let main_v33 : FVec F S1x16 .f32 := broadcastInDim S1x16 ![1] bcast_S16_S1x16_1 main_arg1
  let main_v34 : FVec F S16x16 .f32 := broadcastInDim S16x16 ![0, 1] bcast_S1x16_S16x16_0_1 main_v33
  let main_v35 : FVec F S16x16 .f32 := mulf main_v32 main_v34
  let main_v36 : FVec F S16x16 .bf16 := (truncf .bf16 · bitsLt_bf16_f32) main_v35
  fn_part2 (F := F) main_arg0 main_arg2 main_v36

def fn {F : FTy → Type} [FloatOps F] (main_arg0 : FVec F S1x6144x16384 .bf16) (main_arg1 : FVec F S16 .f32) (main_arg2 : IVec S1x16384x6144 8) : IVec S1x16384x192 1 × IVec S1x16384x3072 1 × IVec S1x16384x192 1 :=
  let main_v0 : IVec S16 32 := iotaInDim S16 32 0
  let main_v1 : IVec S16x1 32 := broadcastInDim S16x1 ![0] bcast_S16_S16x1_0 main_v0
  let main_v2 : IVec S16 32 := iotaInDim S16 32 0
  let main_v3 : IVec S1x16 32 := broadcastInDim S1x16 ![1] bcast_S16_S1x16_1 main_v2
  let main_v4 : IVec S16x16 32 := broadcastInDim S16x16 ![0, 1] bcast_S16x1_S16x16_0_1 main_v1
  let main_v5 : IVec S16x16 32 := broadcastInDim S16x16 ![0, 1] bcast_S1x16_S16x16_0_1 main_v3
  let main_v6 : IVec S16x16 32 := andi main_v4 main_v5
  let main_c : IVec S_ 32 := constantI S_ 32 1#32
  let main_v7 : IVec S16x16 32 := broadcastInDim S16x16 ![] bcast_S_S16x16 main_c
  let main_v8 : IVec S16x16 32 := andi main_v6 main_v7
  let main_c_0 : IVec S_ 32 := constantI S_ 32 1#32
  let main_v9 : IVec S16x16 32 := broadcastInDim S16x16 ![] bcast_S_S16x16 main_c_0
  let main_v10 : IVec S16x16 32 := Host.shrsi main_v6 main_v9
  let main_c_1 : IVec S_ 32 := constantI S_ 32 1#32
  let main_v11 : IVec S16x16 32 := broadcastInDim S16x16 ![] bcast_S_S16x16 main_c_1
  let main_v12 : IVec S16x16 32 := andi main_v10 main_v11
  let main_v13 : IVec S16x16 32 := addi main_v8 main_v12
  let main_c_2 : IVec S_ 32 := constantI S_ 32 2#32
  let main_v14 : IVec S16x16 32 := broadcastInDim S16x16 ![] bcast_S_S16x16 main_c_2
  let main_v15 : IVec S16x16 32 := Host.shrsi main_v6 main_v14
  let main_c_3 : IVec S_ 32 := constantI S_ 32 1#32
  let main_v16 : IVec S16x16 32 := broadcastInDim S16x16 ![] bcast_S_S16x16 main_c_3
  let main_v17 : IVec S16x16 32 := andi main_v15 main_v16
  let main_v18 : IVec S16x16 32 := addi main_v13 main_v17
  fn_part1 (F := F) main_arg0 main_arg1 main_arg2 main_v6 main_v18
-- ==== Kernel.lean ====
abbrev S1x6144x16384 : Shape := ⟨3, ![1, 6144, 16384]⟩
abbrev S16 : Shape := ⟨1, ![16]⟩
abbrev S1x16384x6144 : Shape := ⟨3, ![1, 16384, 6144]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S8x8x4x256 : Shape := ⟨4, ![8, 8, 4, 256]⟩
abbrev S8x4x8x256 : Shape := ⟨4, ![8, 4, 8, 256]⟩
abbrev S1x16384x192 : Shape := ⟨3, ![1, 16384, 192]⟩
abbrev S1x16384x3072 : Shape := ⟨3, ![1, 16384, 3072]⟩
abbrev S1x6144x256 : Shape := ⟨3, ![1, 6144, 256]⟩
abbrev S1x256x6144 : Shape := ⟨3, ![1, 256, 6144]⟩
abbrev S1x256x192 : Shape := ⟨3, ![1, 256, 192]⟩
abbrev S1x256x3072 : Shape := ⟨3, ![1, 256, 3072]⟩
abbrev S128x128 : Shape := ⟨2, ![128, 128]⟩
abbrev S2x8x128 : Shape := ⟨3, ![2, 8, 128]⟩
abbrev S192x256 : Shape := ⟨2, ![192, 256]⟩
abbrev S1x256x256 : Shape := ⟨3, ![1, 256, 256]⟩
abbrev S8x128 : Shape := ⟨2, ![8, 128]⟩
abbrev S1x8x128 : Shape := ⟨3, ![1, 8, 128]⟩
abbrev S1x128x128 : Shape := ⟨3, ![1, 128, 128]⟩
abbrev S32x128 : Shape := ⟨2, ![32, 128]⟩
abbrev S1x1x128 : Shape := ⟨3, ![1, 1, 128]⟩
abbrev S1x128 : Shape := ⟨2, ![1, 128]⟩
abbrev S16x128 : Shape := ⟨2, ![16, 128]⟩
abbrev S256x192 : Shape := ⟨2, ![256, 192]⟩

abbrev nBuf : Space → Nat
  | .hbm => 57
  | .vmem => 15
  | .smem => 0
  | _ => 0

abbrev bufTy : (tb : Table) → Fin (tcTables nBuf tb) → BufTy
  | .hbm, ⟨0, _⟩ => ⟨S1x6144x16384, .bf16⟩
  | .hbm, ⟨1, _⟩ => ⟨S16, .f32⟩
  | .hbm, ⟨2, _⟩ => ⟨S1x16384x6144, .i8⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S16x16, .f32⟩
  | .hbm, ⟨25, _⟩ => ⟨S_, .f32⟩
  | .hbm, ⟨26, _⟩ => ⟨S16x16, .f32⟩
  | .hbm, ⟨27, _⟩ => ⟨S16x16, .f32⟩
  | .hbm, ⟨28, _⟩ => ⟨S_, .f32⟩
  | .hbm, ⟨29, _⟩ => ⟨S16x16, .f32⟩
  | .hbm, ⟨30, _⟩ => ⟨S16x16, .f32⟩
  | .hbm, ⟨31, _⟩ => ⟨S_, .f32⟩
  | .hbm, ⟨32, _⟩ => ⟨S16x16, .f32⟩
  | .hbm, ⟨33, _⟩ => ⟨S16x16, .f32⟩
  | .hbm, ⟨34, _⟩ => ⟨S1x16, .f32⟩
  | .hbm, ⟨35, _⟩ => ⟨S16x16, .f32⟩
  | .hbm, ⟨36, _⟩ => ⟨S16x16, .f32⟩
  | .hbm, ⟨37, _⟩ => ⟨S16x16, .bf16⟩
  | .hbm, ⟨38, _⟩ => ⟨S16x16, .i32⟩
  | .hbm, ⟨39, _⟩ => ⟨S16x16, .i32⟩
  | .hbm, ⟨40, _⟩ => ⟨S_, .i32⟩
  | .hbm, ⟨41, _⟩ => ⟨S16x16, .i32⟩
  | .hbm, ⟨42, _⟩ => ⟨S16x16, .i32⟩
  | .hbm, ⟨43, _⟩ => ⟨S16x16, .i1⟩
  | .hbm, ⟨44, _⟩ => ⟨S16x16, .bf16⟩
  | .hbm, ⟨45, _⟩ => ⟨S16x1x16x1, .bf16⟩
  | .hbm, ⟨46, _⟩ => ⟨S1x16x1x16, .bf16⟩
  | .hbm, ⟨47, _⟩ => ⟨S16x16x16x16, .bf16⟩
  | .hbm, ⟨48, _⟩ => ⟨S16x16x16x16, .bf16⟩
  | .hbm, ⟨49, _⟩ => ⟨S16x16x16x16, .bf16⟩
  | .hbm, ⟨50, _⟩ => ⟨S256x256, .bf16⟩
  | .hbm, ⟨51, _⟩ => ⟨S8x8x4x256, .bf16⟩
  | .hbm, ⟨52, _⟩ => ⟨S8x4x8x256, .bf16⟩
  | .hbm, ⟨53, _⟩ => ⟨S256x256, .bf16⟩
  | .hbm, ⟨54, _⟩ => ⟨S1x16384x192, .f32⟩
  | .hbm, ⟨55, _⟩ => ⟨S1x16384x3072, .i8⟩
  | .hbm, ⟨56, _⟩ => ⟨S1x16384x192, .i8⟩
  | .local _ .vmem, ⟨0, _⟩ => ⟨S1x6144x256, .bf16⟩
  | .local _ .vmem, ⟨1, _⟩ => ⟨S1x6144x256, .bf16⟩
  | .local _ .vmem, ⟨2, _⟩ => ⟨S256x256, .bf16⟩
  | .local _ .vmem, ⟨3, _⟩ => ⟨S1x256x6144, .i8⟩
  | .local _ .vmem, ⟨4, _⟩ => ⟨S1x256x6144, .i8⟩
  | .local _ .vmem, ⟨5, _⟩ => ⟨S1x256x192, .f32⟩
  | .local _ .vmem, ⟨6, _⟩ => ⟨S1x256x192, .f32⟩
  | .local _ .vmem, ⟨7, _⟩ => ⟨S1x256x3072, .i8⟩
  | .local _ .vmem, ⟨8, _⟩ => ⟨S1x256x3072, .i8⟩
  | .local _ .vmem, ⟨9, _⟩ => ⟨S1x256x192, .i8⟩
  | .local _ .vmem, ⟨10, _⟩ => ⟨S1x256x192, .i8⟩
  | .local _ .vmem, ⟨11, _⟩ => ⟨S256x256, .f32⟩
  | .local _ .vmem, ⟨12, _⟩ => ⟨S128x128, .f32⟩
  | .local _ .vmem, ⟨13, _⟩ => ⟨S2x8x128, .f32⟩
  | .local _ .vmem, ⟨14, _⟩ => ⟨S192x256, .f32⟩
  | _, _ => ⟨S1x6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 64], ![false, false]⟩

@[reducible] def k0_t1_loop : Scf.Loop 32 :=
  let c0_i32 : BitVec 32 := 0#32
  let c24_i32 : BitVec 32 := 24#32
  let v0 : BitVec 32 := Scalar.addi c0_i32 c24_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v89 : BitVec 32 := Scalar.muli arg12 c256_i32
  v89
def k0_off1 (k0_t1 : Fin k0_t1_loop.trips) : Fin 3 → Nat :=
  let c0_28 : Index := 0#32
  let c0_i32 : BitVec 32 := 0#32
  let c1_i32 : BitVec 32 := 1#32
  let arg12 : BitVec 32 := Scf.iv c0_i32 c1_i32 k0_t1
  let c256_i32 : BitVec 32 := 256#32
  let v89 : BitVec 32 := Scalar.muli arg12 c256_i32
  let v90 : BitVec 32 := v89
  let v93 : Index := Scalar.indexCast v90
  let c0_29 : Index := 0#32
  ![0, v93.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_91 : BitVec 32 := 8#32
  let v227 : BitVec 32 := Scalar.muli arg12 c8_i32_91
  v227
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32_91 : BitVec 32 := 8#32
  let v227 : BitVec 32 := Scalar.muli arg12 c8_i32_91
  let v228 : BitVec 32 := v227
  let v229 : Index := Scalar.indexCast v228
  let c0_92 : Index := 0#32
  ![v229.toNat, 0]
def k0_off3 (k0_t1 : Fin k0_t1_loop.trips) : Fin 3 → Nat :=
  let c0_123 : Index := 0#32
  let c0_124 : Index := 0#32
  let c0_i32 : BitVec 32 := 0#32
  let c1_i32 : BitVec 32 := 1#32
  let arg12 : BitVec 32 := Scf.iv c0_i32 c1_i32 k0_t1
  let c256_i32 : BitVec 32 := 256#32
  let v89 : BitVec 32 := Scalar.muli arg12 c256_i32
  let v90 : BitVec 32 := v89
  let v318 : Index := Scalar.indexCast v90
  ![0, 0, v318.toNat]
def k0_off4 (k0_t1 : Fin k0_t1_loop.trips) : Fin 3 → Nat :=
  let c0_126 : Index := 0#32
  let c0_127 : Index := 0#32
  let c0_i32 : BitVec 32 := 0#32
  let c1_i32 : BitVec 32 := 1#32
  let arg12 : BitVec 32 := Scf.iv c0_i32 c1_i32 k0_t1
  let c256_i32 : BitVec 32 := 256#32
  let v89 : BitVec 32 := Scalar.muli arg12 c256_i32
  let v90 : BitVec 32 := v89
  let c128_i32_125 : BitVec 32 := 128#32
  let v323 : BitVec 32 := Scalar.addi v90 c128_i32_125
  let v324 : Index := Scalar.indexCast v323
  ![0, 0, v324.toNat]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_818 : BitVec 32 := 128#32
  let v1938 : BitVec 32 := Scalar.muli arg12 c128_i32_818
  v1938
def k0_off5 (k0_t1 : Fin k0_t1_loop.trips) : Fin 3 → Nat :=
  let c0_819 : Index := 0#32
  let c0_820 : Index := 0#32
  let c0_i32 : BitVec 32 := 0#32
  let c1_i32 : BitVec 32 := 1#32
  let arg12 : BitVec 32 := Scf.iv c0_i32 c1_i32 k0_t1
  let c128_i32_818 : BitVec 32 := 128#32
  let v1938 : BitVec 32 := Scalar.muli arg12 c128_i32_818
  let v1939 : BitVec 32 := v1938
  let v1940 : Index := Scalar.indexCast v1939
  ![0, 0, v1940.toNat]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_910 : BitVec 32 := 8#32
  let v2071 : BitVec 32 := Scalar.muli arg12 c8_i32_910
  v2071
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32_910 : BitVec 32 := 8#32
  let v2071 : BitVec 32 := Scalar.muli arg12 c8_i32_910
  let v2072 : BitVec 32 := v2071
  let v2073 : Index := Scalar.indexCast v2072
  let c128_911 : Index := 128#32
  ![v2073.toNat, 128]
def k0_off7 (k0_t1 : Fin k0_t1_loop.trips) : Fin 3 → Nat :=
  let c0_944 : Index := 0#32
  let c128_945 : Index := 128#32
  let c0_i32 : BitVec 32 := 0#32
  let c1_i32 : BitVec 32 := 1#32
  let arg12 : BitVec 32 := Scf.iv c0_i32 c1_i32 k0_t1
  let c256_i32 : BitVec 32 := 256#32
  let v89 : BitVec 32 := Scalar.muli arg12 c256_i32
  let v90 : BitVec 32 := v89
  let v2162 : Index := Scalar.indexCast v90
  ![0, 128, v2162.toNat]
def k0_off8 (k0_t1 : Fin k0_t1_loop.trips) : Fin 3 → Nat :=
  let c0_947 : Index := 0#32
  let c128_948 : Index := 128#32
  let c0_i32 : BitVec 32 := 0#32
  let c1_i32 : BitVec 32 := 1#32
  let arg12 : BitVec 32 := Scf.iv c0_i32 c1_i32 k0_t1
  let c256_i32 : BitVec 32 := 256#32
  let v89 : BitVec 32 := Scalar.muli arg12 c256_i32
  let v90 : BitVec 32 := v89
  let c128_i32_946 : BitVec 32 := 128#32
  let v2167 : BitVec 32 := Scalar.addi v90 c128_i32_946
  let v2168 : Index := Scalar.indexCast v2167
  ![0, 128, v2168.toNat]
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_1653 : BitVec 32 := 128#32
  let v3782 : BitVec 32 := Scalar.muli arg12 c128_i32_1653
  v3782
def k0_off9 (k0_t1 : Fin k0_t1_loop.trips) : Fin 3 → Nat :=
  let c0_1654 : Index := 0#32
  let c128_1655 : Index := 128#32
  let c0_i32 : BitVec 32 := 0#32
  let c1_i32 : BitVec 32 := 1#32
  let arg12 : BitVec 32 := Scf.iv c0_i32 c1_i32 k0_t1
  let c128_i32_1653 : BitVec 32 := 128#32
  let v3782 : BitVec 32 := Scalar.muli arg12 c128_i32_1653
  let v3783 : BitVec 32 := v3782
  let v3784 : Index := Scalar.indexCast v3783
  ![0, 128, v3784.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6144x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x6144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3072 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x192 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x6144x16384 : Shape := ⟨3, ![1, 6144, 16384]⟩
abbrev S16 : Shape := ⟨1, ![16]⟩
abbrev S1x16384x6144 : Shape := ⟨3, ![1, 16384, 6144]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x384x16x16384 : Shape := ⟨4, ![1, 384, 16, 16384]⟩
abbrev S16x1x384x16384 : Shape := ⟨4, ![16, 1, 384, 16384]⟩
abbrev S1x16384x384x16 : Shape := ⟨4, ![1, 16384, 384, 16]⟩
abbrev S1x16384x192x32 : Shape := ⟨4, ![1, 16384, 192, 32]⟩
abbrev S1x16384x192 : Shape := ⟨3, ![1, 16384, 192]⟩
abbrev S277 : Shape := ⟨1, ![277]⟩
abbrev S1x16384x192x1 : Shape := ⟨4, ![1, 16384, 192, 1]⟩
abbrev S1x1x1x277 : Shape := ⟨4, ![1, 1, 1, 277]⟩
abbrev S1x16384x192x277 : Shape := ⟨4, ![1, 16384, 192, 277]⟩
abbrev S1x16384x3072x2 : Shape := ⟨4, ![1, 16384, 3072, 2]⟩
abbrev S1x16384x3072x1 : Shape := ⟨4, ![1, 16384, 3072, 1]⟩
abbrev S1x16384x3072 : Shape := ⟨3, ![1, 16384, 3072]⟩

abbrev nBuf : Space → Nat
  | .hbm => 182
  | .vmem => 0
  | .smem => 0
  | _ => 0

abbrev hbmTy0_0 (i : Nat) : BufTy := match i % 128 with
  | 0 => ⟨S1x6144x16384, .bf16⟩
  | 1 => ⟨S16, .f32⟩
  | 2 => ⟨S1x16384x6144, .i8⟩
  | 3 => ⟨S16, .i32⟩
  | 4 => ⟨S16x1, .i32⟩
  | 5 => ⟨S16, .i32⟩
  | 6 => ⟨S1x16, .i32⟩
  | 7 => ⟨S16x16, .i32⟩
  | 8 => ⟨S16x16, .i32⟩
  | 9 => ⟨S16x16, .i32⟩
  | 10 => ⟨S_, .i32⟩
  | 11 => ⟨S16x16, .i32⟩
  | 12 => ⟨S16x16, .i32⟩
  | 13 => ⟨S_, .i32⟩
  | 14 => ⟨S16x16, .i32⟩
  | 15 => ⟨S16x16, .i32⟩
  | 16 => ⟨S_, .i32⟩
  | 17 => ⟨S16x16, .i32⟩
  | 18 => ⟨S16x16, .i32⟩
  | 19 => ⟨S16x16, .i32⟩
  | 20 => ⟨S_, .i32⟩
  | 21 => ⟨S16x16, .i32⟩
  | 22 => ⟨S16x16, .i32⟩
  | 23 => ⟨S_, .i32⟩
  | 24 => ⟨S16x16, .i32⟩
  | 25 => ⟨S16x16, .i32⟩
  | 26 => ⟨S16x16, .i32⟩
  | 27 => ⟨S_, .i32⟩
  | 28 => ⟨S16x16, .i32⟩
  | 29 => ⟨S16x16, .i32⟩
  | 30 => ⟨S_, .i32⟩
  | 31 => ⟨S16x16, .i32⟩
  | 32 => ⟨S16x16, .i32⟩
  | 33 => ⟨S16x16, .i32⟩
  | 34 => ⟨S_, .i32⟩
  | 35 => ⟨S16x16, .i32⟩
  | 36 => ⟨S16x16, .i32⟩
  | 37 => ⟨S16x16, .f32⟩
  | 38 => ⟨S_, .f32⟩
  | 39 => ⟨S16x16, .f32⟩
  | 40 => ⟨S16x16, .f32⟩
  | 41 => ⟨S_, .f32⟩
  | 42 => ⟨S16x16, .f32⟩
  | 43 => ⟨S16x16, .f32⟩
  | 44 => ⟨S_, .f32⟩
  | 45 => ⟨S16x16, .f32⟩
  | 46 => ⟨S16x16, .f32⟩
  | 47 => ⟨S1x16, .f32⟩
  | 48 => ⟨S16x16, .f32⟩
  | 49 => ⟨S16x16, .f32⟩
  | 50 => ⟨S16x16, .bf16⟩
  | 51 => ⟨S1x384x16x16384, .bf16⟩
  | 52 => ⟨S16x1x384x16384, .f32⟩
  | 53 => ⟨S1x16384x384x16, .f32⟩
  | 54 => ⟨S1x16384x192x32, .f32⟩
  | 55 => ⟨S1x16384x192x32, .f32⟩
  | 56 => ⟨S_, .f32⟩
  | 57 => ⟨S1x16384x192, .f32⟩
  | 58 => ⟨S277, .i32⟩
  | 59 => ⟨S_, .i32⟩
  | 60 => ⟨S277, .i32⟩
  | 61 => ⟨S277, .i32⟩
  | 62 => ⟨S277, .f32⟩
  | 63 => ⟨S_, .f32⟩
  | 64 => ⟨S277, .f32⟩
  | 65 => ⟨S277, .f32⟩
  | 66 => ⟨S1x16384x192x1, .f32⟩
  | 67 => ⟨S1x1x1x277, .f32⟩
  | 68 => ⟨S1x16384x192x277, .f32⟩
  | 69 => ⟨S1x16384x192x277, .f32⟩
  | 70 => ⟨S1x16384x192x277, .i1⟩
  | 71 => ⟨S1x16384x192x277, .i32⟩
  | 72 => ⟨S_, .i32⟩
  | 73 => ⟨S1x16384x192, .i32⟩
  | 74 => ⟨S_, .i32⟩
  | 75 => ⟨S1x16384x192, .i32⟩
  | 76 => ⟨S1x16384x192, .i32⟩
  | 77 => ⟨S_, .f32⟩
  | 78 => ⟨S1x16384x192, .f32⟩
  | 79 => ⟨S1x16384x192, .i1⟩
  | 80 => ⟨S_, .i32⟩
  | 81 => ⟨S1x16384x192, .i32⟩
  | 82 => ⟨S1x16384x192, .i32⟩
  | 83 => ⟨S_, .i32⟩
  | 84 => ⟨S_, .i32⟩
  | 85 => ⟨S1x16384x192, .i32⟩
  | 86 => ⟨S1x16384x192, .i32⟩
  | 87 => ⟨S1x16384x192, .i32⟩
  | 88 => ⟨S1x16384x192, .f32⟩
  | 89 => ⟨S_, .f32⟩
  | 90 => ⟨S1x16384x192, .f32⟩
  | 91 => ⟨S1x16384x192, .f32⟩
  | 92 => ⟨S1x16384x192x1, .f32⟩
  | 93 => ⟨S1x16384x192x32, .f32⟩
  | 94 => ⟨S1x16384x192x32, .f32⟩
  | 95 => ⟨S_, .f32⟩
  | 96 => ⟨S_, .f32⟩
  | 97 => ⟨S_, .f32⟩
  | 98 => ⟨S1x16384x192x32, .f32⟩
  | 99 => ⟨S1x16384x192x32, .f32⟩
  | 100 => ⟨S_, .f32⟩
  | 101 => ⟨S1x16384x192x32, .f32⟩
  | 102 => ⟨S1x16384x192x32, .f32⟩
  | 103 => ⟨S1x16384x192x32, .f32⟩
  | 104 => ⟨S_, .f32⟩
  | 105 => ⟨S1x16384x192x32, .f32⟩
  | 106 => ⟨S1x16384x192x32, .i1⟩
  | 107 => ⟨S_, .f32⟩
  | 108 => ⟨S1x16384x192x32, .f32⟩
  | 109 => ⟨S1x16384x192x32, .i1⟩
  | 110 => ⟨S_, .f32⟩
  | 111 => ⟨S_, .f32⟩
  | 112 => ⟨S1x16384x192x32, .f32⟩
  | 113 => ⟨S1x16384x192x32, .f32⟩
  | 114 => ⟨S1x16384x192x32, .f32⟩
  | 115 => ⟨S_, .f32⟩
  | 116 => ⟨S1x16384x192x32, .f32⟩
  | 117 => ⟨S1x16384x192x32, .f32⟩
  | 118 => ⟨S1x16384x192x32, .f32⟩
  | 119 => ⟨S1x16384x192x32, .f32⟩
  | 120 => ⟨S1x16384x192x32, .f32⟩
  | 121 => ⟨S1x16384x192x32, .f32⟩
  | 122 => ⟨S1x16384x192x32, .f32⟩
  | 123 => ⟨S1x16384x192x32, .i8⟩
  | 124 => ⟨S1x16384x192x32, .i32⟩
  | 125 => ⟨S1x16384x192x32, .f32⟩
  | 126 => ⟨S_, .i32⟩
  | 127 => ⟨S1x16384x192, .i32⟩
  | _ => ⟨S1x6144x16384, .bf16⟩

abbrev hbmTy0_1 (i : Nat) : BufTy := match i % 128 with
  | 0 => ⟨S1x16384x192, .i32⟩
  | 1 => ⟨S1x16384x192, .i8⟩
  | 2 => ⟨S_, .f32⟩
  | 3 => ⟨S1x16384x192x32, .f32⟩
  | 4 => ⟨S1x16384x192x32, .f32⟩
  | 5 => ⟨S_, .f32⟩
  | 6 => ⟨S1x16384x192x32, .f32⟩
  | 7 => ⟨S1x16384x192x32, .f32⟩
  | 8 => ⟨S1x16384x192x32, .i1⟩
  | 9 => ⟨S1x16384x192x32, .f32⟩
  | 10 => ⟨S1x16384x192x32, .f32⟩
  | 11 => ⟨S1x16384x192x32, .f32⟩
  | 12 => ⟨S_, .f32⟩
  | 13 => ⟨S1x16384x192x32, .f32⟩
  | 14 => ⟨S1x16384x192x32, .i1⟩
  | 15 => ⟨S_, .f32⟩
  | 16 => ⟨S1x16384x192x32, .f32⟩
  | 17 => ⟨S1x16384x192x32, .f32⟩
  | 18 => ⟨S_, .f32⟩
  | 19 => ⟨S1x16384x192x32, .f32⟩
  | 20 => ⟨S1x16384x192x32, .i1⟩
  | 21 => ⟨S_, .f32⟩
  | 22 => ⟨S1x16384x192x32, .f32⟩
  | 23 => ⟨S1x16384x192x32, .f32⟩
  | 24 => ⟨S_, .f32⟩
  | 25 => ⟨S1x16384x192x32, .f32⟩
  | 26 => ⟨S1x16384x192x32, .f32⟩
  | 27 => ⟨S_, .f32⟩
  | 28 => ⟨S1x16384x192x32, .f32⟩
  | 29 => ⟨S1x16384x192x32, .f32⟩
  | 30 => ⟨S1x16384x192x32, .f32⟩
  | 31 => ⟨S1x16384x192x32, .f32⟩
  | 32 => ⟨S1x16384x192x32, .i32⟩
  | 33 => ⟨S_, .f32⟩
  | 34 => ⟨S1x16384x192x32, .f32⟩
  | 35 => ⟨S1x16384x192x32, .i1⟩
  | 36 => ⟨S_, .i32⟩
  | 37 => ⟨S1x16384x192x32, .i32⟩
  | 38 => ⟨S1x16384x192x32, .i1⟩
  | 39 => ⟨S1x16384x192x32, .i1⟩
  | 40 => ⟨S_, .i32⟩
  | 41 => ⟨S1x16384x192x32, .i32⟩
  | 42 => ⟨S1x16384x192x32, .i32⟩
  | 43 => ⟨S1x16384x192x32, .i32⟩
  | 44 => ⟨S1x16384x3072x2, .i32⟩
  | 45 => ⟨S1x16384x3072x1, .i32⟩
  | 46 => ⟨S1x16384x3072, .i32⟩
  | 47 => ⟨S1x16384x3072x1, .i32⟩
  | 48 => ⟨S1x16384x3072, .i32⟩
  | 49 => ⟨S_, .i32⟩
  | 50 => ⟨S1x16384x3072, .i32⟩
  | 51 => ⟨S1x16384x3072, .i32⟩
  | 52 => ⟨S1x16384x3072, .i32⟩
  | 53 => ⟨S1x16384x3072, .i8⟩
  | _ => ⟨S1x6144x16384, .bf16⟩

abbrev hbmTy (i : Nat) : BufTy := match i / 128 with
  | 0 => hbmTy0_0 i
  | 1 => hbmTy0_1 i
  | _ => ⟨S1x6144x16384, .bf16⟩

abbrev bufTy : (tb : Table) → Fin (tcTables nBuf tb) → BufTy
  | .hbm, ⟨i, _⟩ => hbmTy i
  | _, _ => ⟨S1x6144x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_c_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_12 : Ref sig .tc := ⟨.hbm, 72, rfl⟩
abbrev main_v55 : Ref sig .tc := ⟨.hbm, 73, rfl⟩
abbrev main_c_13 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_c_15 : Ref sig .tc := ⟨.hbm, 80, rfl⟩
abbrev main_v60 : Ref sig .tc := ⟨.hbm, 81, rfl⟩
abbrev main_v61 : Ref sig .tc := ⟨.hbm, 82, rfl⟩
abbrev main_c_16 : Ref sig .tc := ⟨.hbm, 83, rfl⟩
abbrev main_call0_v0 : Ref sig .tc := ⟨.hbm, 84, rfl⟩
abbrev main_call0_v1 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_cst_19 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v70 : Ref sig .tc := ⟨.hbm, 102, rfl⟩
abbrev main_v71 : Ref sig .tc := ⟨.hbm, 103, rfl⟩
abbrev main_cst_20 : Ref sig .tc := ⟨.hbm, 104, rfl⟩
abbrev main_v72 : Ref sig .tc := ⟨.hbm, 105, rfl⟩
abbrev main_v73 : Ref sig .tc := ⟨.hbm, 106, rfl⟩
abbrev main_cst_21 : Ref sig .tc := ⟨.hbm, 107, rfl⟩
abbrev main_v74 : Ref sig .tc := ⟨.hbm, 108, rfl⟩
abbrev main_v75 : Ref sig .tc := ⟨.hbm, 109, rfl⟩
abbrev main_cst_22 : Ref sig .tc := ⟨.hbm, 110, rfl⟩
abbrev main_cst_23 : Ref sig .tc := ⟨.hbm, 111, rfl⟩
abbrev main_call2_v0 : Ref sig .tc := ⟨.hbm, 112, rfl⟩
abbrev main_call2_v1 : Ref sig .tc := ⟨.hbm, 113, rfl⟩
abbrev main_v76 : Ref sig .tc := ⟨.hbm, 114, rfl⟩
abbrev main_cst_24 : Ref sig .tc := ⟨.hbm, 115, rfl⟩
abbrev main_call3_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_25 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_26 : Ref sig .tc := ⟨.hbm, 130, rfl⟩
abbrev main_v89 : Ref sig .tc := ⟨.hbm, 131, rfl⟩
abbrev main_v90 : Ref sig .tc := ⟨.hbm, 132, rfl⟩
abbrev main_cst_27 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_28 : Ref sig .tc := ⟨.hbm, 140, rfl⟩
abbrev main_v97 : Ref sig .tc := ⟨.hbm, 141, rfl⟩
abbrev main_v98 : Ref sig .tc := ⟨.hbm, 142, rfl⟩
abbrev main_cst_29 : Ref sig .tc := ⟨.hbm, 143, rfl⟩
abbrev main_v99 : Ref sig .tc := ⟨.hbm, 144, rfl⟩
abbrev main_v100 : Ref sig .tc := ⟨.hbm, 145, rfl⟩
abbrev main_cst_30 : Ref sig .tc := ⟨.hbm, 146, rfl⟩
abbrev main_v101 : Ref sig .tc := ⟨.hbm, 147, rfl⟩
abbrev main_v102 : Ref sig .tc := ⟨.hbm, 148, rfl⟩
abbrev main_cst_31 : Ref sig .tc := ⟨.hbm, 149, rfl⟩
abbrev main_v103 : Ref sig .tc := ⟨.hbm, 150, rfl⟩
abbrev main_v104 : Ref sig .tc := ⟨.hbm, 151, rfl⟩
abbrev main_cst_32 : Ref sig .tc := ⟨.hbm, 152, rfl⟩
abbrev main_v105 : Ref sig .tc := ⟨.hbm, 153, rfl⟩
abbrev main_v106 : Ref sig .tc := ⟨.hbm, 154, rfl⟩
abbrev main_cst_33 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_34 : Ref sig .tc := ⟨.hbm, 161, rfl⟩
abbrev main_v112 : Ref sig .tc := ⟨.hbm, 162, rfl⟩
abbrev main_v113 : Ref sig .tc := ⟨.hbm, 163, rfl⟩
abbrev main_c_35 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_36 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_c_37 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩

abbrev nD : Nat := 1
abbrev τ : Topo := Topo.v7x

variable {F : FTy → Type} [FloatOps F]
-- ==== Proof.KernelRun.lean ====
/-
  The run of the kernel: what its body does on any staging memrefs (`kernelRun`, the counted loop gone through by the
  generated invariant), and the frame (`frame`): from any memory every execution terminates with the arguments as launched.
  Everything is stated at any instance of the floating-point operations.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic
public import Idealize.ShloMosaic.Lib.Pipeline.Value
public import Idealize.ShloMosaic.PureOps.BitExact

@[expose] public section

noncomputable section

namespace Cert.Proof.KernelRun

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

/-- The loop's invariant is the generated one; no wait needs a variant of its own. -/
abbrev 𝒱₀ : Variants := Variants.none

variable (m : (ℓ : Loc nD τ sig) → Buf (Elt F) ℓ) (ρ : Dev nD → PrngReg)

/-! ## What the loop leaves -/

/-- The scale bytes of a block, from the transposed maxima `A`: the kernel's operations after its loop. -/
def scaleOf (A : Vec F S192x256 .f32) : Vec F S1x256x192 .i8 :=
  k0_pay1 (k0_pay411 (k0_pay407 A) (k0_pay409 A) (k0_pay410 A)) (k0_pay412 (k0_pay407 A))

/-- The transposed maxima the loop leaves in the scratch `M11`, over the contents the buffers had before. -/
def maxima (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8)
    (f6 : BufTy.Contents (Elt F) M6.view.ty) (f8 : BufTy.Contents (Elt F) M8.view.ty) (f9 : BufTy.Contents (Elt F) M9.view.ty) (f10 : BufTy.Contents (Elt F) M10.view.ty) (f11 : BufTy.Contents (Elt F) M11.view.ty) : Vec F S192x256 .f32 :=
  M11.view.readAt (Elt F) (Rect.unit (s := S192x256) ![0, 0] S192x256.size inb_S192x256_S192x256_0_0).toLoadRect
    (M11.view.writes (Elt F) f11 (pb_k0_t1 (F := F) 𝒱₀ c none i M2 h2 M3 h3 M4 h4 M5 h5 M6 h6 M7 h7 M8 h8 M9 h9 M10 h10 M11 h11 (h2.unread x2) (h3.unread x3) (h4.unread x4) f6 f8 f9 f10 f11 k0_t1_loop.trips).2.2.2.2)

/-- The code bytes the loop leaves in the result block `M6`, over the contents the buffers had before. -/
def codes (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8)
    (f6 : BufTy.Contents (Elt F) M6.view.ty) (f8 : BufTy.Contents (Elt F) M8.view.ty) (f9 : BufTy.Contents (Elt F) M9.view.ty) (f10 : BufTy.Contents (Elt F) M10.view.ty) (f11 : BufTy.Contents (Elt F) M11.view.ty) : Vec F S1x256x3072 .i8 :=
  View.read (Elt F) M6.view (M6.view.writes (Elt F) f6 (pb_k0_t1 (F := F) 𝒱₀ c none i M2 h2 M3 h3 M4 h4 M5 h5 M6 h6 M7 h7 M8 h8 M9 h9 M10 h10 M11 h11 (h2.unread x2) (h3.unread x3) (h4.unread x4) f6 f8 f9 f10 f11 k0_t1_loop.trips).1)

/-- `A` and `C` are maxima and codes the loop may leave: those over SOME earlier contents of the buffers. -/
def Leaves (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8) (A : Vec F S192x256 .f32) (C : Vec F S1x256x3072 .i8) : Prop :=
  ∃ f6 f8 f9 f10 f11, A = maxima c i M2 h2 M3 h3 M4 h4 M5 h5 M6 h6 M7 h7 M8 h8 M9 h9 M10 h10 M11 h11 x2 x3 x4 f6 f8 f9 f10 f11 ∧ C = codes c i M2 h2 M3 h3 M4 h4 M5 h5 M6 h6 M7 h7 M8 h8 M9 h9 M10 h10 M11 h11 x2 x3 x4 f6 f8 f9 f10 f11

theorem hz2 : (![0, 0] : Fin 2 → Nat) = fun _ => 0 := funext fun a => by fin_cases a <;> rfl
theorem hz3 : (![0, 0, 0] : Fin 3 → Nat) = fun _ => 0 := funext fun a => by fin_cases a <;> rfl

/-! ## The kernel body on any staging memrefs -/

/-- On whole memrefs, the three inputs' at `x2 x3 x4` and every other at anything, the body runs to the continuation
    holding the inputs as they were and the three results at what the loop leaves. -/
theorem kernelRun (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8) (E : Set ℕ) (K : PUnit → sProp 𝕄) :
    iprop(owns (c : Thread nD τ) M2 fullShare x2 ∗ owns (c : Thread nD τ) M3 fullShare x3 ∗ owns (c : Thread nD τ) M4 fullShare x4 ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)
        ∗ (iprop(owns (c : Thread nD τ) M2 fullShare x2 ∗ owns (c : Thread nD τ) M3 fullShare x3 ∗ owns (c : Thread nD τ) M4 fullShare x4 ∗ (∃ A C, ⌜Leaves c i M2 h2 M3 h3 M4 h4 M5 h5 M6 h6 M7 h7 M8 h8 M9 h9 M10 h10 M11 h11 x2 x3 x4 A C⌝ ∗ owns (c : Thread nD τ) M5 fullShare (k0_pay408 A) ∗ owns (c : Thread nD τ) M6 fullShare C ∗ owns (c : Thread nD τ) M7 fullShare (scaleOf A)) ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)) -∗ K ⟨⟩))
      ⊢ wp frame (wpE (defs₀ (F := F)) 𝒱₀ c none) E (cc0_rht_mxfp4 i M2 h2 M3 h3 M4 h4 M5 h5 M6 h6 M7 h7 M8 h8 M9 h9 M10 h10 M11 h11) K := by
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := h2.eq_unread hf2; obtain rfl := h3.eq_unread hf3; obtain rfl := h4.eq_unread hf4
  sl_unfold [cc0_rht_mxfp4]
  sl_exec!
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5 H6 H7]
  · iexists (maxima c i M2 h2 M3 h3 M4 h4 M5 h5 M6 h6 M7 h7 M8 h8 M9 h9 M10 h10 M11 h11 x2 x3 x4 f6 f8 f9 f10 f11); iexists (codes c i M2 h2 M3 h3 M4 h4 M5 h5 M6 h6 M7 h7 M8 h8 M9 h9 M10 h10 M11 h11 x2 x3 x4 f6 f8 f9 f10 f11)
    isplitr
    · ipureintro; exact ⟨_, _, _, _, _, rfl, rfl⟩
    isplitl [H5]
    · iexists _; isplitr; swap; · iexact H5
      ipureintro; sl_unfold_words
      rw [View.read_writes_junk_eq_canon, View.canon_unit_zero (S := S1x256x192) hz3]; rfl
    isplitl [H6]
    · iexists _; isplitr; swap; · iexact H6
      ipureintro; rfl
    iexists _; isplitr; swap; · iexact H7
    ipureintro; sl_unfold_words
    rw [View.read_writes_junk_eq_canon, View.canon_unit_zero (S := S1x256x192) hz3]; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  iexists _; iexists _; isplitr; swap; · iexact H11
  ipureintro; rfl

/-! ## The memrefs at a point -/

abbrev ms0 (t : Fin cfg0.N) : Memref sig .tc .vmem S1x6144x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x6144 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x3072 .i8 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x192 .i8 := win0_5.stage (cfg0.slots t 5)
abbrev hs5 (t : Fin cfg0.N) : (ms5 t).IsWhole := hstage0_5 ((cfg0.slots t 5).cast nbuf0_5)
abbrev sc0 : Memref sig .tc .vmem S256x256 .f32 := Memref.whole cc0_scratch0
abbrev hsc0 : (sc0).IsWhole := Memref.isWhole_whole _
abbrev sc1 : Memref sig .tc .vmem S128x128 .f32 := Memref.whole cc0_scratch1
abbrev hsc1 : (sc1).IsWhole := Memref.isWhole_whole _
abbrev sc2 : Memref sig .tc .vmem S2x8x128 .f32 := Memref.whole cc0_scratch2
abbrev hsc2 : (sc2).IsWhole := Memref.isWhole_whole _
abbrev sc3 : Memref sig .tc .vmem S192x256 .f32 := Memref.whole cc0_scratch3
abbrev hsc3 : (sc3).IsWhole := Memref.isWhole_whole _

/-- The class invariant opened: the four scratch buffers, each at some contents, and the generator register. -/
theorem PhiA_eq (c : Dev nD) :
    (Pipeline.ΦA (U := UR sig nD τ) (Val := Elt F) spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ ∃ r, prngReg c r) := by
  unfold Pipeline.ΦA; rw [scopedRest0_eq]; simp only [sc0, sc1, sc2, sc3, owns_whole]; try rfl

/-- What the loop may leave at point `t` of the grid, from the point's three input blocks. -/
def LeavesAt (c : Dev nD) (t : Fin cfg0.N) (A : Vec F S192x256 .f32) (C : Vec F S1x256x3072 .i8) : Prop :=
  Leaves c (grid0.coords t) (ms0 t) (hs0 t) (ms1 t) (hs1 t) (ms2 t) (hs2 t) (ms3 t) (hs3 t) (ms4 t) (hs4 t) (ms5 t) (hs5 t) sc0 hsc0 sc1 hsc1 sc2 hsc2 sc3 hsc3 (iblk m c 0 t) (iblk m c 1 t) (iblk m c 2 t) A C

/-! ## The pipeline's proof data, the results' contents not described -/

/-- The arrays as the region finds them; after the body each input's buffer at its block; the results' not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

/-- The windows whose contents the frame does not describe: the three results. -/
def fgt (w : Fin cfg0.W) : Bool := match w with
  | ⟨0, _⟩ => false | ⟨1, _⟩ => false | ⟨2, _⟩ => false | ⟨3, _⟩ => true | ⟨4, _⟩ => true | ⟨5, _⟩ => true

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body obligation, the results forgotten: `kernelRun` at the point's memrefs and blocks. -/
theorem body_obligation (c : Dev nD) : BodyObligation (dats (F := F) m 0 c) (defs₀ (F := F)) 𝒱₀ () Set.univ fgt := fun t => by
  rw [bigSep_W0, bigSep_W0]
  sl_whnfR [defs₀, Defs.onTc]
  simp only [fgt, before0_0, before0_1, before0_2]
  rw [show (dats m 0 c).Φ t.succ = (dats m 0 c).Φ t.castSucc from rfl,
    show (dats m 0 c).owesAt () t.succ = (dats m 0 c).owesAt () t.castSucc from rfl, after0_0, after0_1, after0_2,
    show (dats m 0 c).Φ t.castSucc = Pipeline.ΦA spec0 c from rfl, PhiA_eq]
  iintro ⟨⟨⟨HS0, HS1, HS2, HS3⟩, Hr⟩, Ho, ⟨%d0, H0⟩, ⟨%d1, H1⟩, ⟨%d2, H2⟩, H3, H4, H5⟩
  iapply (kernelRun c (grid0.coords t) (ms0 t) (hs0 t) (ms1 t) (hs1 t) (ms2 t) (hs2 t) (ms3 t) (hs3 t) (ms4 t) (hs4 t) (ms5 t) (hs5 t) sc0 hsc0 sc1 hsc1 sc2 hsc2 sc3 hsc3 (iblk m c 0 t) (iblk m c 1 t) (iblk m c 2 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, ⟨%A, %C, -, H3, H4, H5⟩, HS0, HS1, HS2, HS3⟩
  isplitl [HS0 HS1 HS2 HS3 Hr]
  · isplitl [HS0 HS1 HS2 HS3]
    · isplitl [HS0]; · iexact HS0
      isplitl [HS1]; · iexact HS1
      isplitl [HS2]; · iexact HS2
      iexact HS3
    iexact Hr
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

-- `θ_run_frame_forget`'s implicit arguments are found by unifying its conclusion with this one, which takes unfolding
-- plain definitions in a metavariable's type
set_option backward.isDefEq.respectTransparency.types false in
/-- From any memory with zero counters every execution terminates, with the input arrays as they were, every buffer no
    window stages as it was at the region's entry, and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every execution terminates with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((congrFun (((dats m 0 c).toRForget fgt).ArrAt_in 0 rfl _) _).mp ((h.1 c).1 0)).trans (V_main_arg0 m c),
      ((h.1 c).2 main_arg1 (Pipeline.mem_restRefs_of main_arg1 (by decide) (by decide))).trans (V_main_arg1 m c),
      ((congrFun (((dats m 0 c).toRForget fgt).ArrAt_in 2 rfl _) _).mp ((h.1 c).1 2)).trans (V_main_arg2 m c)⟩, h.2⟩) (run_main m ρ)

end Cert.Proof.KernelRun

end
-- ==== Proof.KernelIdealRun.lean ====
/-
  The run of the kernel under the ideal reading: what its body does on any staging memrefs (`kernelRun`, the counted loop gone through by the
  generated invariant), and the frame (`frame`): from any memory every execution terminates with the arguments as launched.
  Everything is stated at any instance of the floating-point operations.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.Pipeline.Value
public import Idealize.ShloMosaic.PureOps.BitExact

@[expose] public section

noncomputable section

namespace Cert.Proof.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

/-- The loop's invariant is the generated one; no wait needs a variant of its own. -/
abbrev 𝒱₀ : Variants := Variants.none

variable (m : (ℓ : Loc nD τ sig) → Buf (Elt F) ℓ) (ρ : Dev nD → PrngReg)

/-! ## What the loop leaves -/

/-- The scale bytes of a block, from the transposed maxima `A`: the kernel's operations after its loop. -/
def scaleOf (A : Vec F S192x256 .f32) : Vec F S1x256x192 .i8 :=
  k0_pay1 (k0_pay411 (k0_pay407 A) (k0_pay409 A) (k0_pay410 A)) (k0_pay412 (k0_pay407 A))

/-- The transposed maxima the loop leaves in the scratch `M11`, over the contents the buffers had before. -/
def maxima (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8)
    (f6 : BufTy.Contents (Elt F) M6.view.ty) (f8 : BufTy.Contents (Elt F) M8.view.ty) (f9 : BufTy.Contents (Elt F) M9.view.ty) (f10 : BufTy.Contents (Elt F) M10.view.ty) (f11 : BufTy.Contents (Elt F) M11.view.ty) : Vec F S192x256 .f32 :=
  M11.view.readAt (Elt F) (Rect.unit (s := S192x256) ![0, 0] S192x256.size inb_S192x256_S192x256_0_0).toLoadRect
    (M11.view.writes (Elt F) f11 (pb_k0_t1 (F := F) 𝒱₀ c none i M2 h2 M3 h3 M4 h4 M5 h5 M6 h6 M7 h7 M8 h8 M9 h9 M10 h10 M11 h11 (h2.unread x2) (h3.unread x3) (h4.unread x4) f6 f8 f9 f10 f11 k0_t1_loop.trips).2.2.2.2)

/-- The code bytes the loop leaves in the result block `M6`, over the contents the buffers had before. -/
def codes (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8)
    (f6 : BufTy.Contents (Elt F) M6.view.ty) (f8 : BufTy.Contents (Elt F) M8.view.ty) (f9 : BufTy.Contents (Elt F) M9.view.ty) (f10 : BufTy.Contents (Elt F) M10.view.ty) (f11 : BufTy.Contents (Elt F) M11.view.ty) : Vec F S1x256x3072 .i8 :=
  View.read (Elt F) M6.view (M6.view.writes (Elt F) f6 (pb_k0_t1 (F := F) 𝒱₀ c none i M2 h2 M3 h3 M4 h4 M5 h5 M6 h6 M7 h7 M8 h8 M9 h9 M10 h10 M11 h11 (h2.unread x2) (h3.unread x3) (h4.unread x4) f6 f8 f9 f10 f11 k0_t1_loop.trips).1)

/-- `A` and `C` are maxima and codes the loop may leave: those over SOME earlier contents of the buffers. -/
def Leaves (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8) (A : Vec F S192x256 .f32) (C : Vec F S1x256x3072 .i8) : Prop :=
  ∃ f6 f8 f9 f10 f11, A = maxima c i M2 h2 M3 h3 M4 h4 M5 h5 M6 h6 M7 h7 M8 h8 M9 h9 M10 h10 M11 h11 x2 x3 x4 f6 f8 f9 f10 f11 ∧ C = codes c i M2 h2 M3 h3 M4 h4 M5 h5 M6 h6 M7 h7 M8 h8 M9 h9 M10 h10 M11 h11 x2 x3 x4 f6 f8 f9 f10 f11

theorem hz2 : (![0, 0] : Fin 2 → Nat) = fun _ => 0 := funext fun a => by fin_cases a <;> rfl
theorem hz3 : (![0, 0, 0] : Fin 3 → Nat) = fun _ => 0 := funext fun a => by fin_cases a <;> rfl

/-! ## The kernel body on any staging memrefs -/

/-- On whole memrefs, the three inputs' at `x2 x3 x4` and every other at anything, the body runs to the continuation
    holding the inputs as they were and the three results at what the loop leaves. -/
theorem kernelRun (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole) (x2 : Vec F S1x6144x256 .bf16) (x3 : Vec F S256x256 .bf16) (x4 : Vec F S1x256x6144 .i8) (E : Set ℕ) (K : PUnit → sProp 𝕄) :
    iprop(owns (c : Thread nD τ) M2 fullShare x2 ∗ owns (c : Thread nD τ) M3 fullShare x3 ∗ owns (c : Thread nD τ) M4 fullShare x4 ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)
        ∗ (iprop(owns (c : Thread nD τ) M2 fullShare x2 ∗ owns (c : Thread nD τ) M3 fullShare x3 ∗ owns (c : Thread nD τ) M4 fullShare x4 ∗ (∃ A C, ⌜Leaves c i M2 h2 M3 h3 M4 h4 M5 h5 M6 h6 M7 h7 M8 h8 M9 h9 M10 h10 M11 h11 x2 x3 x4 A C⌝ ∗ owns (c : Thread nD τ) M5 fullShare (k0_pay408 A) ∗ owns (c : Thread nD τ) M6 fullShare C ∗ owns (c : Thread nD τ) M7 fullShare (scaleOf A)) ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)) -∗ K ⟨⟩))
      ⊢ wp frame (wpE (defs₀ (F := F)) 𝒱₀ c none) E (cc0_rht_mxfp4 i M2 h2 M3 h3 M4 h4 M5 h5 M6 h6 M7 h7 M8 h8 M9 h9 M10 h10 M11 h11) K := by
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := h2.eq_unread hf2; obtain rfl := h3.eq_unread hf3; obtain rfl := h4.eq_unread hf4
  sl_unfold [cc0_rht_mxfp4]
  sl_exec!
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5 H6 H7]
  · iexists (maxima c i M2 h2 M3 h3 M4 h4 M5 h5 M6 h6 M7 h7 M8 h8 M9 h9 M10 h10 M11 h11 x2 x3 x4 f6 f8 f9 f10 f11); iexists (codes c i M2 h2 M3 h3 M4 h4 M5 h5 M6 h6 M7 h7 M8 h8 M9 h9 M10 h10 M11 h11 x2 x3 x4 f6 f8 f9 f10 f11)
    isplitr
    · ipureintro; exact ⟨_, _, _, _, _, rfl, rfl⟩
    isplitl [H5]
    · iexists _; isplitr; swap; · iexact H5
      ipureintro; sl_unfold_words
      rw [View.read_writes_junk_eq_canon, View.canon_unit_zero (S := S1x256x192) hz3]; rfl
    isplitl [H6]
    · iexists _; isplitr; swap; · iexact H6
      ipureintro; rfl
    iexists _; isplitr; swap; · iexact H7
    ipureintro; sl_unfold_words
    rw [View.read_writes_junk_eq_canon, View.canon_unit_zero (S := S1x256x192) hz3]; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  iexists _; iexists _; isplitr; swap; · iexact H11
  ipureintro; rfl

/-! ## The memrefs at a point -/

abbrev ms0 (t : Fin cfg0.N) : Memref sig .tc .vmem S1x6144x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x6144 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x3072 .i8 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x192 .i8 := win0_5.stage (cfg0.slots t 5)
abbrev hs5 (t : Fin cfg0.N) : (ms5 t).IsWhole := hstage0_5 ((cfg0.slots t 5).cast nbuf0_5)
abbrev sc0 : Memref sig .tc .vmem S256x256 .f32 := Memref.whole cc0_scratch0
abbrev hsc0 : (sc0).IsWhole := Memref.isWhole_whole _
abbrev sc1 : Memref sig .tc .vmem S128x128 .f32 := Memref.whole cc0_scratch1
abbrev hsc1 : (sc1).IsWhole := Memref.isWhole_whole _
abbrev sc2 : Memref sig .tc .vmem S2x8x128 .f32 := Memref.whole cc0_scratch2
abbrev hsc2 : (sc2).IsWhole := Memref.isWhole_whole _
abbrev sc3 : Memref sig .tc .vmem S192x256 .f32 := Memref.whole cc0_scratch3
abbrev hsc3 : (sc3).IsWhole := Memref.isWhole_whole _

/-- The class invariant opened: the four scratch buffers, each at some contents, and the generator register. -/
theorem PhiA_eq (c : Dev nD) :
    (Pipeline.ΦA (U := UR sig nD τ) (Val := Elt F) spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ ∃ r, prngReg c r) := by
  unfold Pipeline.ΦA; rw [scopedRest0_eq]; simp only [sc0, sc1, sc2, sc3, owns_whole]; try rfl

/-- What the loop may leave at point `t` of the grid, from the point's three input blocks. -/
def LeavesAt (c : Dev nD) (t : Fin cfg0.N) (A : Vec F S192x256 .f32) (C : Vec F S1x256x3072 .i8) : Prop :=
  Leaves c (grid0.coords t) (ms0 t) (hs0 t) (ms1 t) (hs1 t) (ms2 t) (hs2 t) (ms3 t) (hs3 t) (ms4 t) (hs4 t) (ms5 t) (hs5 t) sc0 hsc0 sc1 hsc1 sc2 hsc2 sc3 hsc3 (iblk m c 0 t) (iblk m c 1 t) (iblk m c 2 t) A C

/-! ## The pipeline's proof data, the results' contents not described -/

/-- The arrays as the region finds them; after the body each input's buffer at its block; the results' not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

/-- The windows whose contents the frame does not describe: the three results. -/
def fgt (w : Fin cfg0.W) : Bool := match w with
  | ⟨0, _⟩ => false | ⟨1, _⟩ => false | ⟨2, _⟩ => false | ⟨3, _⟩ => true | ⟨4, _⟩ => true | ⟨5, _⟩ => true

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body obligation, the results forgotten: `kernelRun` at the point's memrefs and blocks. -/
theorem body_obligation (c : Dev nD) : BodyObligation (dats (F := F) m 0 c) (defs₀ (F := F)) 𝒱₀ () Set.univ fgt := fun t => by
  rw [bigSep_W0, bigSep_W0]
  sl_whnfR [defs₀, Defs.onTc]
  simp only [fgt, before0_0, before0_1, before0_2]
  rw [show (dats m 0 c).Φ t.succ = (dats m 0 c).Φ t.castSucc from rfl,
    show (dats m 0 c).owesAt () t.succ = (dats m 0 c).owesAt () t.castSucc from rfl, after0_0, after0_1, after0_2,
    show (dats m 0 c).Φ t.castSucc = Pipeline.ΦA spec0 c from rfl, PhiA_eq]
  iintro ⟨⟨⟨HS0, HS1, HS2, HS3⟩, Hr⟩, Ho, ⟨%d0, H0⟩, ⟨%d1, H1⟩, ⟨%d2, H2⟩, H3, H4, H5⟩
  iapply (kernelRun c (grid0.coords t) (ms0 t) (hs0 t) (ms1 t) (hs1 t) (ms2 t) (hs2 t) (ms3 t) (hs3 t) (ms4 t) (hs4 t) (ms5 t) (hs5 t) sc0 hsc0 sc1 hsc1 sc2 hsc2 sc3 hsc3 (iblk m c 0 t) (iblk m c 1 t) (iblk m c 2 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, ⟨%A, %C, -, H3, H4, H5⟩, HS0, HS1, HS2, HS3⟩
  isplitl [HS0 HS1 HS2 HS3 Hr]
  · isplitl [HS0 HS1 HS2 HS3]
    · isplitl [HS0]; · iexact HS0
      isplitl [HS1]; · iexact HS1
      isplitl [HS2]; · iexact HS2
      iexact HS3
    iexact Hr
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

-- `θ_run_frame_forget`'s implicit arguments are found by unifying its conclusion with this one, which takes unfolding
-- plain definitions in a metavariable's type
set_option backward.isDefEq.respectTransparency.types false in
/-- From any memory with zero counters every execution terminates, with the input arrays as they were, every buffer no
    window stages as it was at the region's entry, and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every execution terminates with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((congrFun (((dats m 0 c).toRForget fgt).ArrAt_in 0 rfl _) _).mp ((h.1 c).1 0)).trans (V_main_arg0 m c),
      ((h.1 c).2 main_arg1 (Pipeline.mem_restRefs_of main_arg1 (by decide) (by decide))).trans (V_main_arg1 m c),
      ((congrFun (((dats m 0 c).toRForget fgt).ArrAt_in 2 rfl _) _).mp ((h.1 c).1 2)).trans (V_main_arg2 m c)⟩, h.2⟩) (run_main m ρ)

end Cert.Proof.KernelIdealRun

end
-- ==== Proof.Weights.lean ====
/-
  One trip of the kernel's loop, the block maxima.  `W` is the product the trip stores in its first scratch: 256 rows of
  tokens by 256 channels.  Row `32·g + 8·b + s` holds token `32·g + 4·s + b` of the tile.  Everything the trip later loads
  is a window of `W`, of the maxima taken over it, or of the reciprocals made from them.
-/
module

public import proofs.«01_k».proof.Proof.KernelIdealRun
public import Idealize.ShloMosaic.Lib.ValueIdx
public import Idealize.ShloMosaic.Lib.Pointwise
public import Idealize.ShloMosaic.Lib.Pipeline.ReadBack
public import Idealize.ShloMosaic.Lib.WritesUnit

@[expose] public section

noncomputable section

namespace Cert.Proof.Weights

open Cert.KernelIdeal Cert.KernelIdeal.Gen
open Idealize.ShloMosaic Idealize.ShloMosaic.TcCoe

variable {F : FTy → Type} [FloatOps F]

/-- The element of a 256 by 256 tile at row `r`, column `c`. -/
def wAt (W : S256x256.Idx → F .f32) (r c : ℕ) : F .f32 := W (ValueIdx.ix2 (Fin.ofNat 256 r) (Fin.ofNat 256 c))

/-- The largest magnitude of four numbers, as the kernel takes it. -/
def max4 (a b c d : F .f32) : F .f32 :=
  FloatOps.maximumf (FloatOps.maximumf (FloatOps.absf a) (FloatOps.absf b)) (FloatOps.maximumf (FloatOps.absf c) (FloatOps.absf d))

/-- The largest of eight numbers, as the kernel takes it. -/
def max8 (a0 a1 a2 a3 a4 a5 a6 a7 : F .f32) : F .f32 :=
  FloatOps.maximumf (FloatOps.maximumf (FloatOps.maximumf (FloatOps.maximumf (FloatOps.maximumf (FloatOps.maximumf
    (FloatOps.maximumf a0 a1) a2) a3) a4) a5) a6) a7

/-- The largest magnitude of the four tokens `32·g + 4·s + b` of channel `c`. -/
def partMax (W : S256x256.Idx → F .f32) (g s c : ℕ) : F .f32 :=
  max4 (wAt W (32 * g + s) c) (wAt W (32 * g + 8 + s) c) (wAt W (32 * g + 16 + s) c) (wAt W (32 * g + 24 + s) c)

/-- The largest magnitude of the block `g` of 32 tokens of channel `c`. -/
def blockMax (W : S256x256.Idx → F .f32) (g c : ℕ) : F .f32 :=
  max8 (partMax W g 0 c) (partMax W g 1 c) (partMax W g 2 c) (partMax W g 3 c) (partMax W g 4 c) (partMax W g 5 c)
    (partMax W g 6 c) (partMax W g 7 c)

variable (arg2 : Memref sig .tc .vmem S1x6144x256 .bf16) (arg3 : Memref sig .tc .vmem S256x256 .bf16)
  (arg8 : Memref sig .tc .vmem S256x256 .f32) (arg9 : Memref sig .tc .vmem S128x128 .f32)
  (arg10 : Memref sig .tc .vmem S2x8x128 .f32)
  (X_arg2 : BufTy.Contents (Elt F) arg2.view.ty) (X_arg3 : BufTy.Contents (Elt F) arg3.view.ty) (k : Fin k0_t1_loop.trips)

/-- The product of the trip. -/
def tileW : S256x256.Idx → F .f32 :=
  k0_pay2 (View.readAt (Elt F) arg3.view (Rect.unit ![0, 0] S256x256.size inb_S256x256_S256x256_0_0).toLoadRect X_arg3)
    (View.readAt (Elt F) arg2.view (Rect.unit (s := S1x6144x256) (k0_off1 k) S1x256x256.size (k0_off1_inb k)).toLoadRect X_arg2)

theorem hw8 : trip_k0_t1.sl.HW_arg8_1 arg2 arg3 X_arg2 X_arg3 k
    = [⟨Rect.unit ![0, 0] S256x256.size inb_S256x256_S256x256_0_0, tileW arg2 arg3 X_arg2 X_arg3 k⟩] := rfl

/-- A load of 8 rows of 128 from the product's scratch reads the product there. -/
theorem vload (r c : ℕ) (inb : ∀ a, (![r, c] : Fin 2 → ℕ) a + S8x128.size a ≤ S256x256.size a) (x : S8x128.Idx) :
    arg8.view.readCov (trip_k0_t1.sl.HW_arg8_1 arg2 arg3 X_arg2 X_arg3 k) (Rect.unit (s := S256x256) ![r, c] S8x128.size inb).toLoadRect x
      = wAt (tileW arg2 arg3 X_arg2 X_arg3 k) (r + (x 0).val) (c + (x 1).val) := by
  rw [hw8, View.readCov_fill _ _ _ _ _ (by intro a; fin_cases a <;> rfl)]
  show tileW arg2 arg3 X_arg2 X_arg3 k _ = tileW arg2 arg3 X_arg2 X_arg3 k _
  congr 1
  have h0 := inb 0
  have h1 := inb 1
  have hx0 : (x 0).val < 8 := (x 0).isLt
  have hx1 : (x 1).val < 128 := (x 1).isLt
  refine Shape.idx_ext₂ ?_ ?_
  · show r + 1 * (x 0).val = (r + (x 0).val) % 256
    have : r + 8 ≤ 256 := h0
    omega
  · show c + 1 * (x 1).val = (c + (x 1).val) % 256
    have : c + 128 ≤ 256 := h1
    omega

/-! The loads of the product, each by the name the trip gives it. -/

theorem v100_eq (x : S8x128.Idx) : trip_k0_t1.sl.v100 arg2 arg3 arg8 X_arg2 X_arg3 k x
    = wAt (tileW arg2 arg3 X_arg2 X_arg3 k) (0 + (x 0).val) (0 + (x 1).val) := vload arg2 arg3 arg8 X_arg2 X_arg3 k 0 0 inb_S256x256_S8x128_0_0 x
theorem v102_eq (x : S8x128.Idx) : trip_k0_t1.sl.v102 arg2 arg3 arg8 X_arg2 X_arg3 k x
    = wAt (tileW arg2 arg3 X_arg2 X_arg3 k) (8 + (x 0).val) (0 + (x 1).val) := vload arg2 arg3 arg8 X_arg2 X_arg3 k 8 0 inb_S256x256_S8x128_8_0 x
theorem v104_eq (x : S8x128.Idx) : trip_k0_t1.sl.v104 arg2 arg3 arg8 X_arg2 X_arg3 k x
    = wAt (tileW arg2 arg3 X_arg2 X_arg3 k) (16 + (x 0).val) (0 + (x 1).val) := vload arg2 arg3 arg8 X_arg2 X_arg3 k 16 0 inb_S256x256_S8x128_16_0 x
theorem v106_eq (x : S8x128.Idx) : trip_k0_t1.sl.v106 arg2 arg3 arg8 X_arg2 X_arg3 k x
    = wAt (tileW arg2 arg3 X_arg2 X_arg3 k) (24 + (x 0).val) (0 + (x 1).val) := vload arg2 arg3 arg8 X_arg2 X_arg3 k 24 0 inb_S256x256_S8x128_24_0 x
theorem v114_eq (x : S8x128.Idx) : trip_k0_t1.sl.v114 arg2 arg3 arg8 X_arg2 X_arg3 k x
    = wAt (tileW arg2 arg3 X_arg2 X_arg3 k) (32 + (x 0).val) (0 + (x 1).val) := vload arg2 arg3 arg8 X_arg2 X_arg3 k 32 0 inb_S256x256_S8x128_32_0 x
theorem v116_eq (x : S8x128.Idx) : trip_k0_t1.sl.v116 arg2 arg3 arg8 X_arg2 X_arg3 k x
    = wAt (tileW arg2 arg3 X_arg2 X_arg3 k) (40 + (x 0).val) (0 + (x 1).val) := vload arg2 arg3 arg8 X_arg2 X_arg3 k 40 0 inb_S256x256_S8x128_40_0 x
theorem v118_eq (x : S8x128.Idx) : trip_k0_t1.sl.v118 arg2 arg3 arg8 X_arg2 X_arg3 k x
    = wAt (tileW arg2 arg3 X_arg2 X_arg3 k) (48 + (x 0).val) (0 + (x 1).val) := vload arg2 arg3 arg8 X_arg2 X_arg3 k 48 0 inb_S256x256_S8x128_48_0 x
theorem v120_eq (x : S8x128.Idx) : trip_k0_t1.sl.v120 arg2 arg3 arg8 X_arg2 X_arg3 k x
    = wAt (tileW arg2 arg3 X_arg2 X_arg3 k) (56 + (x 0).val) (0 + (x 1).val) := vload arg2 arg3 arg8 X_arg2 X_arg3 k 56 0 inb_S256x256_S8x128_56_0 x
theorem v128_eq (x : S8x128.Idx) : trip_k0_t1.sl.v128 arg2 arg3 arg8 X_arg2 X_arg3 k x
    = wAt (tileW arg2 arg3 X_arg2 X_arg3 k) (64 + (x 0).val) (0 + (x 1).val) := vload arg2 arg3 arg8 X_arg2 X_arg3 k 64 0 inb_S256x256_S8x128_64_0 x
theorem v130_eq (x : S8x128.Idx) : trip_k0_t1.sl.v130 arg2 arg3 arg8 X_arg2 X_arg3 k x
    = wAt (tileW arg2 arg3 X_arg2 X_arg3 k) (72 + (x 0).val) (0 + (x 1).val) := vload arg2 arg3 arg8 X_arg2 X_arg3 k 72 0 inb_S256x256_S8x128_72_0 x
theorem v132_eq (x : S8x128.Idx) : trip_k0_t1.sl.v132 arg2 arg3 arg8 X_arg2 X_arg3 k x
    = wAt (tileW arg2 arg3 X_arg2 X_arg3 k) (80 + (x 0).val) (0 + (x 1).val) := vload arg2 arg3 arg8 X_arg2 X_arg3 k 80 0 inb_S256x256_S8x128_80_0 x
theorem v134_eq (x : S8x128.Idx) : trip_k0_t1.sl.v134 arg2 arg3 arg8 X_arg2 X_arg3 k x
    = wAt (tileW arg2 arg3 X_arg2 X_arg3 k) (88 + (x 0).val) (0 + (x 1).val) := vload arg2 arg3 arg8 X_arg2 X_arg3 k 88 0 inb_S256x256_S8x128_88_0 x
theorem v142_eq (x : S8x128.Idx) : trip_k0_t1.sl.v142 arg2 arg3 arg8 X_arg2 X_arg3 k x
    = wAt (tileW arg2 arg3 X_arg2 X_arg3 k) (96 + (x 0).val) (0 + (x 1).val) := vload arg2 arg3 arg8 X_arg2 X_arg3 k 96 0 inb_S256x256_S8x128_96_0 x
theorem v144_eq (x : S8x128.Idx) : trip_k0_t1.sl.v144 arg2 arg3 arg8 X_arg2 X_arg3 k x
    = wAt (tileW arg2 arg3 X_arg2 X_arg3 k) (104 + (x 0).val) (0 + (x 1).val) := vload arg2 arg3 arg8 X_arg2 X_arg3 k 104 0 inb_S256x256_S8x128_104_0 x
theorem v146_eq (x : S8x128.Idx) : trip_k0_t1.sl.v146 arg2 arg3 arg8 X_arg2 X_arg3 k x
    = wAt (tileW arg2 arg3 X_arg2 X_arg3 k) (112 + (x 0).val) (0 + (x 1).val) := vload arg2 arg3 arg8 X_arg2 X_arg3 k 112 0 inb_S256x256_S8x128_112_0 x
theorem v148_eq (x : S8x128.Idx) : trip_k0_t1.sl.v148 arg2 arg3 arg8 X_arg2 X_arg3 k x
    = wAt (tileW arg2 arg3 X_arg2 X_arg3 k) (120 + (x 0).val) (0 + (x 1).val) := vload arg2 arg3 arg8 X_arg2 X_arg3 k 120 0 inb_S256x256_S8x128_120_0 x
theorem v156_eq (x : S8x128.Idx) : trip_k0_t1.sl.v156 arg2 arg3 arg8 X_arg2 X_arg3 k x
    = wAt (tileW arg2 arg3 X_arg2 X_arg3 k) (128 + (x 0).val) (0 + (x 1).val) := vload arg2 arg3 arg8 X_arg2 X_arg3 k 128 0 inb_S256x256_S8x128_128_0 x
theorem v158_eq (x : S8x128.Idx) : trip_k0_t1.sl.v158 arg2 arg3 arg8 X_arg2 X_arg3 k x
    = wAt (tileW arg2 arg3 X_arg2 X_arg3 k) (136 + (x 0).val) (0 + (x 1).val) := vload arg2 arg3 arg8 X_arg2 X_arg3 k 136 0 inb_S256x256_S8x128_136_0 x
theorem v160_eq (x : S8x128.Idx) : trip_k0_t1.sl.v160 arg2 arg3 arg8 X_arg2 X_arg3 k x
    = wAt (tileW arg2 arg3 X_arg2 X_arg3 k) (144 + (x 0).val) (0 + (x 1).val) := vload arg2 arg3 arg8 X_arg2 X_arg3 k 144 0 inb_S256x256_S8x128_144_0 x
theorem v162_eq (x : S8x128.Idx) : trip_k0_t1.sl.v162 arg2 arg3 arg8 X_arg2 X_arg3 k x
    = wAt (tileW arg2 arg3 X_arg2 X_arg3 k) (152 + (x 0).val) (0 + (x 1).val) := vload arg2 arg3 arg8 X_arg2 X_arg3 k 152 0 inb_S256x256_S8x128_152_0 x
theorem v170_eq (x : S8x128.Idx) : trip_k0_t1.sl.v170 arg2 arg3 arg8 X_arg2 X_arg3 k x
    = wAt (tileW arg2 arg3 X_arg2 X_arg3 k) (160 + (x 0).val) (0 + (x 1).val) := vload arg2 arg3 arg8 X_arg2 X_arg3 k 160 0 inb_S256x256_S8x128_160_0 x
theorem v172_eq (x : S8x128.Idx) : trip_k0_t1.sl.v172 arg2 arg3 arg8 X_arg2 X_arg3 k x
    = wAt (tileW arg2 arg3 X_arg2 X_arg3 k) (168 + (x 0).val) (0 + (x 1).val) := vload arg2 arg3 arg8 X_arg2 X_arg3 k 168 0 inb_S256x256_S8x128_168_0 x
theorem v174_eq (x : S8x128.Idx) : trip_k0_t1.sl.v174 arg2 arg3 arg8 X_arg2 X_arg3 k x
    = wAt (tileW arg2 arg3 X_arg2 X_arg3 k) (176 + (x 0).val) (0 + (x 1).val) := vload arg2 arg3 arg8 X_arg2 X_arg3 k 176 0 inb_S256x256_S8x128_176_0 x
theorem v176_eq (x : S8x128.Idx) : trip_k0_t1.sl.v176 arg2 arg3 arg8 X_arg2 X_arg3 k x
    = wAt (tileW arg2 arg3 X_arg2 X_arg3 k) (184 + (x 0).val) (0 + (x 1).val) := vload arg2 arg3 arg8 X_arg2 X_arg3 k 184 0 inb_S256x256_S8x128_184_0 x
theorem v184_eq (x : S8x128.Idx) : trip_k0_t1.sl.v184 arg2 arg3 arg8 X_arg2 X_arg3 k x
    = wAt (tileW arg2 arg3 X_arg2 X_arg3 k) (192 + (x 0).val) (0 + (x 1).val) := vload arg2 arg3 arg8 X_arg2 X_arg3 k 192 0 inb_S256x256_S8x128_192_0 x
theorem v186_eq (x : S8x128.Idx) : trip_k0_t1.sl.v186 arg2 arg3 arg8 X_arg2 X_arg3 k x
    = wAt (tileW arg2 arg3 X_arg2 X_arg3 k) (200 + (x 0).val) (0 + (x 1).val) := vload arg2 arg3 arg8 X_arg2 X_arg3 k 200 0 inb_S256x256_S8x128_200_0 x
theorem v188_eq (x : S8x128.Idx) : trip_k0_t1.sl.v188 arg2 arg3 arg8 X_arg2 X_arg3 k x
    = wAt (tileW arg2 arg3 X_arg2 X_arg3 k) (208 + (x 0).val) (0 + (x 1).val) := vload arg2 arg3 arg8 X_arg2 X_arg3 k 208 0 inb_S256x256_S8x128_208_0 x
theorem v190_eq (x : S8x128.Idx) : trip_k0_t1.sl.v190 arg2 arg3 arg8 X_arg2 X_arg3 k x
    = wAt (tileW arg2 arg3 X_arg2 X_arg3 k) (216 + (x 0).val) (0 + (x 1).val) := vload arg2 arg3 arg8 X_arg2 X_arg3 k 216 0 inb_S256x256_S8x128_216_0 x
theorem v1944_eq (x : S8x128.Idx) : trip_k0_t1.sl.v1944 arg2 arg3 arg8 X_arg2 X_arg3 k x
    = wAt (tileW arg2 arg3 X_arg2 X_arg3 k) (0 + (x 0).val) (128 + (x 1).val) := vload arg2 arg3 arg8 X_arg2 X_arg3 k 0 128 inb_S256x256_S8x128_0_128 x
theorem v1946_eq (x : S8x128.Idx) : trip_k0_t1.sl.v1946 arg2 arg3 arg8 X_arg2 X_arg3 k x
    = wAt (tileW arg2 arg3 X_arg2 X_arg3 k) (8 + (x 0).val) (128 + (x 1).val) := vload arg2 arg3 arg8 X_arg2 X_arg3 k 8 128 inb_S256x256_S8x128_8_128 x
theorem v1948_eq (x : S8x128.Idx) : trip_k0_t1.sl.v1948 arg2 arg3 arg8 X_arg2 X_arg3 k x
    = wAt (tileW arg2 arg3 X_arg2 X_arg3 k) (16 + (x 0).val) (128 + (x 1).val) := vload arg2 arg3 arg8 X_arg2 X_arg3 k 16 128 inb_S256x256_S8x128_16_128 x
theorem v1950_eq (x : S8x128.Idx) : trip_k0_t1.sl.v1950 arg2 arg3 arg8 X_arg2 X_arg3 k x
    = wAt (tileW arg2 arg3 X_arg2 X_arg3 k) (24 + (x 0).val) (128 + (x 1).val) := vload arg2 arg3 arg8 X_arg2 X_arg3 k 24 128 inb_S256x256_S8x128_24_128 x
theorem v1958_eq (x : S8x128.Idx) : trip_k0_t1.sl.v1958 arg2 arg3 arg8 X_arg2 X_arg3 k x
    = wAt (tileW arg2 arg3 X_arg2 X_arg3 k) (32 + (x 0).val) (128 + (x 1).val) := vload arg2 arg3 arg8 X_arg2 X_arg3 k 32 128 inb_S256x256_S8x128_32_128 x
theorem v1960_eq (x : S8x128.Idx) : trip_k0_t1.sl.v1960 arg2 arg3 arg8 X_arg2 X_arg3 k x
    = wAt (tileW arg2 arg3 X_arg2 X_arg3 k) (40 + (x 0).val) (128 + (x 1).val) := vload arg2 arg3 arg8 X_arg2 X_arg3 k 40 128 inb_S256x256_S8x128_40_128 x
theorem v1962_eq (x : S8x128.Idx) : trip_k0_t1.sl.v1962 arg2 arg3 arg8 X_arg2 X_arg3 k x
    = wAt (tileW arg2 arg3 X_arg2 X_arg3 k) (48 + (x 0).val) (128 + (x 1).val) := vload arg2 arg3 arg8 X_arg2 X_arg3 k 48 128 inb_S256x256_S8x128_48_128 x
theorem v1964_eq (x : S8x128.Idx) : trip_k0_t1.sl.v1964 arg2 arg3 arg8 X_arg2 X_arg3 k x
    = wAt (tileW arg2 arg3 X_arg2 X_arg3 k) (56 + (x 0).val) (128 + (x 1).val) := vload arg2 arg3 arg8 X_arg2 X_arg3 k 56 128 inb_S256x256_S8x128_56_128 x
theorem v1972_eq (x : S8x128.Idx) : trip_k0_t1.sl.v1972 arg2 arg3 arg8 X_arg2 X_arg3 k x
    = wAt (tileW arg2 arg3 X_arg2 X_arg3 k) (64 + (x 0).val) (128 + (x 1).val) := vload arg2 arg3 arg8 X_arg2 X_arg3 k 64 128 inb_S256x256_S8x128_64_128 x
theorem v1974_eq (x : S8x128.Idx) : trip_k0_t1.sl.v1974 arg2 arg3 arg8 X_arg2 X_arg3 k x
    = wAt (tileW arg2 arg3 X_arg2 X_arg3 k) (72 + (x 0).val) (128 + (x 1).val) := vload arg2 arg3 arg8 X_arg2 X_arg3 k 72 128 inb_S256x256_S8x128_72_128 x
theorem v1976_eq (x : S8x128.Idx) : trip_k0_t1.sl.v1976 arg2 arg3 arg8 X_arg2 X_arg3 k x
    = wAt (tileW arg2 arg3 X_arg2 X_arg3 k) (80 + (x 0).val) (128 + (x 1).val) := vload arg2 arg3 arg8 X_arg2 X_arg3 k 80 128 inb_S256x256_S8x128_80_128 x
theorem v1978_eq (x : S8x128.Idx) : trip_k0_t1.sl.v1978 arg2 arg3 arg8 X_arg2 X_arg3 k x
    = wAt (tileW arg2 arg3 X_arg2 X_arg3 k) (88 + (x 0).val) (128 + (x 1).val) := vload arg2 arg3 arg8 X_arg2 X_arg3 k 88 128 inb_S256x256_S8x128_88_128 x
theorem v198_eq (x : S8x128.Idx) : trip_k0_t1.sl.v198 arg2 arg3 arg8 X_arg2 X_arg3 k x
    = wAt (tileW arg2 arg3 X_arg2 X_arg3 k) (224 + (x 0).val) (0 + (x 1).val) := vload arg2 arg3 arg8 X_arg2 X_arg3 k 224 0 inb_S256x256_S8x128_224_0 x
theorem v1986_eq (x : S8x128.Idx) : trip_k0_t1.sl.v1986 arg2 arg3 arg8 X_arg2 X_arg3 k x
    = wAt (tileW arg2 arg3 X_arg2 X_arg3 k) (96 + (x 0).val) (128 + (x 1).val) := vload arg2 arg3 arg8 X_arg2 X_arg3 k 96 128 inb_S256x256_S8x128_96_128 x
theorem v1988_eq (x : S8x128.Idx) : trip_k0_t1.sl.v1988 arg2 arg3 arg8 X_arg2 X_arg3 k x
    = wAt (tileW arg2 arg3 X_arg2 X_arg3 k) (104 + (x 0).val) (128 + (x 1).val) := vload arg2 arg3 arg8 X_arg2 X_arg3 k 104 128 inb_S256x256_S8x128_104_128 x
theorem v1990_eq (x : S8x128.Idx) : trip_k0_t1.sl.v1990 arg2 arg3 arg8 X_arg2 X_arg3 k x
    = wAt (tileW arg2 arg3 X_arg2 X_arg3 k) (112 + (x 0).val) (128 + (x 1).val) := vload arg2 arg3 arg8 X_arg2 X_arg3 k 112 128 inb_S256x256_S8x128_112_128 x
theorem v1992_eq (x : S8x128.Idx) : trip_k0_t1.sl.v1992 arg2 arg3 arg8 X_arg2 X_arg3 k x
    = wAt (tileW arg2 arg3 X_arg2 X_arg3 k) (120 + (x 0).val) (128 + (x 1).val) := vload arg2 arg3 arg8 X_arg2 X_arg3 k 120 128 inb_S256x256_S8x128_120_128 x
theorem v200_eq (x : S8x128.Idx) : trip_k0_t1.sl.v200 arg2 arg3 arg8 X_arg2 X_arg3 k x
    = wAt (tileW arg2 arg3 X_arg2 X_arg3 k) (232 + (x 0).val) (0 + (x 1).val) := vload arg2 arg3 arg8 X_arg2 X_arg3 k 232 0 inb_S256x256_S8x128_232_0 x
theorem v2000_eq (x : S8x128.Idx) : trip_k0_t1.sl.v2000 arg2 arg3 arg8 X_arg2 X_arg3 k x
    = wAt (tileW arg2 arg3 X_arg2 X_arg3 k) (128 + (x 0).val) (128 + (x 1).val) := vload arg2 arg3 arg8 X_arg2 X_arg3 k 128 128 inb_S256x256_S8x128_128_128 x
theorem v2002_eq (x : S8x128.Idx) : trip_k0_t1.sl.v2002 arg2 arg3 arg8 X_arg2 X_arg3 k x
    = wAt (tileW arg2 arg3 X_arg2 X_arg3 k) (136 + (x 0).val) (128 + (x 1).val) := vload arg2 arg3 arg8 X_arg2 X_arg3 k 136 128 inb_S256x256_S8x128_136_128 x
theorem v2004_eq (x : S8x128.Idx) : trip_k0_t1.sl.v2004 arg2 arg3 arg8 X_arg2 X_arg3 k x
    = wAt (tileW arg2 arg3 X_arg2 X_arg3 k) (144 + (x 0).val) (128 + (x 1).val) := vload arg2 arg3 arg8 X_arg2 X_arg3 k 144 128 inb_S256x256_S8x128_144_128 x
theorem v2006_eq (x : S8x128.Idx) : trip_k0_t1.sl.v2006 arg2 arg3 arg8 X_arg2 X_arg3 k x
    = wAt (tileW arg2 arg3 X_arg2 X_arg3 k) (152 + (x 0).val) (128 + (x 1).val) := vload arg2 arg3 arg8 X_arg2 X_arg3 k 152 128 inb_S256x256_S8x128_152_128 x
theorem v2014_eq (x : S8x128.Idx) : trip_k0_t1.sl.v2014 arg2 arg3 arg8 X_arg2 X_arg3 k x
    = wAt (tileW arg2 arg3 X_arg2 X_arg3 k) (160 + (x 0).val) (128 + (x 1).val) := vload arg2 arg3 arg8 X_arg2 X_arg3 k 160 128 inb_S256x256_S8x128_160_128 x
theorem v2016_eq (x : S8x128.Idx) : trip_k0_t1.sl.v2016 arg2 arg3 arg8 X_arg2 X_arg3 k x
    = wAt (tileW arg2 arg3 X_arg2 X_arg3 k) (168 + (x 0).val) (128 + (x 1).val) := vload arg2 arg3 arg8 X_arg2 X_arg3 k 168 128 inb_S256x256_S8x128_168_128 x
theorem v2018_eq (x : S8x128.Idx) : trip_k0_t1.sl.v2018 arg2 arg3 arg8 X_arg2 X_arg3 k x
    = wAt (tileW arg2 arg3 X_arg2 X_arg3 k) (176 + (x 0).val) (128 + (x 1).val) := vload arg2 arg3 arg8 X_arg2 X_arg3 k 176 128 inb_S256x256_S8x128_176_128 x
theorem v202_eq (x : S8x128.Idx) : trip_k0_t1.sl.v202 arg2 arg3 arg8 X_arg2 X_arg3 k x
    = wAt (tileW arg2 arg3 X_arg2 X_arg3 k) (240 + (x 0).val) (0 + (x 1).val) := vload arg2 arg3 arg8 X_arg2 X_arg3 k 240 0 inb_S256x256_S8x128_240_0 x
theorem v2020_eq (x : S8x128.Idx) : trip_k0_t1.sl.v2020 arg2 arg3 arg8 X_arg2 X_arg3 k x
    = wAt (tileW arg2 arg3 X_arg2 X_arg3 k) (184 + (x 0).val) (128 + (x 1).val) := vload arg2 arg3 arg8 X_arg2 X_arg3 k 184 128 inb_S256x256_S8x128_184_128 x
theorem v2028_eq (x : S8x128.Idx) : trip_k0_t1.sl.v2028 arg2 arg3 arg8 X_arg2 X_arg3 k x
    = wAt (tileW arg2 arg3 X_arg2 X_arg3 k) (192 + (x 0).val) (128 + (x 1).val) := vload arg2 arg3 arg8 X_arg2 X_arg3 k 192 128 inb_S256x256_S8x128_192_128 x
theorem v2030_eq (x : S8x128.Idx) : trip_k0_t1.sl.v2030 arg2 arg3 arg8 X_arg2 X_arg3 k x
    = wAt (tileW arg2 arg3 X_arg2 X_arg3 k) (200 + (x 0).val) (128 + (x 1).val) := vload arg2 arg3 arg8 X_arg2 X_arg3 k 200 128 inb_S256x256_S8x128_200_128 x
theorem v2032_eq (x : S8x128.Idx) : trip_k0_t1.sl.v2032 arg2 arg3 arg8 X_arg2 X_arg3 k x
    = wAt (tileW arg2 arg3 X_arg2 X_arg3 k) (208 + (x 0).val) (128 + (x 1).val) := vload arg2 arg3 arg8 X_arg2 X_arg3 k 208 128 inb_S256x256_S8x128_208_128 x
theorem v2034_eq (x : S8x128.Idx) : trip_k0_t1.sl.v2034 arg2 arg3 arg8 X_arg2 X_arg3 k x
    = wAt (tileW arg2 arg3 X_arg2 X_arg3 k) (216 + (x 0).val) (128 + (x 1).val) := vload arg2 arg3 arg8 X_arg2 X_arg3 k 216 128 inb_S256x256_S8x128_216_128 x
theorem v204_eq (x : S8x128.Idx) : trip_k0_t1.sl.v204 arg2 arg3 arg8 X_arg2 X_arg3 k x
    = wAt (tileW arg2 arg3 X_arg2 X_arg3 k) (248 + (x 0).val) (0 + (x 1).val) := vload arg2 arg3 arg8 X_arg2 X_arg3 k 248 0 inb_S256x256_S8x128_248_0 x
theorem v2042_eq (x : S8x128.Idx) : trip_k0_t1.sl.v2042 arg2 arg3 arg8 X_arg2 X_arg3 k x
    = wAt (tileW arg2 arg3 X_arg2 X_arg3 k) (224 + (x 0).val) (128 + (x 1).val) := vload arg2 arg3 arg8 X_arg2 X_arg3 k 224 128 inb_S256x256_S8x128_224_128 x
theorem v2044_eq (x : S8x128.Idx) : trip_k0_t1.sl.v2044 arg2 arg3 arg8 X_arg2 X_arg3 k x
    = wAt (tileW arg2 arg3 X_arg2 X_arg3 k) (232 + (x 0).val) (128 + (x 1).val) := vload arg2 arg3 arg8 X_arg2 X_arg3 k 232 128 inb_S256x256_S8x128_232_128 x
theorem v2046_eq (x : S8x128.Idx) : trip_k0_t1.sl.v2046 arg2 arg3 arg8 X_arg2 X_arg3 k x
    = wAt (tileW arg2 arg3 X_arg2 X_arg3 k) (240 + (x 0).val) (128 + (x 1).val) := vload arg2 arg3 arg8 X_arg2 X_arg3 k 240 128 inb_S256x256_S8x128_240_128 x
theorem v2048_eq (x : S8x128.Idx) : trip_k0_t1.sl.v2048 arg2 arg3 arg8 X_arg2 X_arg3 k x
    = wAt (tileW arg2 arg3 X_arg2 X_arg3 k) (248 + (x 0).val) (128 + (x 1).val) := vload arg2 arg3 arg8 X_arg2 X_arg3 k 248 128 inb_S256x256_S8x128_248_128 x

/-! ## The maxima over four tokens -/

/-- The maxima scratch: row `64·h + 8·g + s`, column `l`, is the maximum over the four tokens `32·g + 4·s + b` of
    channel `128·h + l`. -/
def partG (W : S256x256.Idx → F .f32) : S128x128.Idx → F .f32 := fun y =>
  partMax W ((y 0).val / 8 % 8) ((y 0).val % 8) (128 * ((y 0).val / 64) + (y 1).val)

theorem partG_emb (W : S256x256.Idx → F .f32) (g h o : ℕ) (hg : g < 8) (ho : o = 64 * h + 8 * g)
    (inb : ∀ a, (![o, 0] : Fin 2 → ℕ) a + S8x128.size a ≤ S128x128.size a) (x : S8x128.Idx) :
    partG W ((Rect.unit (s := S128x128) ![o, 0] S8x128.size inb).emb x) = partMax W g (x 0).val (128 * h + (x 1).val) := by
  have hx0 : (x 0).val < 8 := (x 0).isLt
  have hx1 : (x 1).val < 128 := (x 1).isLt
  have e0 : (((Rect.unit (s := S128x128) ![o, 0] S8x128.size inb).emb x) 0).val = o + 1 * (x 0).val := rfl
  have e1 : (((Rect.unit (s := S128x128) ![o, 0] S8x128.size inb).emb x) 1).val = 0 + 1 * (x 1).val := rfl
  unfold partG
  rw [e0, e1]
  congr 1 <;> omega

/-- The maxima stored for the first 128 channels are the ones `partG` names. -/
theorem pieces_HW_arg9_8 : View.PiecesOf (partG (tileW arg2 arg3 X_arg2 X_arg3 k)) (trip_k0_t1.sl.HW_arg9_8 arg2 arg3 arg8 X_arg2 X_arg3 k) := by
  unfold trip_k0_t1.sl.HW_arg9_8
  refine ⟨?_, ?_, ?_, ?_, ?_, ?_, ?_, ?_, trivial⟩
  · intro x
    refine Eq.trans ?_ (partG_emb _ 7 0 56 (by decide) (by decide) inb_S128x128_S8x128_56_0 x).symm
    simp only [k0_pay15, v198_eq, v200_eq, v202_eq, v204_eq, shapeCast_self, maximumf_apply, absf_apply]
    rfl
  · intro x
    refine Eq.trans ?_ (partG_emb _ 6 0 48 (by decide) (by decide) inb_S128x128_S8x128_48_0 x).symm
    simp only [k0_pay12, k0_pay13, k0_pay14, trip_k0_t1.sl.r_4, trip_k0_t1.sl.r_5, v184_eq, v186_eq, v188_eq, v190_eq, shapeCast_self, maximumf_apply, absf_apply]
    rfl
  · intro x
    refine Eq.trans ?_ (partG_emb _ 5 0 40 (by decide) (by decide) inb_S128x128_S8x128_40_0 x).symm
    simp only [k0_pay11, v170_eq, v172_eq, v174_eq, v176_eq, shapeCast_self, maximumf_apply, absf_apply]
    rfl
  · intro x
    refine Eq.trans ?_ (partG_emb _ 4 0 32 (by decide) (by decide) inb_S128x128_S8x128_32_0 x).symm
    simp only [k0_pay10, v156_eq, v158_eq, v160_eq, v162_eq, shapeCast_self, maximumf_apply, absf_apply]
    rfl
  · intro x
    refine Eq.trans ?_ (partG_emb _ 3 0 24 (by decide) (by decide) inb_S128x128_S8x128_24_0 x).symm
    simp only [k0_pay9, trip_k0_t1.sl.r_3, v142_eq, v144_eq, v146_eq, v148_eq, shapeCast_self, maximumf_apply, absf_apply]
    rfl
  · intro x
    refine Eq.trans ?_ (partG_emb _ 2 0 16 (by decide) (by decide) inb_S128x128_S8x128_16_0 x).symm
    simp only [k0_pay8, v128_eq, v130_eq, v132_eq, v134_eq, shapeCast_self, maximumf_apply, absf_apply]
    rfl
  · intro x
    refine Eq.trans ?_ (partG_emb _ 1 0 8 (by decide) (by decide) inb_S128x128_S8x128_8_0 x).symm
    simp only [k0_pay4, k0_pay5, k0_pay6, k0_pay7, trip_k0_t1.sl.r, trip_k0_t1.sl.r_1, trip_k0_t1.sl.r_2, v114_eq, v116_eq, v118_eq, v120_eq, shapeCast_self, maximumf_apply, absf_apply]
    rfl
  · intro x
    refine Eq.trans ?_ (partG_emb _ 0 0 0 (by decide) (by decide) inb_S128x128_S8x128_0_0 x).symm
    simp only [k0_pay3, v100_eq, v102_eq, v104_eq, v106_eq, shapeCast_self, maximumf_apply, absf_apply]
    rfl

/-- The maxima stored for the second 128 channels are the ones `partG` names. -/
theorem pieces_HW_arg9_16 : View.PiecesOf (partG (tileW arg2 arg3 X_arg2 X_arg3 k)) (trip_k0_t1.sl.HW_arg9_16 arg2 arg3 arg8 X_arg2 X_arg3 k) := by
  unfold trip_k0_t1.sl.HW_arg9_16
  refine ⟨?_, ?_, ?_, ?_, ?_, ?_, ?_, ?_, pieces_HW_arg9_8 arg2 arg3 arg8 X_arg2 X_arg3 k⟩
  · intro x
    refine Eq.trans ?_ (partG_emb _ 7 1 120 (by decide) (by decide) inb_S128x128_S8x128_120_0 x).symm
    simp only [k0_pay218, v2042_eq, v2044_eq, v2046_eq, v2048_eq, shapeCast_self, maximumf_apply, absf_apply]
    rfl
  · intro x
    refine Eq.trans ?_ (partG_emb _ 6 1 112 (by decide) (by decide) inb_S128x128_S8x128_112_0 x).symm
    simp only [k0_pay214, k0_pay215, k0_pay216, k0_pay217, trip_k0_t1.sl.r_167, trip_k0_t1.sl.r_168, trip_k0_t1.sl.r_169, v2028_eq, v2030_eq, v2032_eq, v2034_eq, shapeCast_self, maximumf_apply, absf_apply]
    rfl
  · intro x
    refine Eq.trans ?_ (partG_emb _ 5 1 104 (by decide) (by decide) inb_S128x128_S8x128_104_0 x).symm
    simp only [k0_pay213, v2014_eq, v2016_eq, v2018_eq, v2020_eq, shapeCast_self, maximumf_apply, absf_apply]
    rfl
  · intro x
    refine Eq.trans ?_ (partG_emb _ 4 1 96 (by decide) (by decide) inb_S128x128_S8x128_96_0 x).symm
    simp only [k0_pay212, v2000_eq, v2002_eq, v2004_eq, v2006_eq, shapeCast_self, maximumf_apply, absf_apply]
    rfl
  · intro x
    refine Eq.trans ?_ (partG_emb _ 3 1 88 (by decide) (by decide) inb_S128x128_S8x128_88_0 x).symm
    simp only [k0_pay211, v1986_eq, v1988_eq, v1990_eq, v1992_eq, shapeCast_self, maximumf_apply, absf_apply]
    rfl
  · intro x
    refine Eq.trans ?_ (partG_emb _ 2 1 80 (by decide) (by decide) inb_S128x128_S8x128_80_0 x).symm
    simp only [k0_pay210, v1972_eq, v1974_eq, v1976_eq, v1978_eq, shapeCast_self, maximumf_apply, absf_apply]
    rfl
  · intro x
    refine Eq.trans ?_ (partG_emb _ 1 1 72 (by decide) (by decide) inb_S128x128_S8x128_72_0 x).symm
    simp only [k0_pay206, k0_pay207, k0_pay208, k0_pay209, trip_k0_t1.sl.r_164, trip_k0_t1.sl.r_165, trip_k0_t1.sl.r_166, v1958_eq, v1960_eq, v1962_eq, v1964_eq, shapeCast_self, maximumf_apply, absf_apply]
    rfl
  · intro x
    refine Eq.trans ?_ (partG_emb _ 0 1 64 (by decide) (by decide) inb_S128x128_S8x128_64_0 x).symm
    simp only [k0_pay205, v1944_eq, v1946_eq, v1948_eq, v1950_eq, shapeCast_self, maximumf_apply, absf_apply]
    rfl

/-! ## The block maxima -/

theorem cover_HW_arg9_8 (y : S128x128.Idx) (g : ℕ) (hg : g < 8) (h0 : 0 + 8 * g ≤ (y 0).val) (h1 : (y 0).val < 0 + 8 * g + 8) :
    ∃ p ∈ trip_k0_t1.sl.HW_arg9_8 arg2 arg3 arg8 X_arg2 X_arg3 k, y ∈ p.1.set := by
  unfold trip_k0_t1.sl.HW_arg9_8
  have hy1 : (y 1).val < 0 + 128 := (y 1).isLt
  interval_cases g
  · exact ⟨_, .tail _ (.tail _ (.tail _ (.tail _ (.tail _ (.tail _ (.tail _ (.head _))))))), (Rect.mem_set_unit (inb := inb_S128x128_S8x128_0_0)).mpr (Fin.forall_fin_two.mpr ⟨⟨h0, h1⟩, ⟨Nat.zero_le _, hy1⟩⟩)⟩
  · exact ⟨_, .tail _ (.tail _ (.tail _ (.tail _ (.tail _ (.tail _ (.head _)))))), (Rect.mem_set_unit (inb := inb_S128x128_S8x128_8_0)).mpr (Fin.forall_fin_two.mpr ⟨⟨h0, h1⟩, ⟨Nat.zero_le _, hy1⟩⟩)⟩
  · exact ⟨_, .tail _ (.tail _ (.tail _ (.tail _ (.tail _ (.head _))))), (Rect.mem_set_unit (inb := inb_S128x128_S8x128_16_0)).mpr (Fin.forall_fin_two.mpr ⟨⟨h0, h1⟩, ⟨Nat.zero_le _, hy1⟩⟩)⟩
  · exact ⟨_, .tail _ (.tail _ (.tail _ (.tail _ (.head _)))), (Rect.mem_set_unit (inb := inb_S128x128_S8x128_24_0)).mpr (Fin.forall_fin_two.mpr ⟨⟨h0, h1⟩, ⟨Nat.zero_le _, hy1⟩⟩)⟩
  · exact ⟨_, .tail _ (.tail _ (.tail _ (.head _))), (Rect.mem_set_unit (inb := inb_S128x128_S8x128_32_0)).mpr (Fin.forall_fin_two.mpr ⟨⟨h0, h1⟩, ⟨Nat.zero_le _, hy1⟩⟩)⟩
  · exact ⟨_, .tail _ (.tail _ (.head _)), (Rect.mem_set_unit (inb := inb_S128x128_S8x128_40_0)).mpr (Fin.forall_fin_two.mpr ⟨⟨h0, h1⟩, ⟨Nat.zero_le _, hy1⟩⟩)⟩
  · exact ⟨_, .tail _ (.head _), (Rect.mem_set_unit (inb := inb_S128x128_S8x128_48_0)).mpr (Fin.forall_fin_two.mpr ⟨⟨h0, h1⟩, ⟨Nat.zero_le _, hy1⟩⟩)⟩
  · exact ⟨_, .head _, (Rect.mem_set_unit (inb := inb_S128x128_S8x128_56_0)).mpr (Fin.forall_fin_two.mpr ⟨⟨h0, h1⟩, ⟨Nat.zero_le _, hy1⟩⟩)⟩

/-- A load of rows `0 + s, 0 + s + 8, …` of the maxima scratch. -/
theorem amload_HW_arg9_8 (s o : ℕ) (hs : s < 8) (ho : o = 0 + s) (inb : ∀ a, S8x128.size a = 0 ∨ (![o, 0] : Fin 2 → ℕ) a + (![8, 1] : Fin 2 → ℕ) a * (S8x128.size a - 1) < S128x128.size a)
    (x : S8x128.Idx) :
    arg9.view.readCov (trip_k0_t1.sl.HW_arg9_8 arg2 arg3 arg8 X_arg2 X_arg3 k) (⟨![o, 0], S8x128.size, ![8, 1], inb⟩ : LoadRect S128x128) x
      = partMax (tileW arg2 arg3 X_arg2 X_arg3 k) (x 0).val s (128 * 0 + (x 1).val) := by
  subst ho
  have hx0 : (x 0).val < 8 := (x 0).isLt
  have hx1 : (x 1).val < 128 := (x 1).isLt
  rw [View.readCov_eq_canon']
  have e0 : (((⟨![0 + s, 0], S8x128.size, ![8, 1], inb⟩ : LoadRect S128x128).idx x) 0).val = 0 + s + 8 * (x 0).val := rfl
  have e1 : (((⟨![0 + s, 0], S8x128.size, ![8, 1], inb⟩ : LoadRect S128x128).idx x) 1).val = 0 + 1 * (x 1).val := rfl
  refine (View.canon_apply_of_pieces (partG (tileW arg2 arg3 X_arg2 X_arg3 k)) _ (pieces_HW_arg9_8 arg2 arg3 arg8 X_arg2 X_arg3 k).mem _
    (cover_HW_arg9_8 arg2 arg3 arg8 X_arg2 X_arg3 k _ (x 0).val hx0 (by omega) (by omega))).trans ?_
  unfold partG
  rw [e0, e1]
  congr 1 <;> omega

theorem cover_HW_arg9_16 (y : S128x128.Idx) (g : ℕ) (hg : g < 8) (h0 : 64 + 8 * g ≤ (y 0).val) (h1 : (y 0).val < 64 + 8 * g + 8) :
    ∃ p ∈ trip_k0_t1.sl.HW_arg9_16 arg2 arg3 arg8 X_arg2 X_arg3 k, y ∈ p.1.set := by
  unfold trip_k0_t1.sl.HW_arg9_16
  have hy1 : (y 1).val < 0 + 128 := (y 1).isLt
  interval_cases g
  · exact ⟨_, .tail _ (.tail _ (.tail _ (.tail _ (.tail _ (.tail _ (.tail _ (.head _))))))), (Rect.mem_set_unit (inb := inb_S128x128_S8x128_64_0)).mpr (Fin.forall_fin_two.mpr ⟨⟨h0, h1⟩, ⟨Nat.zero_le _, hy1⟩⟩)⟩
  · exact ⟨_, .tail _ (.tail _ (.tail _ (.tail _ (.tail _ (.tail _ (.head _)))))), (Rect.mem_set_unit (inb := inb_S128x128_S8x128_72_0)).mpr (Fin.forall_fin_two.mpr ⟨⟨h0, h1⟩, ⟨Nat.zero_le _, hy1⟩⟩)⟩
  · exact ⟨_, .tail _ (.tail _ (.tail _ (.tail _ (.tail _ (.head _))))), (Rect.mem_set_unit (inb := inb_S128x128_S8x128_80_0)).mpr (Fin.forall_fin_two.mpr ⟨⟨h0, h1⟩, ⟨Nat.zero_le _, hy1⟩⟩)⟩
  · exact ⟨_, .tail _ (.tail _ (.tail _ (.tail _ (.head _)))), (Rect.mem_set_unit (inb := inb_S128x128_S8x128_88_0)).mpr (Fin.forall_fin_two.mpr ⟨⟨h0, h1⟩, ⟨Nat.zero_le _, hy1⟩⟩)⟩
  · exact ⟨_, .tail _ (.tail _ (.tail _ (.head _))), (Rect.mem_set_unit (inb := inb_S128x128_S8x128_96_0)).mpr (Fin.forall_fin_two.mpr ⟨⟨h0, h1⟩, ⟨Nat.zero_le _, hy1⟩⟩)⟩
  · exact ⟨_, .tail _ (.tail _ (.head _)), (Rect.mem_set_unit (inb := inb_S128x128_S8x128_104_0)).mpr (Fin.forall_fin_two.mpr ⟨⟨h0, h1⟩, ⟨Nat.zero_le _, hy1⟩⟩)⟩
  · exact ⟨_, .tail _ (.head _), (Rect.mem_set_unit (inb := inb_S128x128_S8x128_112_0)).mpr (Fin.forall_fin_two.mpr ⟨⟨h0, h1⟩, ⟨Nat.zero_le _, hy1⟩⟩)⟩
  · exact ⟨_, .head _, (Rect.mem_set_unit (inb := inb_S128x128_S8x128_120_0)).mpr (Fin.forall_fin_two.mpr ⟨⟨h0, h1⟩, ⟨Nat.zero_le _, hy1⟩⟩)⟩

/-- A load of rows `64 + s, 64 + s + 8, …` of the maxima scratch. -/
theorem amload_HW_arg9_16 (s o : ℕ) (hs : s < 8) (ho : o = 64 + s) (inb : ∀ a, S8x128.size a = 0 ∨ (![o, 0] : Fin 2 → ℕ) a + (![8, 1] : Fin 2 → ℕ) a * (S8x128.size a - 1) < S128x128.size a)
    (x : S8x128.Idx) :
    arg9.view.readCov (trip_k0_t1.sl.HW_arg9_16 arg2 arg3 arg8 X_arg2 X_arg3 k) (⟨![o, 0], S8x128.size, ![8, 1], inb⟩ : LoadRect S128x128) x
      = partMax (tileW arg2 arg3 X_arg2 X_arg3 k) (x 0).val s (128 * 1 + (x 1).val) := by
  subst ho
  have hx0 : (x 0).val < 8 := (x 0).isLt
  have hx1 : (x 1).val < 128 := (x 1).isLt
  rw [View.readCov_eq_canon']
  have e0 : (((⟨![64 + s, 0], S8x128.size, ![8, 1], inb⟩ : LoadRect S128x128).idx x) 0).val = 64 + s + 8 * (x 0).val := rfl
  have e1 : (((⟨![64 + s, 0], S8x128.size, ![8, 1], inb⟩ : LoadRect S128x128).idx x) 1).val = 0 + 1 * (x 1).val := rfl
  refine (View.canon_apply_of_pieces (partG (tileW arg2 arg3 X_arg2 X_arg3 k)) _ (pieces_HW_arg9_16 arg2 arg3 arg8 X_arg2 X_arg3 k).mem _
    (cover_HW_arg9_16 arg2 arg3 arg8 X_arg2 X_arg3 k _ (x 0).val hx0 (by omega) (by omega))).trans ?_
  unfold partG
  rw [e0, e1]
  congr 1 <;> omega

theorem v2056_eq (x : S8x128.Idx) : trip_k0_t1.sl.v2056 arg2 arg3 arg8 arg9 X_arg2 X_arg3 k x
    = partMax (tileW arg2 arg3 X_arg2 X_arg3 k) (x 0).val 0 (128 * 1 + (x 1).val) :=
  amload_HW_arg9_16 arg2 arg3 arg8 arg9 X_arg2 X_arg3 k 0 64 (by decide) rfl inb_S128x128_S8x128_64_0_s_8_1 x
theorem v2057_eq (x : S8x128.Idx) : trip_k0_t1.sl.v2057 arg2 arg3 arg8 arg9 X_arg2 X_arg3 k x
    = partMax (tileW arg2 arg3 X_arg2 X_arg3 k) (x 0).val 1 (128 * 1 + (x 1).val) :=
  amload_HW_arg9_16 arg2 arg3 arg8 arg9 X_arg2 X_arg3 k 1 65 (by decide) rfl inb_S128x128_S8x128_65_0_s_8_1 x
theorem v2059_eq (x : S8x128.Idx) : trip_k0_t1.sl.v2059 arg2 arg3 arg8 arg9 X_arg2 X_arg3 k x
    = partMax (tileW arg2 arg3 X_arg2 X_arg3 k) (x 0).val 2 (128 * 1 + (x 1).val) :=
  amload_HW_arg9_16 arg2 arg3 arg8 arg9 X_arg2 X_arg3 k 2 66 (by decide) rfl inb_S128x128_S8x128_66_0_s_8_1 x
theorem v2061_eq (x : S8x128.Idx) : trip_k0_t1.sl.v2061 arg2 arg3 arg8 arg9 X_arg2 X_arg3 k x
    = partMax (tileW arg2 arg3 X_arg2 X_arg3 k) (x 0).val 3 (128 * 1 + (x 1).val) :=
  amload_HW_arg9_16 arg2 arg3 arg8 arg9 X_arg2 X_arg3 k 3 67 (by decide) rfl inb_S128x128_S8x128_67_0_s_8_1 x
theorem v2063_eq (x : S8x128.Idx) : trip_k0_t1.sl.v2063 arg2 arg3 arg8 arg9 X_arg2 X_arg3 k x
    = partMax (tileW arg2 arg3 X_arg2 X_arg3 k) (x 0).val 4 (128 * 1 + (x 1).val) :=
  amload_HW_arg9_16 arg2 arg3 arg8 arg9 X_arg2 X_arg3 k 4 68 (by decide) rfl inb_S128x128_S8x128_68_0_s_8_1 x
theorem v2065_eq (x : S8x128.Idx) : trip_k0_t1.sl.v2065 arg2 arg3 arg8 arg9 X_arg2 X_arg3 k x
    = partMax (tileW arg2 arg3 X_arg2 X_arg3 k) (x 0).val 5 (128 * 1 + (x 1).val) :=
  amload_HW_arg9_16 arg2 arg3 arg8 arg9 X_arg2 X_arg3 k 5 69 (by decide) rfl inb_S128x128_S8x128_69_0_s_8_1 x
theorem v2067_eq (x : S8x128.Idx) : trip_k0_t1.sl.v2067 arg2 arg3 arg8 arg9 X_arg2 X_arg3 k x
    = partMax (tileW arg2 arg3 X_arg2 X_arg3 k) (x 0).val 6 (128 * 1 + (x 1).val) :=
  amload_HW_arg9_16 arg2 arg3 arg8 arg9 X_arg2 X_arg3 k 6 70 (by decide) rfl inb_S128x128_S8x128_70_0_s_8_1 x
theorem v2069_eq (x : S8x128.Idx) : trip_k0_t1.sl.v2069 arg2 arg3 arg8 arg9 X_arg2 X_arg3 k x
    = partMax (tileW arg2 arg3 X_arg2 X_arg3 k) (x 0).val 7 (128 * 1 + (x 1).val) :=
  amload_HW_arg9_16 arg2 arg3 arg8 arg9 X_arg2 X_arg3 k 7 71 (by decide) rfl inb_S128x128_S8x128_71_0_s_8_1 x
theorem v212_eq (x : S8x128.Idx) : trip_k0_t1.sl.v212 arg2 arg3 arg8 arg9 X_arg2 X_arg3 k x
    = partMax (tileW arg2 arg3 X_arg2 X_arg3 k) (x 0).val 0 (128 * 0 + (x 1).val) :=
  amload_HW_arg9_8 arg2 arg3 arg8 arg9 X_arg2 X_arg3 k 0 0 (by decide) rfl inb_S128x128_S8x128_0_0_s_8_1 x
theorem v213_eq (x : S8x128.Idx) : trip_k0_t1.sl.v213 arg2 arg3 arg8 arg9 X_arg2 X_arg3 k x
    = partMax (tileW arg2 arg3 X_arg2 X_arg3 k) (x 0).val 1 (128 * 0 + (x 1).val) :=
  amload_HW_arg9_8 arg2 arg3 arg8 arg9 X_arg2 X_arg3 k 1 1 (by decide) rfl inb_S128x128_S8x128_1_0_s_8_1 x
theorem v215_eq (x : S8x128.Idx) : trip_k0_t1.sl.v215 arg2 arg3 arg8 arg9 X_arg2 X_arg3 k x
    = partMax (tileW arg2 arg3 X_arg2 X_arg3 k) (x 0).val 2 (128 * 0 + (x 1).val) :=
  amload_HW_arg9_8 arg2 arg3 arg8 arg9 X_arg2 X_arg3 k 2 2 (by decide) rfl inb_S128x128_S8x128_2_0_s_8_1 x
theorem v217_eq (x : S8x128.Idx) : trip_k0_t1.sl.v217 arg2 arg3 arg8 arg9 X_arg2 X_arg3 k x
    = partMax (tileW arg2 arg3 X_arg2 X_arg3 k) (x 0).val 3 (128 * 0 + (x 1).val) :=
  amload_HW_arg9_8 arg2 arg3 arg8 arg9 X_arg2 X_arg3 k 3 3 (by decide) rfl inb_S128x128_S8x128_3_0_s_8_1 x
theorem v219_eq (x : S8x128.Idx) : trip_k0_t1.sl.v219 arg2 arg3 arg8 arg9 X_arg2 X_arg3 k x
    = partMax (tileW arg2 arg3 X_arg2 X_arg3 k) (x 0).val 4 (128 * 0 + (x 1).val) :=
  amload_HW_arg9_8 arg2 arg3 arg8 arg9 X_arg2 X_arg3 k 4 4 (by decide) rfl inb_S128x128_S8x128_4_0_s_8_1 x
theorem v221_eq (x : S8x128.Idx) : trip_k0_t1.sl.v221 arg2 arg3 arg8 arg9 X_arg2 X_arg3 k x
    = partMax (tileW arg2 arg3 X_arg2 X_arg3 k) (x 0).val 5 (128 * 0 + (x 1).val) :=
  amload_HW_arg9_8 arg2 arg3 arg8 arg9 X_arg2 X_arg3 k 5 5 (by decide) rfl inb_S128x128_S8x128_5_0_s_8_1 x
theorem v223_eq (x : S8x128.Idx) : trip_k0_t1.sl.v223 arg2 arg3 arg8 arg9 X_arg2 X_arg3 k x
    = partMax (tileW arg2 arg3 X_arg2 X_arg3 k) (x 0).val 6 (128 * 0 + (x 1).val) :=
  amload_HW_arg9_8 arg2 arg3 arg8 arg9 X_arg2 X_arg3 k 6 6 (by decide) rfl inb_S128x128_S8x128_6_0_s_8_1 x
theorem v225_eq (x : S8x128.Idx) : trip_k0_t1.sl.v225 arg2 arg3 arg8 arg9 X_arg2 X_arg3 k x
    = partMax (tileW arg2 arg3 X_arg2 X_arg3 k) (x 0).val 7 (128 * 0 + (x 1).val) :=
  amload_HW_arg9_8 arg2 arg3 arg8 arg9 X_arg2 X_arg3 k 7 7 (by decide) rfl inb_S128x128_S8x128_7_0_s_8_1 x

/-- The block maxima of the first 128 channels. -/
theorem am_0 (x : S8x128.Idx) : trip_k0_t1.sl.r_7 arg2 arg3 arg8 arg9 X_arg2 X_arg3 k x
    = blockMax (tileW arg2 arg3 X_arg2 X_arg3 k) (x 0).val (128 * 0 + (x 1).val) := by
  simp only [trip_k0_t1.sl.r_7, k0_pay16, k0_pay17, trip_k0_t1.sl.r_6, maximumf_apply, v212_eq, v213_eq, v215_eq, v217_eq, v219_eq, v221_eq, v223_eq, v225_eq]
  rfl

/-- The block maxima of the second 128 channels. -/
theorem am_1 (x : S8x128.Idx) : trip_k0_t1.sl.r_171 arg2 arg3 arg8 arg9 X_arg2 X_arg3 k x
    = blockMax (tileW arg2 arg3 X_arg2 X_arg3 k) (x 0).val (128 * 1 + (x 1).val) := by
  simp only [trip_k0_t1.sl.r_171, k0_pay219, k0_pay220, trip_k0_t1.sl.r_170, maximumf_apply, v2056_eq, v2057_eq, v2059_eq, v2061_eq, v2063_eq, v2065_eq, v2067_eq, v2069_eq]
  rfl

/-! ## The exponent of a block and the reciprocal of its scale -/

/-- One step of the binary search for the exponent field. -/
def up (a : F .f32) (j e : BitVec 32) : BitVec 32 :=
  Scalar.select (FloatOps.cmpf .oge a (FloatOps.ofBits .f32 (IntOp.shli .vector (IntOp.addi e j) 23#32))) (IntOp.addi e j) e

/-- The exponent field found by the search: the largest `e` of 0 … 255 whose power of two does not exceed `a`. -/
def expo (a : F .f32) : BitVec 32 := up a 1#32 (up a 2#32 (up a 4#32 (up a 8#32 (up a 16#32 (up a 32#32 (up a 64#32 (up a 128#32 0#32)))))))

/-- The reciprocal the kernel multiplies a block's magnitudes by. -/
def invOf (a : F .f32) : F .f32 :=
  FloatOps.ofBits .f32 (IntOp.subi (IntOp.shli .vector (IntOp.subi 257#32 (IntOp.maxsi (expo a) 3#32)) 23#32) 1#32)

/-- The reciprocals' scratch. -/
def invG (W : S256x256.Idx → F .f32) : S2x8x128.Idx → F .f32 := fun y =>
  invOf (blockMax W (y 1).val (128 * (y 0).val + (y 2).val))

theorem addUnit_idx (x : S1x8x128.Idx) (v : S8x128.Idx → F .f32) :
    shapeCast S1x8x128 v shapeCasts_S8x128_S1x8x128 x = v (ValueIdx.ix2 (x 1) (x 2)) := by
  refine (shapeCast_addUnit_apply _ v _ x).trans (congrArg v ?_)
  refine Shape.idx_ext₂ rfl rfl

theorem inv_0 (x : S1x8x128.Idx) : k0_pay21 (trip_k0_t1.sl.r_9 arg2 arg3 arg8 arg9 X_arg2 X_arg3 k) 3#32 x
    = invOf (blockMax (tileW arg2 arg3 X_arg2 X_arg3 k) (x 1).val (128 * 0 + (x 2).val)) := by
  refine Eq.trans ?_ (congrArg invOf (am_0 arg2 arg3 arg8 arg9 X_arg2 X_arg3 k (ValueIdx.ix2 (x 1) (x 2))))
  unfold k0_pay21
  exact addUnit_idx x _

theorem pieces_HW_arg10_1 : View.PiecesOf (invG (tileW arg2 arg3 X_arg2 X_arg3 k)) (trip_k0_t1.sl.HW_arg10_1 arg2 arg3 arg8 arg9 X_arg2 X_arg3 k) := by
  unfold trip_k0_t1.sl.HW_arg10_1
  refine ⟨?_, trivial⟩
  intro x
  have hx0 : (x 0).val < 1 := (x 0).isLt
  refine (inv_0 arg2 arg3 arg8 arg9 X_arg2 X_arg3 k x).trans ?_
  unfold invG
  have e0 : (((Rect.unit (s := S2x8x128) ![0, 0, 0] S1x8x128.size inb_S2x8x128_S1x8x128_0_0_0).emb x) 0).val = 0 + 1 * (x 0).val := rfl
  have e1 : (((Rect.unit (s := S2x8x128) ![0, 0, 0] S1x8x128.size inb_S2x8x128_S1x8x128_0_0_0).emb x) 1).val = 0 + 1 * (x 1).val := rfl
  have e2 : (((Rect.unit (s := S2x8x128) ![0, 0, 0] S1x8x128.size inb_S2x8x128_S1x8x128_0_0_0).emb x) 2).val = 0 + 1 * (x 2).val := rfl
  rw [e0, e1, e2]
  congr 2 <;> omega

theorem canon_inv_0 (y : S2x8x128.Idx) (g l : ℕ) (hg : g < 8) (hl : l < 128) (e0 : (y 0).val = 0) (e1 : (y 1).val = g) (e2 : (y 2).val = l) :
    View.canon (trip_k0_t1.sl.HW_arg10_1 arg2 arg3 arg8 arg9 X_arg2 X_arg3 k) y = invOf (blockMax (tileW arg2 arg3 X_arg2 X_arg3 k) g (128 * 0 + l)) := by
  have hm : y ∈ (Rect.unit (s := S2x8x128) ![0, 0, 0] S1x8x128.size inb_S2x8x128_S1x8x128_0_0_0).set := by
    refine Rect.mem_set_unit.mpr fun a => ?_
    match a with
    | ⟨0, _⟩ => exact ⟨e0.ge, e0.le.trans_lt (by decide : 0 < 0 + 1)⟩
    | ⟨1, _⟩ => exact ⟨Nat.zero_le _, (y 1).isLt⟩
    | ⟨2, _⟩ => exact ⟨Nat.zero_le _, (y 2).isLt⟩
  have hex : ∃ p ∈ trip_k0_t1.sl.HW_arg10_1 arg2 arg3 arg8 arg9 X_arg2 X_arg3 k, y ∈ p.1.set := by
    unfold trip_k0_t1.sl.HW_arg10_1
    exact ⟨_, .head _, hm⟩
  refine (View.canon_apply_of_pieces (invG (tileW arg2 arg3 X_arg2 X_arg3 k)) _ (pieces_HW_arg10_1 arg2 arg3 arg8 arg9 X_arg2 X_arg3 k).mem y hex).trans ?_
  unfold invG
  rw [e0, e1, e2]

/-- A load of one row of reciprocals. -/
theorem invload_HW_arg10_1 (g : ℕ) (hg : g < 8) (inb : ∀ a, (![0, g, 0] : Fin 3 → ℕ) a + S1x1x128.size a ≤ S2x8x128.size a) (x : S1x1x128.Idx) :
    arg10.view.readCov (trip_k0_t1.sl.HW_arg10_1 arg2 arg3 arg8 arg9 X_arg2 X_arg3 k) (Rect.unit (s := S2x8x128) ![0, g, 0] S1x1x128.size inb).toLoadRect x
      = invOf (blockMax (tileW arg2 arg3 X_arg2 X_arg3 k) g (128 * 0 + (x 2).val)) := by
  have hx0 : (x 0).val < 1 := (x 0).isLt
  have hx1 : (x 1).val < 1 := (x 1).isLt
  have hx2 : (x 2).val < 128 := (x 2).isLt
  rw [View.readCov_eq_canon']
  have e0 : (((Rect.unit (s := S2x8x128) ![0, g, 0] S1x1x128.size inb).idx x) 0).val = 0 := show 0 + 1 * (x 0).val = 0 by omega
  have e1 : (((Rect.unit (s := S2x8x128) ![0, g, 0] S1x1x128.size inb).idx x) 1).val = g := show g + 1 * (x 1).val = g by omega
  have e2 : (((Rect.unit (s := S2x8x128) ![0, g, 0] S1x1x128.size inb).idx x) 2).val = (x 2).val := show 0 + 1 * (x 2).val = (x 2).val by omega
  exact canon_inv_0 arg2 arg3 arg8 arg9 X_arg2 X_arg3 k _ g (x 2).val hg hx2 e0 e1 e2

theorem inv_1 (x : S1x8x128.Idx) : k0_pay225 (trip_k0_t1.sl.r_174 arg2 arg3 arg8 arg9 X_arg2 X_arg3 k) 257#32 x
    = invOf (blockMax (tileW arg2 arg3 X_arg2 X_arg3 k) (x 1).val (128 * 1 + (x 2).val)) := by
  refine Eq.trans ?_ (congrArg invOf (am_1 arg2 arg3 arg8 arg9 X_arg2 X_arg3 k (ValueIdx.ix2 (x 1) (x 2))))
  unfold k0_pay225
  exact addUnit_idx x _

theorem pieces_HW_arg10_2 : View.PiecesOf (invG (tileW arg2 arg3 X_arg2 X_arg3 k)) (trip_k0_t1.sl.HW_arg10_2 arg2 arg3 arg8 arg9 X_arg2 X_arg3 k) := by
  unfold trip_k0_t1.sl.HW_arg10_2
  refine ⟨?_, pieces_HW_arg10_1 arg2 arg3 arg8 arg9 X_arg2 X_arg3 k⟩
  intro x
  have hx0 : (x 0).val < 1 := (x 0).isLt
  refine (inv_1 arg2 arg3 arg8 arg9 X_arg2 X_arg3 k x).trans ?_
  unfold invG
  have e0 : (((Rect.unit (s := S2x8x128) ![1, 0, 0] S1x8x128.size inb_S2x8x128_S1x8x128_1_0_0).emb x) 0).val = 1 + 1 * (x 0).val := rfl
  have e1 : (((Rect.unit (s := S2x8x128) ![1, 0, 0] S1x8x128.size inb_S2x8x128_S1x8x128_1_0_0).emb x) 1).val = 0 + 1 * (x 1).val := rfl
  have e2 : (((Rect.unit (s := S2x8x128) ![1, 0, 0] S1x8x128.size inb_S2x8x128_S1x8x128_1_0_0).emb x) 2).val = 0 + 1 * (x 2).val := rfl
  rw [e0, e1, e2]
  congr 2 <;> omega

theorem canon_inv_1 (y : S2x8x128.Idx) (g l : ℕ) (hg : g < 8) (hl : l < 128) (e0 : (y 0).val = 1) (e1 : (y 1).val = g) (e2 : (y 2).val = l) :
    View.canon (trip_k0_t1.sl.HW_arg10_2 arg2 arg3 arg8 arg9 X_arg2 X_arg3 k) y = invOf (blockMax (tileW arg2 arg3 X_arg2 X_arg3 k) g (128 * 1 + l)) := by
  have hm : y ∈ (Rect.unit (s := S2x8x128) ![1, 0, 0] S1x8x128.size inb_S2x8x128_S1x8x128_1_0_0).set := by
    refine Rect.mem_set_unit.mpr fun a => ?_
    match a with
    | ⟨0, _⟩ => exact ⟨e0.ge, e0.le.trans_lt (by decide : 1 < 1 + 1)⟩
    | ⟨1, _⟩ => exact ⟨Nat.zero_le _, (y 1).isLt⟩
    | ⟨2, _⟩ => exact ⟨Nat.zero_le _, (y 2).isLt⟩
  have hex : ∃ p ∈ trip_k0_t1.sl.HW_arg10_2 arg2 arg3 arg8 arg9 X_arg2 X_arg3 k, y ∈ p.1.set := by
    unfold trip_k0_t1.sl.HW_arg10_2
    exact ⟨_, .head _, hm⟩
  refine (View.canon_apply_of_pieces (invG (tileW arg2 arg3 X_arg2 X_arg3 k)) _ (pieces_HW_arg10_2 arg2 arg3 arg8 arg9 X_arg2 X_arg3 k).mem y hex).trans ?_
  unfold invG
  rw [e0, e1, e2]

/-- A load of one row of reciprocals. -/
theorem invload_HW_arg10_2 (g : ℕ) (hg : g < 8) (inb : ∀ a, (![1, g, 0] : Fin 3 → ℕ) a + S1x1x128.size a ≤ S2x8x128.size a) (x : S1x1x128.Idx) :
    arg10.view.readCov (trip_k0_t1.sl.HW_arg10_2 arg2 arg3 arg8 arg9 X_arg2 X_arg3 k) (Rect.unit (s := S2x8x128) ![1, g, 0] S1x1x128.size inb).toLoadRect x
      = invOf (blockMax (tileW arg2 arg3 X_arg2 X_arg3 k) g (128 * 1 + (x 2).val)) := by
  have hx0 : (x 0).val < 1 := (x 0).isLt
  have hx1 : (x 1).val < 1 := (x 1).isLt
  have hx2 : (x 2).val < 128 := (x 2).isLt
  rw [View.readCov_eq_canon']
  have e0 : (((Rect.unit (s := S2x8x128) ![1, g, 0] S1x1x128.size inb).idx x) 0).val = 1 := show 1 + 1 * (x 0).val = 1 by omega
  have e1 : (((Rect.unit (s := S2x8x128) ![1, g, 0] S1x1x128.size inb).idx x) 1).val = g := show g + 1 * (x 1).val = g by omega
  have e2 : (((Rect.unit (s := S2x8x128) ![1, g, 0] S1x1x128.size inb).idx x) 2).val = (x 2).val := show 0 + 1 * (x 2).val = (x 2).val by omega
  exact canon_inv_1 arg2 arg3 arg8 arg9 X_arg2 X_arg3 k _ g (x 2).val hg hx2 e0 e1 e2

theorem v1117_eq (x : S1x1x128.Idx) : trip_k0_t1.sl.v1117 arg2 arg3 arg8 arg9 arg10 X_arg2 X_arg3 k x
    = invOf (blockMax (tileW arg2 arg3 X_arg2 X_arg3 k) 4 (128 * 0 + (x 2).val)) :=
  invload_HW_arg10_1 arg2 arg3 arg8 arg9 arg10 X_arg2 X_arg3 k 4 (by decide) inb_S2x8x128_S1x1x128_0_4_0 x
theorem v1314_eq (x : S1x1x128.Idx) : trip_k0_t1.sl.v1314 arg2 arg3 arg8 arg9 arg10 X_arg2 X_arg3 k x
    = invOf (blockMax (tileW arg2 arg3 X_arg2 X_arg3 k) 5 (128 * 0 + (x 2).val)) :=
  invload_HW_arg10_1 arg2 arg3 arg8 arg9 arg10 X_arg2 X_arg3 k 5 (by decide) inb_S2x8x128_S1x1x128_0_5_0 x
theorem v1511_eq (x : S1x1x128.Idx) : trip_k0_t1.sl.v1511 arg2 arg3 arg8 arg9 arg10 X_arg2 X_arg3 k x
    = invOf (blockMax (tileW arg2 arg3 X_arg2 X_arg3 k) 6 (128 * 0 + (x 2).val)) :=
  invload_HW_arg10_1 arg2 arg3 arg8 arg9 arg10 X_arg2 X_arg3 k 6 (by decide) inb_S2x8x128_S1x1x128_0_6_0 x
theorem v1708_eq (x : S1x1x128.Idx) : trip_k0_t1.sl.v1708 arg2 arg3 arg8 arg9 arg10 X_arg2 X_arg3 k x
    = invOf (blockMax (tileW arg2 arg3 X_arg2 X_arg3 k) 7 (128 * 0 + (x 2).val)) :=
  invload_HW_arg10_1 arg2 arg3 arg8 arg9 arg10 X_arg2 X_arg3 k 7 (by decide) inb_S2x8x128_S1x1x128_0_7_0 x
theorem v2173_eq (x : S1x1x128.Idx) : trip_k0_t1.sl.v2173 arg2 arg3 arg8 arg9 arg10 X_arg2 X_arg3 k x
    = invOf (blockMax (tileW arg2 arg3 X_arg2 X_arg3 k) 0 (128 * 1 + (x 2).val)) :=
  invload_HW_arg10_2 arg2 arg3 arg8 arg9 arg10 X_arg2 X_arg3 k 0 (by decide) inb_S2x8x128_S1x1x128_1_0_0 x
theorem v2370_eq (x : S1x1x128.Idx) : trip_k0_t1.sl.v2370 arg2 arg3 arg8 arg9 arg10 X_arg2 X_arg3 k x
    = invOf (blockMax (tileW arg2 arg3 X_arg2 X_arg3 k) 1 (128 * 1 + (x 2).val)) :=
  invload_HW_arg10_2 arg2 arg3 arg8 arg9 arg10 X_arg2 X_arg3 k 1 (by decide) inb_S2x8x128_S1x1x128_1_1_0 x
theorem v2567_eq (x : S1x1x128.Idx) : trip_k0_t1.sl.v2567 arg2 arg3 arg8 arg9 arg10 X_arg2 X_arg3 k x
    = invOf (blockMax (tileW arg2 arg3 X_arg2 X_arg3 k) 2 (128 * 1 + (x 2).val)) :=
  invload_HW_arg10_2 arg2 arg3 arg8 arg9 arg10 X_arg2 X_arg3 k 2 (by decide) inb_S2x8x128_S1x1x128_1_2_0 x
theorem v2764_eq (x : S1x1x128.Idx) : trip_k0_t1.sl.v2764 arg2 arg3 arg8 arg9 arg10 X_arg2 X_arg3 k x
    = invOf (blockMax (tileW arg2 arg3 X_arg2 X_arg3 k) 3 (128 * 1 + (x 2).val)) :=
  invload_HW_arg10_2 arg2 arg3 arg8 arg9 arg10 X_arg2 X_arg3 k 3 (by decide) inb_S2x8x128_S1x1x128_1_3_0 x
theorem v2961_eq (x : S1x1x128.Idx) : trip_k0_t1.sl.v2961 arg2 arg3 arg8 arg9 arg10 X_arg2 X_arg3 k x
    = invOf (blockMax (tileW arg2 arg3 X_arg2 X_arg3 k) 4 (128 * 1 + (x 2).val)) :=
  invload_HW_arg10_2 arg2 arg3 arg8 arg9 arg10 X_arg2 X_arg3 k 4 (by decide) inb_S2x8x128_S1x1x128_1_4_0 x
theorem v3158_eq (x : S1x1x128.Idx) : trip_k0_t1.sl.v3158 arg2 arg3 arg8 arg9 arg10 X_arg2 X_arg3 k x
    = invOf (blockMax (tileW arg2 arg3 X_arg2 X_arg3 k) 5 (128 * 1 + (x 2).val)) :=
  invload_HW_arg10_2 arg2 arg3 arg8 arg9 arg10 X_arg2 X_arg3 k 5 (by decide) inb_S2x8x128_S1x1x128_1_5_0 x
theorem v329_eq (x : S1x1x128.Idx) : trip_k0_t1.sl.v329 arg2 arg3 arg8 arg9 arg10 X_arg2 X_arg3 k x
    = invOf (blockMax (tileW arg2 arg3 X_arg2 X_arg3 k) 0 (128 * 0 + (x 2).val)) :=
  invload_HW_arg10_1 arg2 arg3 arg8 arg9 arg10 X_arg2 X_arg3 k 0 (by decide) inb_S2x8x128_S1x1x128_0_0_0 x
theorem v3355_eq (x : S1x1x128.Idx) : trip_k0_t1.sl.v3355 arg2 arg3 arg8 arg9 arg10 X_arg2 X_arg3 k x
    = invOf (blockMax (tileW arg2 arg3 X_arg2 X_arg3 k) 6 (128 * 1 + (x 2).val)) :=
  invload_HW_arg10_2 arg2 arg3 arg8 arg9 arg10 X_arg2 X_arg3 k 6 (by decide) inb_S2x8x128_S1x1x128_1_6_0 x
theorem v3552_eq (x : S1x1x128.Idx) : trip_k0_t1.sl.v3552 arg2 arg3 arg8 arg9 arg10 X_arg2 X_arg3 k x
    = invOf (blockMax (tileW arg2 arg3 X_arg2 X_arg3 k) 7 (128 * 1 + (x 2).val)) :=
  invload_HW_arg10_2 arg2 arg3 arg8 arg9 arg10 X_arg2 X_arg3 k 7 (by decide) inb_S2x8x128_S1x1x128_1_7_0 x
theorem v526_eq (x : S1x1x128.Idx) : trip_k0_t1.sl.v526 arg2 arg3 arg8 arg9 arg10 X_arg2 X_arg3 k x
    = invOf (blockMax (tileW arg2 arg3 X_arg2 X_arg3 k) 1 (128 * 0 + (x 2).val)) :=
  invload_HW_arg10_1 arg2 arg3 arg8 arg9 arg10 X_arg2 X_arg3 k 1 (by decide) inb_S2x8x128_S1x1x128_0_1_0 x
theorem v723_eq (x : S1x1x128.Idx) : trip_k0_t1.sl.v723 arg2 arg3 arg8 arg9 arg10 X_arg2 X_arg3 k x
    = invOf (blockMax (tileW arg2 arg3 X_arg2 X_arg3 k) 2 (128 * 0 + (x 2).val)) :=
  invload_HW_arg10_1 arg2 arg3 arg8 arg9 arg10 X_arg2 X_arg3 k 2 (by decide) inb_S2x8x128_S1x1x128_0_2_0 x
theorem v920_eq (x : S1x1x128.Idx) : trip_k0_t1.sl.v920 arg2 arg3 arg8 arg9 arg10 X_arg2 X_arg3 k x
    = invOf (blockMax (tileW arg2 arg3 X_arg2 X_arg3 k) 3 (128 * 0 + (x 2).val)) :=
  invload_HW_arg10_1 arg2 arg3 arg8 arg9 arg10 X_arg2 X_arg3 k 3 (by decide) inb_S2x8x128_S1x1x128_0_3_0 x

end Cert.Proof.Weights
-- ==== Proof.Words.lean ====
/-
  Words and nibbles.  The kernel packs eight codes of four bits in a word: nibble `n` of word `a` belongs to token `8·a + n`
  of the tile.  This module reads the packed vectors element by element: two values of a token pair in the halves of a word,
  the halves shifted, the eight blocks of a tile put together, the nibbles joined, the bytes joined.
-/
module

public import proofs.«01_k».proof.Proof.Weights
public import Idealize.ShloMosaic.Lib.BitcastPair
public import Idealize.ShloMosaic.Lib.BitcastFour
public import Idealize.ShloMosaic.Lib.Pipeline.Value

@[expose] public section

noncomputable section

namespace Cert.Proof.Words

open Cert.KernelIdeal Cert.KernelIdeal.Gen
open Idealize.ShloMosaic Idealize.ShloMosaic.TcCoe

variable {F : FTy → Type} [FloatOps F]

/-! ## Bits of a shifted word -/

theorem app_bit (h l : BitVec 16) (i : ℕ) : (h ++ l : BitVec 32).getLsbD i = if i < 16 then l.getLsbD i else h.getLsbD (i - 16) :=
  BitVec.getLsbD_append

theorem nib_low (h l : BitVec 16) (n : ℕ) (hn : n ≤ 12) :
    (((h ++ l : BitVec 32).sshiftRight n).extractLsb' (16 * 0) 16).extractLsb' 0 4 = l.extractLsb' n 4 := by
  apply BitVec.eq_of_getLsbD_eq
  intro i hi
  have h1 : 0 + i < 16 := by omega
  have h2 : ¬ 32 ≤ 16 * 0 + (0 + i) := by omega
  have h3 : n + (16 * 0 + (0 + i)) < 32 := by omega
  have h4 : n + (16 * 0 + (0 + i)) < 16 := by omega
  have h5 : n + (16 * 0 + (0 + i)) = n + i := by omega
  rw [BitVec.getLsbD_extractLsb', BitVec.getLsbD_extractLsb', BitVec.getLsbD_extractLsb', BitVec.getLsbD_sshiftRight, if_pos h3, app_bit, if_pos h4, h5,
    decide_eq_true hi, decide_eq_true h1, decide_eq_false h2]
  simp

theorem nib_high (h l : BitVec 16) (n : ℕ) (hn : n ≤ 12) :
    (((h ++ l : BitVec 32).sshiftRight n).extractLsb' (16 * 1) 16).extractLsb' 0 4 = h.extractLsb' n 4 := by
  apply BitVec.eq_of_getLsbD_eq
  intro i hi
  have h1 : 0 + i < 16 := by omega
  have h2 : ¬ 32 ≤ 16 * 1 + (0 + i) := by omega
  have h3 : n + (16 * 1 + (0 + i)) < 32 := by omega
  have h4 : ¬ n + (16 * 1 + (0 + i)) < 16 := by omega
  have h5 : n + (16 * 1 + (0 + i)) - 16 = n + i := by omega
  rw [BitVec.getLsbD_extractLsb', BitVec.getLsbD_extractLsb', BitVec.getLsbD_extractLsb', BitVec.getLsbD_sshiftRight, if_pos h3, app_bit, if_neg h4, h5,
    decide_eq_true hi, decide_eq_true h1, decide_eq_false h2]
  simp

/-- A word's arithmetic shift by at most twelve keeps, in the low nibble of each half, four bits of that half. -/
theorem shrsi_nib (h l : BitVec 16) (n : ℕ) (hn : n ≤ 12) (p : ℕ) (hp : p < 2) :
    ((IntOp.shrsi .vector (h ++ l : BitVec 32) (BitVec.ofNat 32 n)).extractLsb' (16 * p) 16).extractLsb' 0 4
      = (if p = 0 then l else h).extractLsb' n 4 := by
  have e : IntOp.shrsi .vector (h ++ l : BitVec 32) (BitVec.ofNat 32 n) = (h ++ l : BitVec 32).sshiftRight n := by
    unfold IntOp.shrsi
    have : (BitVec.ofNat 32 n).toNat = n := by simp; omega
    rw [this, if_pos (by omega), BitVec.sshiftRight', this]
  rw [e]
  interval_cases p
  · exact nib_low h l n hn
  · exact nib_high h l n hn

/-- The random byte `b` as the kernel subtracts it: `2·b − 511` in sixteen bits. -/
def rnd (b : BitVec 8) : BitVec 16 := 65025#16 ||| (b.setWidth 16 <<< 1)

/-- Byte `b` of a word. -/
def byteAt (w : BitVec 32) (b : ℕ) : BitVec 8 := w.extractLsb' (8 * b) 8

theorem mask_bit (i : ℕ) (hi : i < 32) : (4261543425#32 : BitVec 32).getLsbD i = decide (i = 0 ∨ (9 ≤ i ∧ i ≤ 16) ∨ 25 ≤ i) := by
  interval_cases i <;> rfl

theorem mask_bit16 (i : ℕ) (hi : i < 16) : (65025#16 : BitVec 16).getLsbD i = decide (i = 0 ∨ 9 ≤ i) := by
  interval_cases i <;> rfl

theorem rand_even (w : BitVec 32) (p : ℕ) (hp : p < 2) :
    (IntOp.ori (IntOp.shli .vector w 1#32) 4261543425#32).extractLsb' (16 * p) 16 = rnd (byteAt w (2 * p)) := by
  have e : IntOp.shli .vector w 1#32 = w <<< 1 := rfl
  rw [e]
  apply BitVec.eq_of_getLsbD_eq
  intro i hi
  unfold IntOp.ori rnd byteAt
  rw [BitVec.getLsbD_extractLsb', BitVec.getLsbD_or, BitVec.getLsbD_or, mask_bit _ (by omega), mask_bit16 _ hi, BitVec.getLsbD_shiftLeft,
    BitVec.getLsbD_shiftLeft, BitVec.getLsbD_setWidth, BitVec.getLsbD_extractLsb']
  interval_cases p <;> interval_cases i <;> simp

theorem rand_odd (w : BitVec 32) (p : ℕ) (hp : p < 2) :
    (IntOp.ori (IntOp.shrui .vector w 7#32) 4261543425#32).extractLsb' (16 * p) 16 = rnd (byteAt w (2 * p + 1)) := by
  have e : IntOp.shrui .vector w 7#32 = w >>> 7 := rfl
  rw [e]
  apply BitVec.eq_of_getLsbD_eq
  intro i hi
  unfold IntOp.ori rnd byteAt
  rw [BitVec.getLsbD_extractLsb', BitVec.getLsbD_or, BitVec.getLsbD_or, mask_bit _ (by omega), mask_bit16 _ hi, BitVec.getLsbD_ushiftRight,
    BitVec.getLsbD_shiftLeft, BitVec.getLsbD_setWidth, BitVec.getLsbD_extractLsb']
  interval_cases p <;> interval_cases i <;> simp

/-! ## The halves of a word -/

/-- The word of a row of sixteen-bit pairs: the odd row over the even one. -/
theorem halves_16_32 (x : S16x128.Idx → BitVec 16) (z : S8x128.Idx) (r0 r1 : Fin 16) (h0 : r0.val = 2 * (z 0).val) (h1 : r1.val = 2 * (z 0).val + 1) :
    bitcast S8x128 32 x bitcasts_S16x128_w16_S8x128_w32 z = x (ValueIdx.ix2 r1 (z 1)) ++ x (ValueIdx.ix2 r0 (z 1)) := by
  rw [bitcast_16_32]
  congr 2 <;> refine Shape.idx_ext₂ ?_ ?_
  · exact (Shape.Bitcasts.srcIdx_row _ _ _ _ _ rfl).trans h1.symm
  · exact Shape.Bitcasts.srcIdx_other _ _ _ _ _ (by decide)
  · exact (Shape.Bitcasts.srcIdx_row _ _ _ _ _ rfl).trans h0.symm
  · exact Shape.Bitcasts.srcIdx_other _ _ _ _ _ (by decide)

/-- A half of a word, by its row. -/
theorem halves_32_16 (x : S8x128.Idx → BitVec 32) (y : S16x128.Idx) (s : Fin 8) (p : ℕ) (hy : (y 0).val = 2 * s.val + p) (hp : p < 2) :
    bitcast S16x128 16 x bitcasts_S8x128_w32_S16x128_w16 y = (x (ValueIdx.ix2 s (y 1))).extractLsb' (16 * p) 16 := by
  rw [bitcast_32_16]
  have hr : S16x128.row y = (y 0).val := rfl
  have e : S16x128.row y % 2 = p := by rw [hr]; omega
  have ei : ∀ hh, bitcasts_S8x128_w32_S16x128_w16.srcIdx y (S16x128.row y / 2) hh = ValueIdx.ix2 s (y 1) := fun hh =>
    Shape.idx_ext₂ ((Shape.Bitcasts.srcIdx_row _ _ _ _ _ rfl).trans (by rw [hr]; show (y 0).val / 2 = s.val; omega))
      (Shape.Bitcasts.srcIdx_other _ _ _ _ _ (by decide))
  rw [e, ei]
  rfl

/-- The quotients of a row of token pairs less their random halves, shifted by nine. -/
def evV (R0 q0 q2 : IVec S8x128 32) : IVec S16x128 16 :=
  bitcast S16x128 16 (shrsi (bitcast S8x128 32 (subi (bitcast S16x128 16 (packElementwiseI16 q0 q2) bitcasts_S8x128_w32_S16x128_w16)
    (bitcast S16x128 16 R0 bitcasts_S8x128_w32_S16x128_w16)) bitcasts_S16x128_w16_S8x128_w32) (broadcast S8x128 9#32)) bitcasts_S8x128_w32_S16x128_w16

theorem pack_half (a b : BitVec 32) (p : ℕ) (hp : p < 2) :
    (b.setWidth 16 ++ a.setWidth 16 : BitVec 32).extractLsb' (16 * p) 16 = (if p = 0 then a else b).setWidth 16 := by
  apply BitVec.eq_of_getLsbD_eq
  intro i hi
  interval_cases p
  · rw [BitVec.getLsbD_extractLsb', app_bit, if_pos (by omega)]; simp [hi]
  · rw [BitVec.getLsbD_extractLsb', app_bit, if_neg (by omega)]; simp [hi]

theorem evV_apply (R0 q0 q2 : IVec S8x128 32) (y : S16x128.Idx) (s : Fin 8) (p : ℕ) (hy : (y 0).val = 2 * s.val + p) (hp : p < 2) :
    (evV R0 q0 q2 y).extractLsb' 0 4
      = ((if p = 0 then q0 (ValueIdx.ix2 s (y 1)) else q2 (ValueIdx.ix2 s (y 1))).setWidth 16
          - (R0 (ValueIdx.ix2 s (y 1))).extractLsb' (16 * p) 16).extractLsb' 9 4 := by
  unfold evV
  rw [halves_32_16 _ y s p hy hp]
  have h0 : 2 * s.val < 16 := by have := s.isLt; omega
  have h1 : 2 * s.val + 1 < 16 := by have := s.isLt; omega
  have e : ∀ (X : S16x128.Idx → BitVec 16), shrsi (bitcast S8x128 32 X bitcasts_S16x128_w16_S8x128_w32) (broadcast S8x128 9#32) (ValueIdx.ix2 s (y 1))
      = IntOp.shrsi .vector (X (ValueIdx.ix2 ⟨2 * s.val + 1, h1⟩ (y 1)) ++ X (ValueIdx.ix2 ⟨2 * s.val, h0⟩ (y 1))) (BitVec.ofNat 32 9) := fun X => by
    rw [← halves_16_32 X (ValueIdx.ix2 s (y 1)) ⟨2 * s.val, h0⟩ ⟨2 * s.val + 1, h1⟩ rfl rfl]; rfl
  rw [e, shrsi_nib _ _ 9 (by decide) p hp]
  have sub : ∀ (A B : S16x128.Idx → BitVec 16) (i : S16x128.Idx), subi A B i = A i - B i := fun _ _ _ => rfl
  rw [sub, sub]
  interval_cases p
  · simp only [if_true]
    rw [halves_32_16 _ (ValueIdx.ix2 ⟨2 * s.val, h0⟩ (y 1)) s 0 rfl (by decide), halves_32_16 _ (ValueIdx.ix2 ⟨2 * s.val, h0⟩ (y 1)) s 0 rfl (by decide)]
    rw [packElementwiseI16_apply, pack_half _ _ 0 (by decide)]; rfl
  · simp only [one_ne_zero, if_false]
    rw [halves_32_16 _ (ValueIdx.ix2 ⟨2 * s.val + 1, h1⟩ (y 1)) s 1 rfl (by decide), halves_32_16 _ (ValueIdx.ix2 ⟨2 * s.val + 1, h1⟩ (y 1)) s 1 rfl (by decide)]
    rw [packElementwiseI16_apply, pack_half _ _ 1 (by decide)]; rfl

/-- The signs of a row of token pairs, shifted by twelve. -/
def sgV (w0 w2 : FVec F S8x128 .f32) : IVec S16x128 16 :=
  bitcast S16x128 16 (shrsi (packElementwiseI16
    (select (cmpf .olt w0 (broadcast S8x128 (Scalar.ofBits .f32 0x00000000#32))) (broadcast S8x128 4294934528#32) (broadcast S8x128 0#32))
    (select (cmpf .olt w2 (broadcast S8x128 (Scalar.ofBits .f32 0x00000000#32))) (broadcast S8x128 4294934528#32) (broadcast S8x128 0#32)))
    (broadcast S8x128 12#32)) bitcasts_S8x128_w32_S16x128_w16

/-- The sign nibble of a number: `8` when it is below zero. -/
def sgn (w : F .f32) : BitVec 4 := Scalar.select (FloatOps.cmpf .olt w (FloatOps.ofBits .f32 0x00000000#32)) 8#4 0#4

theorem sel_nib (c : BitVec 1) : BitVec.extractLsb' 12 4 (BitVec.setWidth 16 (Scalar.select c 4294934528#32 0#32)) = Scalar.select c 8#4 0#4 := by
  unfold Scalar.select
  split <;> rfl

theorem sgV_apply (w0 w2 : FVec F S8x128 .f32) (y : S16x128.Idx) (s : Fin 8) (p : ℕ) (hy : (y 0).val = 2 * s.val + p) (hp : p < 2) :
    (sgV w0 w2 y).extractLsb' 0 4 = if p = 0 then sgn (w0 (ValueIdx.ix2 s (y 1))) else sgn (w2 (ValueIdx.ix2 s (y 1))) := by
  unfold sgV
  rw [halves_32_16 _ y s p hy hp]
  have e : ∀ (a b : IVec S8x128 32) (i : S8x128.Idx), shrsi (packElementwiseI16 a b) (broadcast S8x128 12#32) i
    = IntOp.shrsi .vector ((b i).setWidth 16 ++ (a i).setWidth 16 : BitVec 32) 12#32 := fun a b i => by
      show IntOp.shrsi .vector (packElementwiseI16 a b i) 12#32 = _
      rw [packElementwiseI16_apply]
  rw [e, shrsi_nib _ _ 12 (by decide) p hp]
  interval_cases p
  · rw [if_pos rfl, if_pos rfl]; exact sel_nib (FloatOps.cmpf .olt (w0 (ValueIdx.ix2 s (y 1))) (FloatOps.ofBits .f32 0x00000000#32))
  · rw [if_neg one_ne_zero, if_neg one_ne_zero]; exact sel_nib (FloatOps.cmpf .olt (w2 (ValueIdx.ix2 s (y 1))) (FloatOps.ofBits .f32 0x00000000#32))

/-! ## The eight blocks of a tile, and the words -/

theorem concat8 (f0 f1 f2 f3 f4 f5 f6 f7 : S16x128.Idx → BitVec 16) (j : S128x128.Idx) (g : Fin 8) (r : Fin 16) (hj : (j 0).val = 16 * g.val + r.val) :
    concatenate S128x128 0 [⟨S16x128, f0⟩, ⟨S16x128, f1⟩, ⟨S16x128, f2⟩, ⟨S16x128, f3⟩, ⟨S16x128, f4⟩, ⟨S16x128, f5⟩, ⟨S16x128, f6⟩, ⟨S16x128, f7⟩]
        concatenates_S16x128_S16x128_S16x128_S16x128_S16x128_S16x128_S16x128_S16x128_S128x128_d0 j
      = (![f0, f1, f2, f3, f4, f5, f6, f7] g) (ValueIdx.ix2 r (j 1)) := by
  have key : ∀ (k : ℕ) (hk : k < 8) (f : S16x128.Idx → BitVec 16)
      (hxk : [(⟨S16x128, f0⟩ : (s : Shape) × (s.Idx → BitVec 16)), ⟨S16x128, f1⟩, ⟨S16x128, f2⟩, ⟨S16x128, f3⟩, ⟨S16x128, f4⟩, ⟨S16x128, f5⟩, ⟨S16x128, f6⟩, ⟨S16x128, f7⟩][k]'(hk) = ⟨S16x128, f⟩)
      (hpre : (((([(⟨S16x128, f0⟩ : (s : Shape) × (s.Idx → BitVec 16)), ⟨S16x128, f1⟩, ⟨S16x128, f2⟩, ⟨S16x128, f3⟩, ⟨S16x128, f4⟩, ⟨S16x128, f5⟩, ⟨S16x128, f6⟩, ⟨S16x128, f7⟩]).take k).map (·.1)).map
        fun s => if h : s.rank = S128x128.rank then s.size ((0 : Fin S128x128.rank).cast h.symm) else 0).sum = 16 * k) (hg : g.val = k),
      concatenate S128x128 0 [⟨S16x128, f0⟩, ⟨S16x128, f1⟩, ⟨S16x128, f2⟩, ⟨S16x128, f3⟩, ⟨S16x128, f4⟩, ⟨S16x128, f5⟩, ⟨S16x128, f6⟩, ⟨S16x128, f7⟩]
        concatenates_S16x128_S16x128_S16x128_S16x128_S16x128_S16x128_S16x128_S16x128_S128x128_d0 j = f (ValueIdx.ix2 r (j 1)) := by
    intro k hk f hxk hpre hg
    refine concatenate_apply_piece (t := S128x128) 0 [(⟨S16x128, f0⟩ : (s : Shape) × (s.Idx → BitVec 16)), ⟨S16x128, f1⟩, ⟨S16x128, f2⟩, ⟨S16x128, f3⟩, ⟨S16x128, f4⟩, ⟨S16x128, f5⟩, ⟨S16x128, f6⟩, ⟨S16x128, f7⟩] _ j k hk S16x128 f hxk rfl (16 * k) hpre (ValueIdx.ix2 r (j 1)) ?_ ?_
    · intro b hb
      match b with
      | ⟨0, _⟩ => exact absurd rfl hb
      | ⟨1, _⟩ => rfl
    · show 16 * k + r.val = (j 0).val; omega
  obtain ⟨k, hk⟩ := g
  interval_cases k
  · exact key 0 (by decide) f0 rfl rfl rfl
  · exact key 1 (by decide) f1 rfl rfl rfl
  · exact key 2 (by decide) f2 rfl rfl rfl
  · exact key 3 (by decide) f3 rfl rfl rfl
  · exact key 4 (by decide) f4 rfl rfl rfl
  · exact key 5 (by decide) f5 rfl rfl rfl
  · exact key 6 (by decide) f6 rfl rfl rfl
  · exact key 7 (by decide) f7 rfl rfl rfl

/-- The byte of a token pair. -/
def byteOf (f : ℕ → BitVec 4) (p : ℕ) : BitVec 8 := f (2 * p + 1) ++ f (2 * p)

theorem byte_join (e o : BitVec 16) : IntOp.ori (IntOp.andi (e.setWidth 8) 15#8) (IntOp.shli .vector (o.setWidth 8) 4#8)
    = o.extractLsb' 0 4 ++ e.extractLsb' 0 4 := by
  have h : IntOp.shli .vector (o.setWidth 8) 4#8 = o.setWidth 8 <<< 4 := rfl
  rw [h]
  apply BitVec.eq_of_getLsbD_eq
  intro i hi
  have h15 : ∀ i, i < 8 → (15#8 : BitVec 8).getLsbD i = decide (i < 4) := by intro i hi; interval_cases i <;> rfl
  unfold IntOp.ori IntOp.andi
  rw [BitVec.getLsbD_or, BitVec.getLsbD_and, h15 i hi, BitVec.getLsbD_shiftLeft, BitVec.getLsbD_append]
  interval_cases i <;> simp [BitVec.getLsbD_extractLsb']

/-- The packed words of a tile: the eight blocks' even and odd rows put together, their nibbles joined, four bytes to a word. -/
def packV (e0 e1 e2 e3 e4 e5 e6 e7 o0 o1 o2 o3 o4 o5 o6 o7 : IVec S16x128 16) : IVec S32x128 32 :=
  bitcast S32x128 32 (ori
    (andi (trunci 8 (concatenate S128x128 0 [⟨S16x128, e0⟩, ⟨S16x128, e1⟩, ⟨S16x128, e2⟩, ⟨S16x128, e3⟩, ⟨S16x128, e4⟩, ⟨S16x128, e5⟩, ⟨S16x128, e6⟩, ⟨S16x128, e7⟩]
      concatenates_S16x128_S16x128_S16x128_S16x128_S16x128_S16x128_S16x128_S16x128_S128x128_d0) natLt_8_16) (broadcast S128x128 15#8))
    (shli (trunci 8 (concatenate S128x128 0 [⟨S16x128, o0⟩, ⟨S16x128, o1⟩, ⟨S16x128, o2⟩, ⟨S16x128, o3⟩, ⟨S16x128, o4⟩, ⟨S16x128, o5⟩, ⟨S16x128, o6⟩, ⟨S16x128, o7⟩]
      concatenates_S16x128_S16x128_S16x128_S16x128_S16x128_S16x128_S16x128_S16x128_S128x128_d0) natLt_8_16) (broadcast S128x128 4#8)))
    bitcasts_S128x128_w8_S32x128_w32

/-- The word of eight tokens. -/
def wordOf (f : ℕ → BitVec 4) (a : ℕ) : BitVec 32 :=
  (byteOf f (4 * a + 3) ++ byteOf f (4 * a + 2) : BitVec 16) ++ (byteOf f (4 * a + 1) ++ byteOf f (4 * a) : BitVec 16)

theorem wordOf_getLsbD (f : ℕ → BitVec 4) (a q : ℕ) (hq : q < 32) : (wordOf f a).getLsbD q = (byteOf f (4 * a + q / 8)).getLsbD (q % 8) := by
  unfold wordOf
  simp only [BitVec.getLsbD_append]
  have hc : q / 8 = 0 ∨ q / 8 = 1 ∨ q / 8 = 2 ∨ q / 8 = 3 := by omega
  rcases hc with h | h | h | h
  · have : q < 16 := by omega
    have : q < 8 := by omega
    rw [h]; simp only [*, if_true]; congr 1; omega
  · have : q < 16 := by omega
    have : ¬ q < 8 := by omega
    rw [h]; simp only [*, if_true, if_false]; congr 1; omega
  · have : ¬ q < 16 := by omega
    have : q - 16 < 8 := by omega
    rw [h]; simp only [*, if_true, if_false]; congr 1; omega
  · have : ¬ q < 16 := by omega
    have : ¬ q - 16 < 8 := by omega
    rw [h]; simp only [*, if_true, if_false]; congr 1; omega

/-- What the packed words hold, given the nibbles of the even and odd rows. -/
theorem packV_apply (e0 e1 e2 e3 e4 e5 e6 e7 o0 o1 o2 o3 o4 o5 o6 o7 : IVec S16x128 16) (f : ℕ → ℕ → BitVec 4)
    (he0 : ∀ y, (e0 y).extractLsb' 0 4 = f (32 * 0 + 2 * (y 0).val) (y 1).val)
    (he1 : ∀ y, (e1 y).extractLsb' 0 4 = f (32 * 1 + 2 * (y 0).val) (y 1).val)
    (he2 : ∀ y, (e2 y).extractLsb' 0 4 = f (32 * 2 + 2 * (y 0).val) (y 1).val)
    (he3 : ∀ y, (e3 y).extractLsb' 0 4 = f (32 * 3 + 2 * (y 0).val) (y 1).val)
    (he4 : ∀ y, (e4 y).extractLsb' 0 4 = f (32 * 4 + 2 * (y 0).val) (y 1).val)
    (he5 : ∀ y, (e5 y).extractLsb' 0 4 = f (32 * 5 + 2 * (y 0).val) (y 1).val)
    (he6 : ∀ y, (e6 y).extractLsb' 0 4 = f (32 * 6 + 2 * (y 0).val) (y 1).val)
    (he7 : ∀ y, (e7 y).extractLsb' 0 4 = f (32 * 7 + 2 * (y 0).val) (y 1).val)
    (ho0 : ∀ y, (o0 y).extractLsb' 0 4 = f (32 * 0 + 2 * (y 0).val + 1) (y 1).val)
    (ho1 : ∀ y, (o1 y).extractLsb' 0 4 = f (32 * 1 + 2 * (y 0).val + 1) (y 1).val)
    (ho2 : ∀ y, (o2 y).extractLsb' 0 4 = f (32 * 2 + 2 * (y 0).val + 1) (y 1).val)
    (ho3 : ∀ y, (o3 y).extractLsb' 0 4 = f (32 * 3 + 2 * (y 0).val + 1) (y 1).val)
    (ho4 : ∀ y, (o4 y).extractLsb' 0 4 = f (32 * 4 + 2 * (y 0).val + 1) (y 1).val)
    (ho5 : ∀ y, (o5 y).extractLsb' 0 4 = f (32 * 5 + 2 * (y 0).val + 1) (y 1).val)
    (ho6 : ∀ y, (o6 y).extractLsb' 0 4 = f (32 * 6 + 2 * (y 0).val + 1) (y 1).val)
    (ho7 : ∀ y, (o7 y).extractLsb' 0 4 = f (32 * 7 + 2 * (y 0).val + 1) (y 1).val)
    (z : S32x128.Idx) :
    packV e0 e1 e2 e3 e4 e5 e6 e7 o0 o1 o2 o3 o4 o5 o6 o7 z = wordOf (fun t => f t (z 1).val) (z 0).val := by
  have he : ∀ (g : Fin 8) (y : S16x128.Idx), ((![e0, e1, e2, e3, e4, e5, e6, e7] g) y).extractLsb' 0 4 = f (32 * g.val + 2 * (y 0).val) (y 1).val := by
    rintro ⟨g, hg⟩ y
    interval_cases g
    · exact he0 y
    · exact he1 y
    · exact he2 y
    · exact he3 y
    · exact he4 y
    · exact he5 y
    · exact he6 y
    · exact he7 y
  have ho : ∀ (g : Fin 8) (y : S16x128.Idx), ((![o0, o1, o2, o3, o4, o5, o6, o7] g) y).extractLsb' 0 4 = f (32 * g.val + 2 * (y 0).val + 1) (y 1).val := by
    rintro ⟨g, hg⟩ y
    interval_cases g
    · exact ho0 y
    · exact ho1 y
    · exact ho2 y
    · exact ho3 y
    · exact ho4 y
    · exact ho5 y
    · exact ho6 y
    · exact ho7 y
  have hz : (z 0).val < 32 := (z 0).isLt
  apply BitVec.eq_of_getLsbD_eq
  intro q hq
  rw [wordOf_getLsbD _ _ _ hq]
  have hp : 4 * (z 0).val + q / 8 < 128 := by omega
  have ez : z = ValueIdx.ix2 (z 0) (z 1) := Shape.idx_ext₂ rfl rfl
  unfold packV
  rw [ez]
  refine (bitcast_8_32_getLsbD_ix2 _ bitcasts_S128x128_w8_S32x128_w32 (z 0) (z 1) q hq ⟨4 * (z 0).val + q / 8, hp⟩ rfl).trans ?_
  congr 1
  have hg : (4 * (z 0).val + q / 8) / 16 < 8 := by omega
  have hr : (4 * (z 0).val + q / 8) % 16 < 16 := by omega
  refine (byte_join _ _).trans ?_
  rw [concat8 _ _ _ _ _ _ _ _ _ ⟨_, hg⟩ ⟨_, hr⟩ (by show 4 * (z 0).val + q / 8 = 16 * ((4 * (z 0).val + q / 8) / 16) + (4 * (z 0).val + q / 8) % 16; omega),
    concat8 _ _ _ _ _ _ _ _ _ ⟨_, hg⟩ ⟨_, hr⟩ (by show 4 * (z 0).val + q / 8 = 16 * ((4 * (z 0).val + q / 8) / 16) + (4 * (z 0).val + q / 8) % 16; omega), he, ho]
  unfold byteOf
  show f (32 * ((4 * (z 0).val + q / 8) / 16) + 2 * ((4 * (z 0).val + q / 8) % 16) + 1) (z 1).val ++ f (32 * ((4 * (z 0).val + q / 8) / 16) + 2 * ((4 * (z 0).val + q / 8) % 16)) (z 1).val
    = f (2 * (4 * (z 0).val + q / 8) + 1) (z 1).val ++ f (2 * (4 * (z 0).val + q / 8)) (z 1).val
  congr 2 <;> omega

end Cert.Proof.Words
-- ==== Proof.Sites.lean ====
/-
  One trip of the kernel's loop, the codes.  For each of the tile's eight blocks of 32 tokens and each half of the channels,
  the trip's packed rows are the nibbles `nib` of the tile's tokens, and what it stores is the byte `codeByte` of a token pair.
-/
module

public import proofs.«01_k».proof.Proof.Words

@[expose] public section

noncomputable section

namespace Cert.Proof.Sites

open Cert.KernelIdeal Cert.KernelIdeal.Gen Cert.Proof.Weights Cert.Proof.Words
open Idealize.ShloMosaic Idealize.ShloMosaic.TcCoe

variable {F : FTy → Type} [FloatOps F]

/-! ## One element's code -/

/-- The magnitude over the scale, and that or the knee added. -/
def zOf (iv w : F .f32) : F .f32 :=
  FloatOps.addf (FloatOps.mulf (FloatOps.absf w) iv)
    (FloatOps.maximumf (FloatOps.mulf (FloatOps.absf w) iv) (FloatOps.ofBits .f32 0x3FFFFFFF#32))

/-- The exponent field of `z`, told by comparing. -/
def exOf (z : F .f32) : BitVec 32 :=
  Scalar.select (FloatOps.cmpf .oge z (FloatOps.ofBits .f32 0x41000000#32))
    (Scalar.select (FloatOps.cmpf .oge z (FloatOps.ofBits .f32 0x41800000#32)) 131#32 130#32)
    (Scalar.select (FloatOps.cmpf .oge z (FloatOps.ofBits .f32 0x40800000#32)) 129#32
      (Scalar.select (FloatOps.cmpf .oge z (FloatOps.ofBits .f32 0x40000000#32)) 128#32 127#32))

/-- The exponent and the ten leading fraction bits of `z`. -/
def top (z : F .f32) : BitVec 32 :=
  IntOp.addi (IntOp.shli .vector (IntOp.subi (exOf z) 1#32) 10#32)
    (FloatOps.fptosi 32 (FloatOps.mulf z (FloatOps.ofBits .f32 (IntOp.shli .vector (IntOp.subi 264#32 (exOf z)) 23#32))))

/-- The same, of eight rows. -/
def topV (iv : Vec F S1x1x128 .f32) (w : Vec F S8x128 .f32) : IVec S8x128 32 := k0_pay26 (k0_pay25 iv w)

theorem pay24_apply (iv : Vec F S1x1x128 .f32) (x : S8x128.Idx) : k0_pay24 iv x = iv (ValueIdx.ix3 0 0 (x 1)) := by
  unfold k0_pay24
  rw [shapeCast_self]
  refine (broadcastTo_apply _ broadcasts_S1x128_S8x128 x (ValueIdx.ix2 (0 : Fin 1) (x 1)) ?_).trans ?_
  · intro a
    match a with
    | ⟨0, _⟩ => rfl
    | ⟨1, _⟩ => rfl
  refine (shapeCast_dropUnit_apply _ iv _ _).trans (congrArg iv ?_)
  funext a
  match a with
  | ⟨0, _⟩ => rfl
  | ⟨1, _⟩ => rfl
  | ⟨2, _⟩ => rfl

theorem pay26_apply (z : FVec F S8x128 .f32) (x : S8x128.Idx) : k0_pay26 z x = top (z x) := by
  unfold k0_pay26 top exOf
  simp only [addi_apply, subi_apply, shli_apply, fptosi_apply, mulf_apply, bitcastToFloat_apply, ValueIdx.select_apply, ValueIdx.cmpf_apply]
  rfl

theorem topV_apply (iv : Vec F S1x1x128 .f32) (w : Vec F S8x128 .f32) (x : S8x128.Idx) :
    topV iv w x = top (zOf (iv (ValueIdx.ix3 0 0 (x 1))) (w x)) := by
  have e : k0_pay25 iv w x = zOf (iv (ValueIdx.ix3 0 0 (x 1))) (w x) := by
    rw [← pay24_apply iv x]; rfl
  rw [← e]
  exact pay26_apply _ x

/-- Token `t` of channel `c` of the tile. -/
def tok (W : S256x256.Idx → F .f32) (t c : ℕ) : F .f32 := wAt W (32 * (t / 32) + 8 * (t % 4) + t % 32 / 4) c

/-- The four bits the kernel keeps of token `t`, channel `c`, before the top code is brought down and the sign put in. -/
def nib (W : S256x256.Idx → F .f32) (R : ℕ → ℕ → BitVec 8) (t c : ℕ) : BitVec 4 :=
  ((top (zOf (invOf (blockMax W (t / 32) c)) (tok W t c))).setWidth 16 - rnd (R t c)).extractLsb' 9 4

/-! ## The random words -/

/-- The random bytes of 128 tokens, four tokens to a word. -/
def wordV (v : Vec F S1x128x128 .i8) : IVec S32x128 32 := k0_pay22 v

theorem wordV_byte (v : Vec F S1x128x128 .i8) (z : S32x128.Idx) (b : ℕ) (hb : b < 4) (t : Fin 128) (ht : t.val = 4 * (z 0).val + b) :
    byteAt (wordV v z) b = v (ValueIdx.ix3 0 (z 1) t) := by
  have ez : z = ValueIdx.ix2 (z 0) (z 1) := Shape.idx_ext₂ rfl rfl
  apply BitVec.eq_of_getLsbD_eq
  intro i hi
  unfold byteAt wordV k0_pay22
  rw [BitVec.getLsbD_extractLsb', decide_eq_true hi, Bool.true_and, ez]
  refine (bitcast_8_32_getLsbD_ix2 _ bitcasts_S128x128_w8_S32x128_w32 (z 0) (z 1) (8 * b + i) (by omega) t (by omega)).trans ?_
  have e : (8 * b + i) % 8 = i := by omega
  rw [e]
  congr 1
  refine (transpose_apply _ _ _ _ (ValueIdx.ix2 (z 1) t) ?_).trans ?_
  · intro b
    match b with
    | ⟨0, _⟩ => rfl
    | ⟨1, _⟩ => rfl
  refine (shapeCast_dropUnit_apply _ v _ _).trans (congrArg v ?_)
  funext a
  match a with
  | ⟨0, _⟩ => rfl
  | ⟨1, _⟩ => rfl
  | ⟨2, _⟩ => rfl

theorem slice_rows (v : IVec S32x128 32) (o : ℕ) (h : S32x128.Slices ![o, 0] S8x128) (x : S8x128.Idx) (r : Fin 32) (hr : r.val = o + (x 0).val) :
    extractStridedSlice S8x128 ![o, 0] v h x = v (ValueIdx.ix2 r (x 1)) := by
  refine extractStridedSlice_apply _ _ _ _ (ValueIdx.ix2 r (x 1)) ?_
  intro a
  match a with
  | ⟨0, _⟩ => exact hr
  | ⟨1, _⟩ => show (x 1).val = 0 + (x 1).val; omega

/-- Rows of four tokens' random bytes, the even tokens' halves. -/
def rEv (v : IVec S32x128 32) (o : ℕ) (h : S32x128.Slices ![o, 0] S8x128) : IVec S8x128 32 :=
  ori (shli (extractStridedSlice S8x128 ![o, 0] v h) (broadcast S8x128 1#32)) (broadcast S8x128 4261543425#32)

/-- The odd tokens' halves. -/
def rOd (v : IVec S32x128 32) (o : ℕ) (h : S32x128.Slices ![o, 0] S8x128) : IVec S8x128 32 :=
  ori (shrui (extractStridedSlice S8x128 ![o, 0] v h) (broadcast S8x128 7#32)) (broadcast S8x128 4261543425#32)

/-! ## A row of codes -/

section Row
variable (W : S256x256.Idx → F .f32) (R : ℕ → ℕ → BitVec 8) (hc g hf o : ℕ) (iv : Vec F S1x1x128 .f32) (w0 w2 : Vec F S8x128 .f32)
  (v : Vec F S1x128x128 .i8) (h : S32x128.Slices ![o, 0] S8x128)

theorem site_ev (hiv : ∀ x, iv x = invOf (blockMax W g (128 * hc + (x 2).val)))
    (hw0 : ∀ x, w0 x = wAt W (32 * g + (x 0).val) (128 * hc + (x 1).val))
    (hw2 : ∀ x, w2 x = wAt W (32 * g + 16 + (x 0).val) (128 * hc + (x 1).val))
    (hR : ∀ x, v x = R (128 * hf + (x 2).val) (128 * hc + (x 1).val)) (ho : 32 * g = 128 * hf + 4 * o) (ho' : o ≤ 24) (y : S16x128.Idx) :
    (evV (rEv (wordV v) o h) (topV iv w0) (topV iv w2) y).extractLsb' 0 4 = nib W R (32 * g + 2 * (y 0).val) (128 * hc + (y 1).val) := by
  have hy0 : (y 0).val < 16 := (y 0).isLt
  have hs : (y 0).val / 2 < 8 := by omega
  have hp : (y 0).val % 2 < 2 := by omega
  rw [evV_apply _ _ _ y ⟨(y 0).val / 2, hs⟩ ((y 0).val % 2) (by show (y 0).val = 2 * ((y 0).val / 2) + (y 0).val % 2; omega) hp]
  have er : (rEv (wordV v) o h (ValueIdx.ix2 ⟨(y 0).val / 2, hs⟩ (y 1))).extractLsb' (16 * ((y 0).val % 2)) 16
      = rnd (R (32 * g + 2 * (y 0).val) (128 * hc + (y 1).val)) := by
    refine (rand_even _ _ hp).trans (congrArg rnd ?_)
    rw [slice_rows _ o h _ ⟨o + (y 0).val / 2, by omega⟩ rfl]
    rw [wordV_byte v _ (2 * ((y 0).val % 2)) (by omega) ⟨4 * (o + (y 0).val / 2) + 2 * ((y 0).val % 2), by omega⟩ rfl, hR]
    congr 1
    show 128 * hf + (4 * (o + (y 0).val / 2) + 2 * ((y 0).val % 2)) = 32 * g + 2 * (y 0).val
    omega
  rw [er]
  unfold nib
  congr 3
  have hd : (32 * g + 2 * (y 0).val) / 32 = g := by omega
  rcases (show (y 0).val % 2 = 0 ∨ (y 0).val % 2 = 1 by omega) with e | e
  · rw [if_pos e, topV_apply, hiv, hw0, hd]
    unfold tok
    congr 2
    show wAt W (32 * g + (y 0).val / 2) _ = _
    congr 1; omega
  · rw [if_neg (by omega), topV_apply, hiv, hw2, hd]
    unfold tok
    congr 2
    show wAt W (32 * g + 16 + (y 0).val / 2) _ = _
    congr 1; omega

theorem site_od (hiv : ∀ x, iv x = invOf (blockMax W g (128 * hc + (x 2).val)))
    (hw0 : ∀ x, w0 x = wAt W (32 * g + 8 + (x 0).val) (128 * hc + (x 1).val))
    (hw2 : ∀ x, w2 x = wAt W (32 * g + 24 + (x 0).val) (128 * hc + (x 1).val))
    (hR : ∀ x, v x = R (128 * hf + (x 2).val) (128 * hc + (x 1).val)) (ho : 32 * g = 128 * hf + 4 * o) (ho' : o ≤ 24) (y : S16x128.Idx) :
    (evV (rOd (wordV v) o h) (topV iv w0) (topV iv w2) y).extractLsb' 0 4 = nib W R (32 * g + 2 * (y 0).val + 1) (128 * hc + (y 1).val) := by
  have hy0 : (y 0).val < 16 := (y 0).isLt
  have hs : (y 0).val / 2 < 8 := by omega
  have hp : (y 0).val % 2 < 2 := by omega
  rw [evV_apply _ _ _ y ⟨(y 0).val / 2, hs⟩ ((y 0).val % 2) (by show (y 0).val = 2 * ((y 0).val / 2) + (y 0).val % 2; omega) hp]
  have er : (rOd (wordV v) o h (ValueIdx.ix2 ⟨(y 0).val / 2, hs⟩ (y 1))).extractLsb' (16 * ((y 0).val % 2)) 16
      = rnd (R (32 * g + 2 * (y 0).val + 1) (128 * hc + (y 1).val)) := by
    refine (rand_odd _ _ hp).trans (congrArg rnd ?_)
    rw [slice_rows _ o h _ ⟨o + (y 0).val / 2, by omega⟩ rfl]
    rw [wordV_byte v _ (2 * ((y 0).val % 2) + 1) (by omega) ⟨4 * (o + (y 0).val / 2) + (2 * ((y 0).val % 2) + 1), by omega⟩ rfl, hR]
    congr 1
    show 128 * hf + (4 * (o + (y 0).val / 2) + (2 * ((y 0).val % 2) + 1)) = 32 * g + 2 * (y 0).val + 1
    omega
  rw [er]
  unfold nib
  congr 3
  have hd : (32 * g + 2 * (y 0).val + 1) / 32 = g := by omega
  rcases (show (y 0).val % 2 = 0 ∨ (y 0).val % 2 = 1 by omega) with e | e
  · rw [if_pos e, topV_apply, hiv, hw0, hd]
    unfold tok
    congr 2
    show wAt W (32 * g + 8 + (y 0).val / 2) _ = _
    congr 1; omega
  · rw [if_neg (by omega), topV_apply, hiv, hw2, hd]
    unfold tok
    congr 2
    show wAt W (32 * g + 24 + (y 0).val / 2) _ = _
    congr 1; omega

theorem sign_ev (hw0 : ∀ x, w0 x = wAt W (32 * g + (x 0).val) (128 * hc + (x 1).val))
    (hw2 : ∀ x, w2 x = wAt W (32 * g + 16 + (x 0).val) (128 * hc + (x 1).val)) (y : S16x128.Idx) :
    (sgV w0 w2 y).extractLsb' 0 4 = sgn (tok W (32 * g + 2 * (y 0).val) (128 * hc + (y 1).val)) := by
  have hy0 : (y 0).val < 16 := (y 0).isLt
  have hs : (y 0).val / 2 < 8 := by omega
  have hp : (y 0).val % 2 < 2 := by omega
  rw [sgV_apply _ _ y ⟨(y 0).val / 2, hs⟩ ((y 0).val % 2) (by show (y 0).val = 2 * ((y 0).val / 2) + (y 0).val % 2; omega) hp]
  unfold tok
  rcases (show (y 0).val % 2 = 0 ∨ (y 0).val % 2 = 1 by omega) with e | e
  · rw [if_pos e, hw0]
    congr 1
    show wAt W (32 * g + (y 0).val / 2) _ = _
    congr 1; omega
  · rw [if_neg (by omega), hw2]
    congr 1
    show wAt W (32 * g + 16 + (y 0).val / 2) _ = _
    congr 1; omega

theorem sign_od (hw0 : ∀ x, w0 x = wAt W (32 * g + 8 + (x 0).val) (128 * hc + (x 1).val))
    (hw2 : ∀ x, w2 x = wAt W (32 * g + 24 + (x 0).val) (128 * hc + (x 1).val)) (y : S16x128.Idx) :
    (sgV w0 w2 y).extractLsb' 0 4 = sgn (tok W (32 * g + 2 * (y 0).val + 1) (128 * hc + (y 1).val)) := by
  have hy0 : (y 0).val < 16 := (y 0).isLt
  have hs : (y 0).val / 2 < 8 := by omega
  have hp : (y 0).val % 2 < 2 := by omega
  rw [sgV_apply _ _ y ⟨(y 0).val / 2, hs⟩ ((y 0).val % 2) (by show (y 0).val = 2 * ((y 0).val / 2) + (y 0).val % 2; omega) hp]
  unfold tok
  rcases (show (y 0).val % 2 = 0 ∨ (y 0).val % 2 = 1 by omega) with e | e
  · rw [if_pos e, hw0]
    congr 1
    show wAt W (32 * g + 8 + (y 0).val / 2) _ = _
    congr 1; omega
  · rw [if_neg (by omega), hw2]
    congr 1
    show wAt W (32 * g + 24 + (y 0).val / 2) _ = _
    congr 1; omega

end Row

/-! ## The words as stored -/

/-- The packed codes with the top code brought down and the signs of the codes other than zero put in. -/
def finW (c s : BitVec 32) : BitVec 32 :=
  IntOp.ori (IntOp.subi c (IntOp.shrui .vector (IntOp.andi c 2290649224#32) 3#32)) (IntOp.andi (IntOp.addi c 2004318071#32) (IntOp.andi s 2290649224#32))

/-- The byte of the token pair `p` of channel `c`. -/
def codeByte (W : S256x256.Idx → F .f32) (R : ℕ → ℕ → BitVec 8) (c p : ℕ) : BitVec 8 :=
  byteAt (finW (wordOf (fun t => nib W R t c) (p / 4)) (wordOf (fun t => sgn (tok W t c)) (p / 4))) (p % 4)

/-- Words taken apart in bytes, a column of bytes to a row. -/
def bytesV (v : IVec S32x128 32) : IVec S1x128x128 8 :=
  shapeCast S1x128x128 (transpose S128x128 [1, 0] (bitcast S128x128 8 v bitcasts_S32x128_w32_S128x128_w8) transposes_S128x128_p1_0_S128x128) shapeCasts_S128x128_S1x128x128

theorem bytesV_apply (v : IVec S32x128 32) (x : S1x128x128.Idx) (a : Fin 32) (ha : a.val = (x 2).val / 4) :
    bytesV v x = byteAt (v (ValueIdx.ix2 a (x 1))) ((x 2).val % 4) := by
  unfold bytesV
  refine (shapeCast_addUnit_apply _ _ _ x).trans ?_
  refine (transpose_apply _ _ _ _ (ValueIdx.ix2 (x 2) (x 1)) ?_).trans ?_
  · intro b
    match b with
    | ⟨0, _⟩ => rfl
    | ⟨1, _⟩ => rfl
  apply BitVec.eq_of_getLsbD_eq
  intro i hi
  refine (bitcast_getLsbD v bitcasts_S32x128_w32_S128x128_w8 (ValueIdx.ix2 (x 2) (x 1)) i hi (by decide)).trans ?_
  unfold byteAt
  rw [BitVec.getLsbD_extractLsb', decide_eq_true hi, Bool.true_and]
  have hr : S128x128.row (ValueIdx.ix2 (x 2) (x 1)) = (x 2).val := rfl
  have e1 : ((x 2).val * 8 + i) % 32 = 8 * ((x 2).val % 4) + i := by omega
  refine (congrArg₂ (fun (w : BitVec 32) n => w.getLsbD n) (congrArg v ?_) e1)
  refine Shape.idx_ext₂ ?_ ?_
  · refine (Shape.Bitcasts.srcIdx_row _ _ _ _ _ rfl).trans ?_
    show ((x 2).val * 8 + i) / 32 = a.val
    omega
  · exact Shape.Bitcasts.srcIdx_other _ _ _ _ _ (by decide)

/-! ## The trip's rows -/

section Trip
variable (arg2 : Memref sig .tc .vmem S1x6144x256 .bf16) (arg3 : Memref sig .tc .vmem S256x256 .bf16) (arg4 : Memref sig .tc .vmem S1x256x6144 .i8)
  (arg8 : Memref sig .tc .vmem S256x256 .f32) (arg9 : Memref sig .tc .vmem S128x128 .f32) (arg10 : Memref sig .tc .vmem S2x8x128 .f32)
  (X_arg2 : arg2.view.ty.Contents (Elt F)) (X_arg3 : arg3.view.ty.Contents (Elt F)) (X_arg4 : arg4.view.ty.Contents (Elt F)) (k : Fin k0_t1_loop.trips)

/-- The random byte of token `t` of the tile, channel `c`. -/
def randB (t c : ℕ) : BitVec 8 :=
  arg4.view.read (Elt F) X_arg4 (ValueIdx.ix3 (0 : Fin 1) (Fin.ofNat 256 c) (Fin.ofNat 6144 (256 * k.val + t)))

/-- The load of the random bytes of channels 0 …, tokens 0 …. -/
def rload00 : Vec F S1x128x128 .i8 := View.readAt (Elt F) arg4.view (Rect.unit (s := S1x256x6144) (k0_off3 k) S1x128x128.size (k0_off3_inb k)).toLoadRect X_arg4

theorem rload00_eq (x : S1x128x128.Idx) : rload00 arg4 X_arg4 k x = randB arg4 X_arg4 k (128 * 0 + (x 2).val) (128 * 0 + (x 1).val) := by
  have hk : k.val < 24 := k.isLt
  have hx0 : (x 0).val < 1 := (x 0).isLt
  have hx1 : (x 1).val < 128 := (x 1).isLt
  have hx2 : (x 2).val < 128 := (x 2).isLt
  have e0 : (k0_off3 k) 0 = 0 := by rw [k0_off3_eq]; rfl
  have e1 : (k0_off3 k) 1 = 0 := by rw [k0_off3_eq]; rfl
  have e2 : (k0_off3 k) 2 = 256 * k.val + 0 := by rw [k0_off3_eq]; first | rfl | exact Nat.add_comm _ _
  show arg4.view.read (Elt F) X_arg4 ((Rect.unit (s := S1x256x6144) (k0_off3 k) S1x128x128.size (k0_off3_inb k)).idx x) = _
  unfold randB
  congr 1
  funext a
  apply Fin.ext
  match a with
  | ⟨0, _⟩ => show (k0_off3 k) 0 + 1 * (x 0).val = 0; omega
  | ⟨1, _⟩ => show (k0_off3 k) 1 + 1 * (x 1).val = (128 * 0 + (x 1).val) % 256; omega
  | ⟨2, _⟩ => show (k0_off3 k) 2 + 1 * (x 2).val = (256 * k.val + (128 * 0 + (x 2).val)) % 6144; omega

/-- The load of the random bytes of channels 0 …, tokens 128 …. -/
def rload01 : Vec F S1x128x128 .i8 := View.readAt (Elt F) arg4.view (Rect.unit (s := S1x256x6144) (k0_off4 k) S1x128x128.size (k0_off4_inb k)).toLoadRect X_arg4

theorem rload01_eq (x : S1x128x128.Idx) : rload01 arg4 X_arg4 k x = randB arg4 X_arg4 k (128 * 1 + (x 2).val) (128 * 0 + (x 1).val) := by
  have hk : k.val < 24 := k.isLt
  have hx0 : (x 0).val < 1 := (x 0).isLt
  have hx1 : (x 1).val < 128 := (x 1).isLt
  have hx2 : (x 2).val < 128 := (x 2).isLt
  have e0 : (k0_off4 k) 0 = 0 := by rw [k0_off4_eq]; rfl
  have e1 : (k0_off4 k) 1 = 0 := by rw [k0_off4_eq]; rfl
  have e2 : (k0_off4 k) 2 = 256 * k.val + 128 := by rw [k0_off4_eq]; first | rfl | exact Nat.add_comm _ _
  show arg4.view.read (Elt F) X_arg4 ((Rect.unit (s := S1x256x6144) (k0_off4 k) S1x128x128.size (k0_off4_inb k)).idx x) = _
  unfold randB
  congr 1
  funext a
  apply Fin.ext
  match a with
  | ⟨0, _⟩ => show (k0_off4 k) 0 + 1 * (x 0).val = 0; omega
  | ⟨1, _⟩ => show (k0_off4 k) 1 + 1 * (x 1).val = (128 * 0 + (x 1).val) % 256; omega
  | ⟨2, _⟩ => show (k0_off4 k) 2 + 1 * (x 2).val = (256 * k.val + (128 * 1 + (x 2).val)) % 6144; omega

/-- The load of the random bytes of channels 128 …, tokens 0 …. -/
def rload10 : Vec F S1x128x128 .i8 := View.readAt (Elt F) arg4.view (Rect.unit (s := S1x256x6144) (k0_off7 k) S1x128x128.size (k0_off7_inb k)).toLoadRect X_arg4

theorem rload10_eq (x : S1x128x128.Idx) : rload10 arg4 X_arg4 k x = randB arg4 X_arg4 k (128 * 0 + (x 2).val) (128 * 1 + (x 1).val) := by
  have hk : k.val < 24 := k.isLt
  have hx0 : (x 0).val < 1 := (x 0).isLt
  have hx1 : (x 1).val < 128 := (x 1).isLt
  have hx2 : (x 2).val < 128 := (x 2).isLt
  have e0 : (k0_off7 k) 0 = 0 := by rw [k0_off7_eq]; rfl
  have e1 : (k0_off7 k) 1 = 128 := by rw [k0_off7_eq]; rfl
  have e2 : (k0_off7 k) 2 = 256 * k.val + 0 := by rw [k0_off7_eq]; first | rfl | exact Nat.add_comm _ _
  show arg4.view.read (Elt F) X_arg4 ((Rect.unit (s := S1x256x6144) (k0_off7 k) S1x128x128.size (k0_off7_inb k)).idx x) = _
  unfold randB
  congr 1
  funext a
  apply Fin.ext
  match a with
  | ⟨0, _⟩ => show (k0_off7 k) 0 + 1 * (x 0).val = 0; omega
  | ⟨1, _⟩ => show (k0_off7 k) 1 + 1 * (x 1).val = (128 * 1 + (x 1).val) % 256; omega
  | ⟨2, _⟩ => show (k0_off7 k) 2 + 1 * (x 2).val = (256 * k.val + (128 * 0 + (x 2).val)) % 6144; omega

/-- The load of the random bytes of channels 128 …, tokens 128 …. -/
def rload11 : Vec F S1x128x128 .i8 := View.readAt (Elt F) arg4.view (Rect.unit (s := S1x256x6144) (k0_off8 k) S1x128x128.size (k0_off8_inb k)).toLoadRect X_arg4

theorem rload11_eq (x : S1x128x128.Idx) : rload11 arg4 X_arg4 k x = randB arg4 X_arg4 k (128 * 1 + (x 2).val) (128 * 1 + (x 1).val) := by
  have hk : k.val < 24 := k.isLt
  have hx0 : (x 0).val < 1 := (x 0).isLt
  have hx1 : (x 1).val < 128 := (x 1).isLt
  have hx2 : (x 2).val < 128 := (x 2).isLt
  have e0 : (k0_off8 k) 0 = 0 := by rw [k0_off8_eq]; rfl
  have e1 : (k0_off8 k) 1 = 128 := by rw [k0_off8_eq]; rfl
  have e2 : (k0_off8 k) 2 = 256 * k.val + 128 := by rw [k0_off8_eq]; first | rfl | exact Nat.add_comm _ _
  show arg4.view.read (Elt F) X_arg4 ((Rect.unit (s := S1x256x6144) (k0_off8 k) S1x128x128.size (k0_off8_inb k)).idx x) = _
  unfold randB
  congr 1
  funext a
  apply Fin.ext
  match a with
  | ⟨0, _⟩ => show (k0_off8 k) 0 + 1 * (x 0).val = 0; omega
  | ⟨1, _⟩ => show (k0_off8 k) 1 + 1 * (x 1).val = (128 * 1 + (x 1).val) % 256; omega
  | ⟨2, _⟩ => show (k0_off8 k) 2 + 1 * (x 2).val = (256 * k.val + (128 * 1 + (x 2).val)) % 6144; omega

theorem r_28_eq : trip_k0_t1.sl.r_28 arg2 arg3 arg4 arg8 arg9 arg10 X_arg2 X_arg3 X_arg4 k
    = evV (rEv (wordV (rload00 arg4 X_arg4 k)) 0 slices_S32x128_o0_0_S8x128) (topV (trip_k0_t1.sl.v329 arg2 arg3 arg8 arg9 arg10 X_arg2 X_arg3 k) (trip_k0_t1.sl.v100 arg2 arg3 arg8 X_arg2 X_arg3 k)) (topV (trip_k0_t1.sl.v329 arg2 arg3 arg8 arg9 arg10 X_arg2 X_arg3 k) (trip_k0_t1.sl.v104 arg2 arg3 arg8 X_arg2 X_arg3 k)) := rfl

theorem r_28_nib (y : S16x128.Idx) : (trip_k0_t1.sl.r_28 arg2 arg3 arg4 arg8 arg9 arg10 X_arg2 X_arg3 X_arg4 k y).extractLsb' 0 4
    = nib (tileW arg2 arg3 X_arg2 X_arg3 k) (randB arg4 X_arg4 k) (32 * 0 + 2 * (y 0).val) (128 * 0 + (y 1).val) := by
  rw [r_28_eq]
  exact site_ev _ _ 0 0 0 0 _ _ _ _ _ (v329_eq arg2 arg3 arg8 arg9 arg10 X_arg2 X_arg3 k) (v100_eq arg2 arg3 arg8 X_arg2 X_arg3 k) (v104_eq arg2 arg3 arg8 X_arg2 X_arg3 k) (rload00_eq arg4 X_arg4 k) (by decide) (by decide) y

theorem r_29_eq : trip_k0_t1.sl.r_29 arg2 arg3 arg4 arg8 arg9 arg10 X_arg2 X_arg3 X_arg4 k
    = evV (rOd (wordV (rload00 arg4 X_arg4 k)) 0 slices_S32x128_o0_0_S8x128) (topV (trip_k0_t1.sl.v329 arg2 arg3 arg8 arg9 arg10 X_arg2 X_arg3 k) (trip_k0_t1.sl.v102 arg2 arg3 arg8 X_arg2 X_arg3 k)) (topV (trip_k0_t1.sl.v329 arg2 arg3 arg8 arg9 arg10 X_arg2 X_arg3 k) (trip_k0_t1.sl.v106 arg2 arg3 arg8 X_arg2 X_arg3 k)) := rfl

theorem r_29_nib (y : S16x128.Idx) : (trip_k0_t1.sl.r_29 arg2 arg3 arg4 arg8 arg9 arg10 X_arg2 X_arg3 X_arg4 k y).extractLsb' 0 4
    = nib (tileW arg2 arg3 X_arg2 X_arg3 k) (randB arg4 X_arg4 k) (32 * 0 + 2 * (y 0).val + 1) (128 * 0 + (y 1).val) := by
  rw [r_29_eq]
  exact site_od _ _ 0 0 0 0 _ _ _ _ _ (v329_eq arg2 arg3 arg8 arg9 arg10 X_arg2 X_arg3 k) (v102_eq arg2 arg3 arg8 X_arg2 X_arg3 k) (v106_eq arg2 arg3 arg8 X_arg2 X_arg3 k) (rload00_eq arg4 X_arg4 k) (by decide) (by decide) y

theorem r_49_eq : trip_k0_t1.sl.r_49 arg2 arg3 arg4 arg8 arg9 arg10 X_arg2 X_arg3 X_arg4 k
    = evV (rEv (wordV (rload00 arg4 X_arg4 k)) 8 slices_S32x128_o8_0_S8x128) (topV (trip_k0_t1.sl.v526 arg2 arg3 arg8 arg9 arg10 X_arg2 X_arg3 k) (trip_k0_t1.sl.v114 arg2 arg3 arg8 X_arg2 X_arg3 k)) (topV (trip_k0_t1.sl.v526 arg2 arg3 arg8 arg9 arg10 X_arg2 X_arg3 k) (trip_k0_t1.sl.v118 arg2 arg3 arg8 X_arg2 X_arg3 k)) := rfl

theorem r_49_nib (y : S16x128.Idx) : (trip_k0_t1.sl.r_49 arg2 arg3 arg4 arg8 arg9 arg10 X_arg2 X_arg3 X_arg4 k y).extractLsb' 0 4
    = nib (tileW arg2 arg3 X_arg2 X_arg3 k) (randB arg4 X_arg4 k) (32 * 1 + 2 * (y 0).val) (128 * 0 + (y 1).val) := by
  rw [r_49_eq]
  exact site_ev _ _ 0 1 0 8 _ _ _ _ _ (v526_eq arg2 arg3 arg8 arg9 arg10 X_arg2 X_arg3 k) (v114_eq arg2 arg3 arg8 X_arg2 X_arg3 k) (v118_eq arg2 arg3 arg8 X_arg2 X_arg3 k) (rload00_eq arg4 X_arg4 k) (by decide) (by decide) y

theorem r_50_eq : trip_k0_t1.sl.r_50 arg2 arg3 arg4 arg8 arg9 arg10 X_arg2 X_arg3 X_arg4 k
    = evV (rOd (wordV (rload00 arg4 X_arg4 k)) 8 slices_S32x128_o8_0_S8x128) (topV (trip_k0_t1.sl.v526 arg2 arg3 arg8 arg9 arg10 X_arg2 X_arg3 k) (trip_k0_t1.sl.v116 arg2 arg3 arg8 X_arg2 X_arg3 k)) (topV (trip_k0_t1.sl.v526 arg2 arg3 arg8 arg9 arg10 X_arg2 X_arg3 k) (trip_k0_t1.sl.v120 arg2 arg3 arg8 X_arg2 X_arg3 k)) := rfl

theorem r_50_nib (y : S16x128.Idx) : (trip_k0_t1.sl.r_50 arg2 arg3 arg4 arg8 arg9 arg10 X_arg2 X_arg3 X_arg4 k y).extractLsb' 0 4
    = nib (tileW arg2 arg3 X_arg2 X_arg3 k) (randB arg4 X_arg4 k) (32 * 1 + 2 * (y 0).val + 1) (128 * 0 + (y 1).val) := by
  rw [r_50_eq]
  exact site_od _ _ 0 1 0 8 _ _ _ _ _ (v526_eq arg2 arg3 arg8 arg9 arg10 X_arg2 X_arg3 k) (v116_eq arg2 arg3 arg8 X_arg2 X_arg3 k) (v120_eq arg2 arg3 arg8 X_arg2 X_arg3 k) (rload00_eq arg4 X_arg4 k) (by decide) (by decide) y

theorem r_66_eq : trip_k0_t1.sl.r_66 arg2 arg3 arg4 arg8 arg9 arg10 X_arg2 X_arg3 X_arg4 k
    = evV (rEv (wordV (rload00 arg4 X_arg4 k)) 16 slices_S32x128_o16_0_S8x128) (topV (trip_k0_t1.sl.v723 arg2 arg3 arg8 arg9 arg10 X_arg2 X_arg3 k) (trip_k0_t1.sl.v128 arg2 arg3 arg8 X_arg2 X_arg3 k)) (topV (trip_k0_t1.sl.v723 arg2 arg3 arg8 arg9 arg10 X_arg2 X_arg3 k) (trip_k0_t1.sl.v132 arg2 arg3 arg8 X_arg2 X_arg3 k)) := rfl

theorem r_66_nib (y : S16x128.Idx) : (trip_k0_t1.sl.r_66 arg2 arg3 arg4 arg8 arg9 arg10 X_arg2 X_arg3 X_arg4 k y).extractLsb' 0 4
    = nib (tileW arg2 arg3 X_arg2 X_arg3 k) (randB arg4 X_arg4 k) (32 * 2 + 2 * (y 0).val) (128 * 0 + (y 1).val) := by
  rw [r_66_eq]
  exact site_ev _ _ 0 2 0 16 _ _ _ _ _ (v723_eq arg2 arg3 arg8 arg9 arg10 X_arg2 X_arg3 k) (v128_eq arg2 arg3 arg8 X_arg2 X_arg3 k) (v132_eq arg2 arg3 arg8 X_arg2 X_arg3 k) (rload00_eq arg4 X_arg4 k) (by decide) (by decide) y

theorem r_67_eq : trip_k0_t1.sl.r_67 arg2 arg3 arg4 arg8 arg9 arg10 X_arg2 X_arg3 X_arg4 k
    = evV (rOd (wordV (rload00 arg4 X_arg4 k)) 16 slices_S32x128_o16_0_S8x128) (topV (trip_k0_t1.sl.v723 arg2 arg3 arg8 arg9 arg10 X_arg2 X_arg3 k) (trip_k0_t1.sl.v130 arg2 arg3 arg8 X_arg2 X_arg3 k)) (topV (trip_k0_t1.sl.v723 arg2 arg3 arg8 arg9 arg10 X_arg2 X_arg3 k) (trip_k0_t1.sl.v134 arg2 arg3 arg8 X_arg2 X_arg3 k)) := rfl

theorem r_67_nib (y : S16x128.Idx) : (trip_k0_t1.sl.r_67 arg2 arg3 arg4 arg8 arg9 arg10 X_arg2 X_arg3 X_arg4 k y).extractLsb' 0 4
    = nib (tileW arg2 arg3 X_arg2 X_arg3 k) (randB arg4 X_arg4 k) (32 * 2 + 2 * (y 0).val + 1) (128 * 0 + (y 1).val) := by
  rw [r_67_eq]
  exact site_od _ _ 0 2 0 16 _ _ _ _ _ (v723_eq arg2 arg3 arg8 arg9 arg10 X_arg2 X_arg3 k) (v130_eq arg2 arg3 arg8 X_arg2 X_arg3 k) (v134_eq arg2 arg3 arg8 X_arg2 X_arg3 k) (rload00_eq arg4 X_arg4 k) (by decide) (by decide) y

theorem r_83_eq : trip_k0_t1.sl.r_83 arg2 arg3 arg4 arg8 arg9 arg10 X_arg2 X_arg3 X_arg4 k
    = evV (rEv (wordV (rload00 arg4 X_arg4 k)) 24 slices_S32x128_o24_0_S8x128) (topV (trip_k0_t1.sl.v920 arg2 arg3 arg8 arg9 arg10 X_arg2 X_arg3 k) (trip_k0_t1.sl.v142 arg2 arg3 arg8 X_arg2 X_arg3 k)) (topV (trip_k0_t1.sl.v920 arg2 arg3 arg8 arg9 arg10 X_arg2 X_arg3 k) (trip_k0_t1.sl.v146 arg2 arg3 arg8 X_arg2 X_arg3 k)) := rfl

theorem r_83_nib (y : S16x128.Idx) : (trip_k0_t1.sl.r_83 arg2 arg3 arg4 arg8 arg9 arg10 X_arg2 X_arg3 X_arg4 k y).extractLsb' 0 4
    = nib (tileW arg2 arg3 X_arg2 X_arg3 k) (randB arg4 X_arg4 k) (32 * 3 + 2 * (y 0).val) (128 * 0 + (y 1).val) := by
  rw [r_83_eq]
  exact site_ev _ _ 0 3 0 24 _ _ _ _ _ (v920_eq arg2 arg3 arg8 arg9 arg10 X_arg2 X_arg3 k) (v142_eq arg2 arg3 arg8 X_arg2 X_arg3 k) (v146_eq arg2 arg3 arg8 X_arg2 X_arg3 k) (rload00_eq arg4 X_arg4 k) (by decide) (by decide) y

theorem r_84_eq : trip_k0_t1.sl.r_84 arg2 arg3 arg4 arg8 arg9 arg10 X_arg2 X_arg3 X_arg4 k
    = evV (rOd (wordV (rload00 arg4 X_arg4 k)) 24 slices_S32x128_o24_0_S8x128) (topV (trip_k0_t1.sl.v920 arg2 arg3 arg8 arg9 arg10 X_arg2 X_arg3 k) (trip_k0_t1.sl.v144 arg2 arg3 arg8 X_arg2 X_arg3 k)) (topV (trip_k0_t1.sl.v920 arg2 arg3 arg8 arg9 arg10 X_arg2 X_arg3 k) (trip_k0_t1.sl.v148 arg2 arg3 arg8 X_arg2 X_arg3 k)) := rfl

theorem r_84_nib (y : S16x128.Idx) : (trip_k0_t1.sl.r_84 arg2 arg3 arg4 arg8 arg9 arg10 X_arg2 X_arg3 X_arg4 k y).extractLsb' 0 4
    = nib (tileW arg2 arg3 X_arg2 X_arg3 k) (randB arg4 X_arg4 k) (32 * 3 + 2 * (y 0).val + 1) (128 * 0 + (y 1).val) := by
  rw [r_84_eq]
  exact site_od _ _ 0 3 0 24 _ _ _ _ _ (v920_eq arg2 arg3 arg8 arg9 arg10 X_arg2 X_arg3 k) (v144_eq arg2 arg3 arg8 X_arg2 X_arg3 k) (v148_eq arg2 arg3 arg8 X_arg2 X_arg3 k) (rload00_eq arg4 X_arg4 k) (by decide) (by decide) y

theorem r_103_eq : trip_k0_t1.sl.r_103 arg2 arg3 arg4 arg8 arg9 arg10 X_arg2 X_arg3 X_arg4 k
    = evV (rEv (wordV (rload01 arg4 X_arg4 k)) 0 slices_S32x128_o0_0_S8x128) (topV (trip_k0_t1.sl.v1117 arg2 arg3 arg8 arg9 arg10 X_arg2 X_arg3 k) (trip_k0_t1.sl.v156 arg2 arg3 arg8 X_arg2 X_arg3 k)) (topV (trip_k0_t1.sl.v1117 arg2 arg3 arg8 arg9 arg10 X_arg2 X_arg3 k) (trip_k0_t1.sl.v160 arg2 arg3 arg8 X_arg2 X_arg3 k)) := rfl

theorem r_103_nib (y : S16x128.Idx) : (trip_k0_t1.sl.r_103 arg2 arg3 arg4 arg8 arg9 arg10 X_arg2 X_arg3 X_arg4 k y).extractLsb' 0 4
    = nib (tileW arg2 arg3 X_arg2 X_arg3 k) (randB arg4 X_arg4 k) (32 * 4 + 2 * (y 0).val) (128 * 0 + (y 1).val) := by
  rw [r_103_eq]
  exact site_ev _ _ 0 4 1 0 _ _ _ _ _ (v1117_eq arg2 arg3 arg8 arg9 arg10 X_arg2 X_arg3 k) (v156_eq arg2 arg3 arg8 X_arg2 X_arg3 k) (v160_eq arg2 arg3 arg8 X_arg2 X_arg3 k) (rload01_eq arg4 X_arg4 k) (by decide) (by decide) y

theorem r_104_eq : trip_k0_t1.sl.r_104 arg2 arg3 arg4 arg8 arg9 arg10 X_arg2 X_arg3 X_arg4 k
    = evV (rOd (wordV (rload01 arg4 X_arg4 k)) 0 slices_S32x128_o0_0_S8x128) (topV (trip_k0_t1.sl.v1117 arg2 arg3 arg8 arg9 arg10 X_arg2 X_arg3 k) (trip_k0_t1.sl.v158 arg2 arg3 arg8 X_arg2 X_arg3 k)) (topV (trip_k0_t1.sl.v1117 arg2 arg3 arg8 arg9 arg10 X_arg2 X_arg3 k) (trip_k0_t1.sl.v162 arg2 arg3 arg8 X_arg2 X_arg3 k)) := rfl

theorem r_104_nib (y : S16x128.Idx) : (trip_k0_t1.sl.r_104 arg2 arg3 arg4 arg8 arg9 arg10 X_arg2 X_arg3 X_arg4 k y).extractLsb' 0 4
    = nib (tileW arg2 arg3 X_arg2 X_arg3 k) (randB arg4 X_arg4 k) (32 * 4 + 2 * (y 0).val + 1) (128 * 0 + (y 1).val) := by
  rw [r_104_eq]
  exact site_od _ _ 0 4 1 0 _ _ _ _ _ (v1117_eq arg2 arg3 arg8 arg9 arg10 X_arg2 X_arg3 k) (v158_eq arg2 arg3 arg8 X_arg2 X_arg3 k) (v162_eq arg2 arg3 arg8 X_arg2 X_arg3 k) (rload01_eq arg4 X_arg4 k) (by decide) (by decide) y

theorem r_126_eq : trip_k0_t1.sl.r_126 arg2 arg3 arg4 arg8 arg9 arg10 X_arg2 X_arg3 X_arg4 k
    = evV (rEv (wordV (rload01 arg4 X_arg4 k)) 8 slices_S32x128_o8_0_S8x128) (topV (trip_k0_t1.sl.v1314 arg2 arg3 arg8 arg9 arg10 X_arg2 X_arg3 k) (trip_k0_t1.sl.v170 arg2 arg3 arg8 X_arg2 X_arg3 k)) (topV (trip_k0_t1.sl.v1314 arg2 arg3 arg8 arg9 arg10 X_arg2 X_arg3 k) (trip_k0_t1.sl.v174 arg2 arg3 arg8 X_arg2 X_arg3 k)) := rfl

theorem r_126_nib (y : S16x128.Idx) : (trip_k0_t1.sl.r_126 arg2 arg3 arg4 arg8 arg9 arg10 X_arg2 X_arg3 X_arg4 k y).extractLsb' 0 4
    = nib (tileW arg2 arg3 X_arg2 X_arg3 k) (randB arg4 X_arg4 k) (32 * 5 + 2 * (y 0).val) (128 * 0 + (y 1).val) := by
  rw [r_126_eq]
  exact site_ev _ _ 0 5 1 8 _ _ _ _ _ (v1314_eq arg2 arg3 arg8 arg9 arg10 X_arg2 X_arg3 k) (v170_eq arg2 arg3 arg8 X_arg2 X_arg3 k) (v174_eq arg2 arg3 arg8 X_arg2 X_arg3 k) (rload01_eq arg4 X_arg4 k) (by decide) (by decide) y

theorem r_127_eq : trip_k0_t1.sl.r_127 arg2 arg3 arg4 arg8 arg9 arg10 X_arg2 X_arg3 X_arg4 k
    = evV (rOd (wordV (rload01 arg4 X_arg4 k)) 8 slices_S32x128_o8_0_S8x128) (topV (trip_k0_t1.sl.v1314 arg2 arg3 arg8 arg9 arg10 X_arg2 X_arg3 k) (trip_k0_t1.sl.v172 arg2 arg3 arg8 X_arg2 X_arg3 k)) (topV (trip_k0_t1.sl.v1314 arg2 arg3 arg8 arg9 arg10 X_arg2 X_arg3 k) (trip_k0_t1.sl.v176 arg2 arg3 arg8 X_arg2 X_arg3 k)) := rfl

theorem r_127_nib (y : S16x128.Idx) : (trip_k0_t1.sl.r_127 arg2 arg3 arg4 arg8 arg9 arg10 X_arg2 X_arg3 X_arg4 k y).extractLsb' 0 4
    = nib (tileW arg2 arg3 X_arg2 X_arg3 k) (randB arg4 X_arg4 k) (32 * 5 + 2 * (y 0).val + 1) (128 * 0 + (y 1).val) := by
  rw [r_127_eq]
  exact site_od _ _ 0 5 1 8 _ _ _ _ _ (v1314_eq arg2 arg3 arg8 arg9 arg10 X_arg2 X_arg3 k) (v172_eq arg2 arg3 arg8 X_arg2 X_arg3 k) (v176_eq arg2 arg3 arg8 X_arg2 X_arg3 k) (rload01_eq arg4 X_arg4 k) (by decide) (by decide) y

theorem r_141_eq : trip_k0_t1.sl.r_141 arg2 arg3 arg4 arg8 arg9 arg10 X_arg2 X_arg3 X_arg4 k
    = evV (rEv (wordV (rload01 arg4 X_arg4 k)) 16 slices_S32x128_o16_0_S8x128) (topV (trip_k0_t1.sl.v1511 arg2 arg3 arg8 arg9 arg10 X_arg2 X_arg3 k) (trip_k0_t1.sl.v184 arg2 arg3 arg8 X_arg2 X_arg3 k)) (topV (trip_k0_t1.sl.v1511 arg2 arg3 arg8 arg9 arg10 X_arg2 X_arg3 k) (trip_k0_t1.sl.v188 arg2 arg3 arg8 X_arg2 X_arg3 k)) := rfl

theorem r_141_nib (y : S16x128.Idx) : (trip_k0_t1.sl.r_141 arg2 arg3 arg4 arg8 arg9 arg10 X_arg2 X_arg3 X_arg4 k y).extractLsb' 0 4
    = nib (tileW arg2 arg3 X_arg2 X_arg3 k) (randB arg4 X_arg4 k) (32 * 6 + 2 * (y 0).val) (128 * 0 + (y 1).val) := by
  rw [r_141_eq]
  exact site_ev _ _ 0 6 1 16 _ _ _ _ _ (v1511_eq arg2 arg3 arg8 arg9 arg10 X_arg2 X_arg3 k) (v184_eq arg2 arg3 arg8 X_arg2 X_arg3 k) (v188_eq arg2 arg3 arg8 X_arg2 X_arg3 k) (rload01_eq arg4 X_arg4 k) (by decide) (by decide) y

theorem r_143_eq : trip_k0_t1.sl.r_143 arg2 arg3 arg4 arg8 arg9 arg10 X_arg2 X_arg3 X_arg4 k
    = evV (rOd (wordV (rload01 arg4 X_arg4 k)) 16 slices_S32x128_o16_0_S8x128) (topV (trip_k0_t1.sl.v1511 arg2 arg3 arg8 arg9 arg10 X_arg2 X_arg3 k) (trip_k0_t1.sl.v186 arg2 arg3 arg8 X_arg2 X_arg3 k)) (topV (trip_k0_t1.sl.v1511 arg2 arg3 arg8 arg9 arg10 X_arg2 X_arg3 k) (trip_k0_t1.sl.v190 arg2 arg3 arg8 X_arg2 X_arg3 k)) := rfl

theorem r_143_nib (y : S16x128.Idx) : (trip_k0_t1.sl.r_143 arg2 arg3 arg4 arg8 arg9 arg10 X_arg2 X_arg3 X_arg4 k y).extractLsb' 0 4
    = nib (tileW arg2 arg3 X_arg2 X_arg3 k) (randB arg4 X_arg4 k) (32 * 6 + 2 * (y 0).val + 1) (128 * 0 + (y 1).val) := by
  rw [r_143_eq]
  exact site_od _ _ 0 6 1 16 _ _ _ _ _ (v1511_eq arg2 arg3 arg8 arg9 arg10 X_arg2 X_arg3 k) (v186_eq arg2 arg3 arg8 X_arg2 X_arg3 k) (v190_eq arg2 arg3 arg8 X_arg2 X_arg3 k) (rload01_eq arg4 X_arg4 k) (by decide) (by decide) y

theorem r_158_eq : trip_k0_t1.sl.r_158 arg2 arg3 arg4 arg8 arg9 arg10 X_arg2 X_arg3 X_arg4 k
    = evV (rEv (wordV (rload01 arg4 X_arg4 k)) 24 slices_S32x128_o24_0_S8x128) (topV (trip_k0_t1.sl.v1708 arg2 arg3 arg8 arg9 arg10 X_arg2 X_arg3 k) (trip_k0_t1.sl.v198 arg2 arg3 arg8 X_arg2 X_arg3 k)) (topV (trip_k0_t1.sl.v1708 arg2 arg3 arg8 arg9 arg10 X_arg2 X_arg3 k) (trip_k0_t1.sl.v202 arg2 arg3 arg8 X_arg2 X_arg3 k)) := rfl

theorem r_158_nib (y : S16x128.Idx) : (trip_k0_t1.sl.r_158 arg2 arg3 arg4 arg8 arg9 arg10 X_arg2 X_arg3 X_arg4 k y).extractLsb' 0 4
    = nib (tileW arg2 arg3 X_arg2 X_arg3 k) (randB arg4 X_arg4 k) (32 * 7 + 2 * (y 0).val) (128 * 0 + (y 1).val) := by
  rw [r_158_eq]
  exact site_ev _ _ 0 7 1 24 _ _ _ _ _ (v1708_eq arg2 arg3 arg8 arg9 arg10 X_arg2 X_arg3 k) (v198_eq arg2 arg3 arg8 X_arg2 X_arg3 k) (v202_eq arg2 arg3 arg8 X_arg2 X_arg3 k) (rload01_eq arg4 X_arg4 k) (by decide) (by decide) y

theorem r_159_eq : trip_k0_t1.sl.r_159 arg2 arg3 arg4 arg8 arg9 arg10 X_arg2 X_arg3 X_arg4 k
    = evV (rOd (wordV (rload01 arg4 X_arg4 k)) 24 slices_S32x128_o24_0_S8x128) (topV (trip_k0_t1.sl.v1708 arg2 arg3 arg8 arg9 arg10 X_arg2 X_arg3 k) (trip_k0_t1.sl.v200 arg2 arg3 arg8 X_arg2 X_arg3 k)) (topV (trip_k0_t1.sl.v1708 arg2 arg3 arg8 arg9 arg10 X_arg2 X_arg3 k) (trip_k0_t1.sl.v204 arg2 arg3 arg8 X_arg2 X_arg3 k)) := rfl

theorem r_159_nib (y : S16x128.Idx) : (trip_k0_t1.sl.r_159 arg2 arg3 arg4 arg8 arg9 arg10 X_arg2 X_arg3 X_arg4 k y).extractLsb' 0 4
    = nib (tileW arg2 arg3 X_arg2 X_arg3 k) (randB arg4 X_arg4 k) (32 * 7 + 2 * (y 0).val + 1) (128 * 0 + (y 1).val) := by
  rw [r_159_eq]
  exact site_od _ _ 0 7 1 24 _ _ _ _ _ (v1708_eq arg2 arg3 arg8 arg9 arg10 X_arg2 X_arg3 k) (v200_eq arg2 arg3 arg8 X_arg2 X_arg3 k) (v204_eq arg2 arg3 arg8 X_arg2 X_arg3 k) (rload01_eq arg4 X_arg4 k) (by decide) (by decide) y

theorem r_192_eq : trip_k0_t1.sl.r_192 arg2 arg3 arg4 arg8 arg9 arg10 X_arg2 X_arg3 X_arg4 k
    = evV (rEv (wordV (rload10 arg4 X_arg4 k)) 0 slices_S32x128_o0_0_S8x128) (topV (trip_k0_t1.sl.v2173 arg2 arg3 arg8 arg9 arg10 X_arg2 X_arg3 k) (trip_k0_t1.sl.v1944 arg2 arg3 arg8 X_arg2 X_arg3 k)) (topV (trip_k0_t1.sl.v2173 arg2 arg3 arg8 arg9 arg10 X_arg2 X_arg3 k) (trip_k0_t1.sl.v1948 arg2 arg3 arg8 X_arg2 X_arg3 k)) := rfl

theorem r_192_nib (y : S16x128.Idx) : (trip_k0_t1.sl.r_192 arg2 arg3 arg4 arg8 arg9 arg10 X_arg2 X_arg3 X_arg4 k y).extractLsb' 0 4
    = nib (tileW arg2 arg3 X_arg2 X_arg3 k) (randB arg4 X_arg4 k) (32 * 0 + 2 * (y 0).val) (128 * 1 + (y 1).val) := by
  rw [r_192_eq]
  exact site_ev _ _ 1 0 0 0 _ _ _ _ _ (v2173_eq arg2 arg3 arg8 arg9 arg10 X_arg2 X_arg3 k) (v1944_eq arg2 arg3 arg8 X_arg2 X_arg3 k) (v1948_eq arg2 arg3 arg8 X_arg2 X_arg3 k) (rload10_eq arg4 X_arg4 k) (by decide) (by decide) y

theorem r_193_eq : trip_k0_t1.sl.r_193 arg2 arg3 arg4 arg8 arg9 arg10 X_arg2 X_arg3 X_arg4 k
    = evV (rOd (wordV (rload10 arg4 X_arg4 k)) 0 slices_S32x128_o0_0_S8x128) (topV (trip_k0_t1.sl.v2173 arg2 arg3 arg8 arg9 arg10 X_arg2 X_arg3 k) (trip_k0_t1.sl.v1946 arg2 arg3 arg8 X_arg2 X_arg3 k)) (topV (trip_k0_t1.sl.v2173 arg2 arg3 arg8 arg9 arg10 X_arg2 X_arg3 k) (trip_k0_t1.sl.v1950 arg2 arg3 arg8 X_arg2 X_arg3 k)) := rfl

theorem r_193_nib (y : S16x128.Idx) : (trip_k0_t1.sl.r_193 arg2 arg3 arg4 arg8 arg9 arg10 X_arg2 X_arg3 X_arg4 k y).extractLsb' 0 4
    = nib (tileW arg2 arg3 X_arg2 X_arg3 k) (randB arg4 X_arg4 k) (32 * 0 + 2 * (y 0).val + 1) (128 * 1 + (y 1).val) := by
  rw [r_193_eq]
  exact site_od _ _ 1 0 0 0 _ _ _ _ _ (v2173_eq arg2 arg3 arg8 arg9 arg10 X_arg2 X_arg3 k) (v1946_eq arg2 arg3 arg8 X_arg2 X_arg3 k) (v1950_eq arg2 arg3 arg8 X_arg2 X_arg3 k) (rload10_eq arg4 X_arg4 k) (by decide) (by decide) y

theorem r_214_eq : trip_k0_t1.sl.r_214 arg2 arg3 arg4 arg8 arg9 arg10 X_arg2 X_arg3 X_arg4 k
    = evV (rEv (wordV (rload10 arg4 X_arg4 k)) 8 slices_S32x128_o8_0_S8x128) (topV (trip_k0_t1.sl.v2370 arg2 arg3 arg8 arg9 arg10 X_arg2 X_arg3 k) (trip_k0_t1.sl.v1958 arg2 arg3 arg8 X_arg2 X_arg3 k)) (topV (trip_k0_t1.sl.v2370 arg2 arg3 arg8 arg9 arg10 X_arg2 X_arg3 k) (trip_k0_t1.sl.v1962 arg2 arg3 arg8 X_arg2 X_arg3 k)) := rfl

theorem r_214_nib (y : S16x128.Idx) : (trip_k0_t1.sl.r_214 arg2 arg3 arg4 arg8 arg9 arg10 X_arg2 X_arg3 X_arg4 k y).extractLsb' 0 4
    = nib (tileW arg2 arg3 X_arg2 X_arg3 k) (randB arg4 X_arg4 k) (32 * 1 + 2 * (y 0).val) (128 * 1 + (y 1).val) := by
  rw [r_214_eq]
  exact site_ev _ _ 1 1 0 8 _ _ _ _ _ (v2370_eq arg2 arg3 arg8 arg9 arg10 X_arg2 X_arg3 k) (v1958_eq arg2 arg3 arg8 X_arg2 X_arg3 k) (v1962_eq arg2 arg3 arg8 X_arg2 X_arg3 k) (rload10_eq arg4 X_arg4 k) (by decide) (by decide) y

theorem r_215_eq : trip_k0_t1.sl.r_215 arg2 arg3 arg4 arg8 arg9 arg10 X_arg2 X_arg3 X_arg4 k
    = evV (rOd (wordV (rload10 arg4 X_arg4 k)) 8 slices_S32x128_o8_0_S8x128) (topV (trip_k0_t1.sl.v2370 arg2 arg3 arg8 arg9 arg10 X_arg2 X_arg3 k) (trip_k0_t1.sl.v1960 arg2 arg3 arg8 X_arg2 X_arg3 k)) (topV (trip_k0_t1.sl.v2370 arg2 arg3 arg8 arg9 arg10 X_arg2 X_arg3 k) (trip_k0_t1.sl.v1964 arg2 arg3 arg8 X_arg2 X_arg3 k)) := rfl

theorem r_215_nib (y : S16x128.Idx) : (trip_k0_t1.sl.r_215 arg2 arg3 arg4 arg8 arg9 arg10 X_arg2 X_arg3 X_arg4 k y).extractLsb' 0 4
    = nib (tileW arg2 arg3 X_arg2 X_arg3 k) (randB arg4 X_arg4 k) (32 * 1 + 2 * (y 0).val + 1) (128 * 1 + (y 1).val) := by
  rw [r_215_eq]
  exact site_od _ _ 1 1 0 8 _ _ _ _ _ (v2370_eq arg2 arg3 arg8 arg9 arg10 X_arg2 X_arg3 k) (v1960_eq arg2 arg3 arg8 X_arg2 X_arg3 k) (v1964_eq arg2 arg3 arg8 X_arg2 X_arg3 k) (rload10_eq arg4 X_arg4 k) (by decide) (by decide) y

theorem r_230_eq : trip_k0_t1.sl.r_230 arg2 arg3 arg4 arg8 arg9 arg10 X_arg2 X_arg3 X_arg4 k
    = evV (rEv (wordV (rload10 arg4 X_arg4 k)) 16 slices_S32x128_o16_0_S8x128) (topV (trip_k0_t1.sl.v2567 arg2 arg3 arg8 arg9 arg10 X_arg2 X_arg3 k) (trip_k0_t1.sl.v1972 arg2 arg3 arg8 X_arg2 X_arg3 k)) (topV (trip_k0_t1.sl.v2567 arg2 arg3 arg8 arg9 arg10 X_arg2 X_arg3 k) (trip_k0_t1.sl.v1976 arg2 arg3 arg8 X_arg2 X_arg3 k)) := rfl

theorem r_230_nib (y : S16x128.Idx) : (trip_k0_t1.sl.r_230 arg2 arg3 arg4 arg8 arg9 arg10 X_arg2 X_arg3 X_arg4 k y).extractLsb' 0 4
    = nib (tileW arg2 arg3 X_arg2 X_arg3 k) (randB arg4 X_arg4 k) (32 * 2 + 2 * (y 0).val) (128 * 1 + (y 1).val) := by
  rw [r_230_eq]
  exact site_ev _ _ 1 2 0 16 _ _ _ _ _ (v2567_eq arg2 arg3 arg8 arg9 arg10 X_arg2 X_arg3 k) (v1972_eq arg2 arg3 arg8 X_arg2 X_arg3 k) (v1976_eq arg2 arg3 arg8 X_arg2 X_arg3 k) (rload10_eq arg4 X_arg4 k) (by decide) (by decide) y

theorem r_232_eq : trip_k0_t1.sl.r_232 arg2 arg3 arg4 arg8 arg9 arg10 X_arg2 X_arg3 X_arg4 k
    = evV (rOd (wordV (rload10 arg4 X_arg4 k)) 16 slices_S32x128_o16_0_S8x128) (topV (trip_k0_t1.sl.v2567 arg2 arg3 arg8 arg9 arg10 X_arg2 X_arg3 k) (trip_k0_t1.sl.v1974 arg2 arg3 arg8 X_arg2 X_arg3 k)) (topV (trip_k0_t1.sl.v2567 arg2 arg3 arg8 arg9 arg10 X_arg2 X_arg3 k) (trip_k0_t1.sl.v1978 arg2 arg3 arg8 X_arg2 X_arg3 k)) := rfl

theorem r_232_nib (y : S16x128.Idx) : (trip_k0_t1.sl.r_232 arg2 arg3 arg4 arg8 arg9 arg10 X_arg2 X_arg3 X_arg4 k y).extractLsb' 0 4
    = nib (tileW arg2 arg3 X_arg2 X_arg3 k) (randB arg4 X_arg4 k) (32 * 2 + 2 * (y 0).val + 1) (128 * 1 + (y 1).val) := by
  rw [r_232_eq]
  exact site_od _ _ 1 2 0 16 _ _ _ _ _ (v2567_eq arg2 arg3 arg8 arg9 arg10 X_arg2 X_arg3 k) (v1974_eq arg2 arg3 arg8 X_arg2 X_arg3 k) (v1978_eq arg2 arg3 arg8 X_arg2 X_arg3 k) (rload10_eq arg4 X_arg4 k) (by decide) (by decide) y

theorem r_247_eq : trip_k0_t1.sl.r_247 arg2 arg3 arg4 arg8 arg9 arg10 X_arg2 X_arg3 X_arg4 k
    = evV (rEv (wordV (rload10 arg4 X_arg4 k)) 24 slices_S32x128_o24_0_S8x128) (topV (trip_k0_t1.sl.v2764 arg2 arg3 arg8 arg9 arg10 X_arg2 X_arg3 k) (trip_k0_t1.sl.v1986 arg2 arg3 arg8 X_arg2 X_arg3 k)) (topV (trip_k0_t1.sl.v2764 arg2 arg3 arg8 arg9 arg10 X_arg2 X_arg3 k) (trip_k0_t1.sl.v1990 arg2 arg3 arg8 X_arg2 X_arg3 k)) := rfl

theorem r_247_nib (y : S16x128.Idx) : (trip_k0_t1.sl.r_247 arg2 arg3 arg4 arg8 arg9 arg10 X_arg2 X_arg3 X_arg4 k y).extractLsb' 0 4
    = nib (tileW arg2 arg3 X_arg2 X_arg3 k) (randB arg4 X_arg4 k) (32 * 3 + 2 * (y 0).val) (128 * 1 + (y 1).val) := by
  rw [r_247_eq]
  exact site_ev _ _ 1 3 0 24 _ _ _ _ _ (v2764_eq arg2 arg3 arg8 arg9 arg10 X_arg2 X_arg3 k) (v1986_eq arg2 arg3 arg8 X_arg2 X_arg3 k) (v1990_eq arg2 arg3 arg8 X_arg2 X_arg3 k) (rload10_eq arg4 X_arg4 k) (by decide) (by decide) y

theorem r_248_eq : trip_k0_t1.sl.r_248 arg2 arg3 arg4 arg8 arg9 arg10 X_arg2 X_arg3 X_arg4 k
    = evV (rOd (wordV (rload10 arg4 X_arg4 k)) 24 slices_S32x128_o24_0_S8x128) (topV (trip_k0_t1.sl.v2764 arg2 arg3 arg8 arg9 arg10 X_arg2 X_arg3 k) (trip_k0_t1.sl.v1988 arg2 arg3 arg8 X_arg2 X_arg3 k)) (topV (trip_k0_t1.sl.v2764 arg2 arg3 arg8 arg9 arg10 X_arg2 X_arg3 k) (trip_k0_t1.sl.v1992 arg2 arg3 arg8 X_arg2 X_arg3 k)) := rfl

theorem r_248_nib (y : S16x128.Idx) : (trip_k0_t1.sl.r_248 arg2 arg3 arg4 arg8 arg9 arg10 X_arg2 X_arg3 X_arg4 k y).extractLsb' 0 4
    = nib (tileW arg2 arg3 X_arg2 X_arg3 k) (randB arg4 X_arg4 k) (32 * 3 + 2 * (y 0).val + 1) (128 * 1 + (y 1).val) := by
  rw [r_248_eq]
  exact site_od _ _ 1 3 0 24 _ _ _ _ _ (v2764_eq arg2 arg3 arg8 arg9 arg10 X_arg2 X_arg3 k) (v1988_eq arg2 arg3 arg8 X_arg2 X_arg3 k) (v1992_eq arg2 arg3 arg8 X_arg2 X_arg3 k) (rload10_eq arg4 X_arg4 k) (by decide) (by decide) y

theorem r_270_eq : trip_k0_t1.sl.r_270 arg2 arg3 arg4 arg8 arg9 arg10 X_arg2 X_arg3 X_arg4 k
    = evV (rEv (wordV (rload11 arg4 X_arg4 k)) 0 slices_S32x128_o0_0_S8x128) (topV (trip_k0_t1.sl.v2961 arg2 arg3 arg8 arg9 arg10 X_arg2 X_arg3 k) (trip_k0_t1.sl.v2000 arg2 arg3 arg8 X_arg2 X_arg3 k)) (topV (trip_k0_t1.sl.v2961 arg2 arg3 arg8 arg9 arg10 X_arg2 X_arg3 k) (trip_k0_t1.sl.v2004 arg2 arg3 arg8 X_arg2 X_arg3 k)) := rfl

theorem r_270_nib (y : S16x128.Idx) : (trip_k0_t1.sl.r_270 arg2 arg3 arg4 arg8 arg9 arg10 X_arg2 X_arg3 X_arg4 k y).extractLsb' 0 4
    = nib (tileW arg2 arg3 X_arg2 X_arg3 k) (randB arg4 X_arg4 k) (32 * 4 + 2 * (y 0).val) (128 * 1 + (y 1).val) := by
  rw [r_270_eq]
  exact site_ev _ _ 1 4 1 0 _ _ _ _ _ (v2961_eq arg2 arg3 arg8 arg9 arg10 X_arg2 X_arg3 k) (v2000_eq arg2 arg3 arg8 X_arg2 X_arg3 k) (v2004_eq arg2 arg3 arg8 X_arg2 X_arg3 k) (rload11_eq arg4 X_arg4 k) (by decide) (by decide) y

theorem r_271_eq : trip_k0_t1.sl.r_271 arg2 arg3 arg4 arg8 arg9 arg10 X_arg2 X_arg3 X_arg4 k
    = evV (rOd (wordV (rload11 arg4 X_arg4 k)) 0 slices_S32x128_o0_0_S8x128) (topV (trip_k0_t1.sl.v2961 arg2 arg3 arg8 arg9 arg10 X_arg2 X_arg3 k) (trip_k0_t1.sl.v2002 arg2 arg3 arg8 X_arg2 X_arg3 k)) (topV (trip_k0_t1.sl.v2961 arg2 arg3 arg8 arg9 arg10 X_arg2 X_arg3 k) (trip_k0_t1.sl.v2006 arg2 arg3 arg8 X_arg2 X_arg3 k)) := rfl

theorem r_271_nib (y : S16x128.Idx) : (trip_k0_t1.sl.r_271 arg2 arg3 arg4 arg8 arg9 arg10 X_arg2 X_arg3 X_arg4 k y).extractLsb' 0 4
    = nib (tileW arg2 arg3 X_arg2 X_arg3 k) (randB arg4 X_arg4 k) (32 * 4 + 2 * (y 0).val + 1) (128 * 1 + (y 1).val) := by
  rw [r_271_eq]
  exact site_od _ _ 1 4 1 0 _ _ _ _ _ (v2961_eq arg2 arg3 arg8 arg9 arg10 X_arg2 X_arg3 k) (v2002_eq arg2 arg3 arg8 X_arg2 X_arg3 k) (v2006_eq arg2 arg3 arg8 X_arg2 X_arg3 k) (rload11_eq arg4 X_arg4 k) (by decide) (by decide) y

theorem r_294_eq : trip_k0_t1.sl.r_294 arg2 arg3 arg4 arg8 arg9 arg10 X_arg2 X_arg3 X_arg4 k
    = evV (rEv (wordV (rload11 arg4 X_arg4 k)) 8 slices_S32x128_o8_0_S8x128) (topV (trip_k0_t1.sl.v3158 arg2 arg3 arg8 arg9 arg10 X_arg2 X_arg3 k) (trip_k0_t1.sl.v2014 arg2 arg3 arg8 X_arg2 X_arg3 k)) (topV (trip_k0_t1.sl.v3158 arg2 arg3 arg8 arg9 arg10 X_arg2 X_arg3 k) (trip_k0_t1.sl.v2018 arg2 arg3 arg8 X_arg2 X_arg3 k)) := rfl

theorem r_294_nib (y : S16x128.Idx) : (trip_k0_t1.sl.r_294 arg2 arg3 arg4 arg8 arg9 arg10 X_arg2 X_arg3 X_arg4 k y).extractLsb' 0 4
    = nib (tileW arg2 arg3 X_arg2 X_arg3 k) (randB arg4 X_arg4 k) (32 * 5 + 2 * (y 0).val) (128 * 1 + (y 1).val) := by
  rw [r_294_eq]
  exact site_ev _ _ 1 5 1 8 _ _ _ _ _ (v3158_eq arg2 arg3 arg8 arg9 arg10 X_arg2 X_arg3 k) (v2014_eq arg2 arg3 arg8 X_arg2 X_arg3 k) (v2018_eq arg2 arg3 arg8 X_arg2 X_arg3 k) (rload11_eq arg4 X_arg4 k) (by decide) (by decide) y

theorem r_295_eq : trip_k0_t1.sl.r_295 arg2 arg3 arg4 arg8 arg9 arg10 X_arg2 X_arg3 X_arg4 k
    = evV (rOd (wordV (rload11 arg4 X_arg4 k)) 8 slices_S32x128_o8_0_S8x128) (topV (trip_k0_t1.sl.v3158 arg2 arg3 arg8 arg9 arg10 X_arg2 X_arg3 k) (trip_k0_t1.sl.v2016 arg2 arg3 arg8 X_arg2 X_arg3 k)) (topV (trip_k0_t1.sl.v3158 arg2 arg3 arg8 arg9 arg10 X_arg2 X_arg3 k) (trip_k0_t1.sl.v2020 arg2 arg3 arg8 X_arg2 X_arg3 k)) := rfl

theorem r_295_nib (y : S16x128.Idx) : (trip_k0_t1.sl.r_295 arg2 arg3 arg4 arg8 arg9 arg10 X_arg2 X_arg3 X_arg4 k y).extractLsb' 0 4
    = nib (tileW arg2 arg3 X_arg2 X_arg3 k) (randB arg4 X_arg4 k) (32 * 5 + 2 * (y 0).val + 1) (128 * 1 + (y 1).val) := by
  rw [r_295_eq]
  exact site_od _ _ 1 5 1 8 _ _ _ _ _ (v3158_eq arg2 arg3 arg8 arg9 arg10 X_arg2 X_arg3 k) (v2016_eq arg2 arg3 arg8 X_arg2 X_arg3 k) (v2020_eq arg2 arg3 arg8 X_arg2 X_arg3 k) (rload11_eq arg4 X_arg4 k) (by decide) (by decide) y

theorem r_311_eq : trip_k0_t1.sl.r_311 arg2 arg3 arg4 arg8 arg9 arg10 X_arg2 X_arg3 X_arg4 k
    = evV (rEv (wordV (rload11 arg4 X_arg4 k)) 16 slices_S32x128_o16_0_S8x128) (topV (trip_k0_t1.sl.v3355 arg2 arg3 arg8 arg9 arg10 X_arg2 X_arg3 k) (trip_k0_t1.sl.v2028 arg2 arg3 arg8 X_arg2 X_arg3 k)) (topV (trip_k0_t1.sl.v3355 arg2 arg3 arg8 arg9 arg10 X_arg2 X_arg3 k) (trip_k0_t1.sl.v2032 arg2 arg3 arg8 X_arg2 X_arg3 k)) := rfl

theorem r_311_nib (y : S16x128.Idx) : (trip_k0_t1.sl.r_311 arg2 arg3 arg4 arg8 arg9 arg10 X_arg2 X_arg3 X_arg4 k y).extractLsb' 0 4
    = nib (tileW arg2 arg3 X_arg2 X_arg3 k) (randB arg4 X_arg4 k) (32 * 6 + 2 * (y 0).val) (128 * 1 + (y 1).val) := by
  rw [r_311_eq]
  exact site_ev _ _ 1 6 1 16 _ _ _ _ _ (v3355_eq arg2 arg3 arg8 arg9 arg10 X_arg2 X_arg3 k) (v2028_eq arg2 arg3 arg8 X_arg2 X_arg3 k) (v2032_eq arg2 arg3 arg8 X_arg2 X_arg3 k) (rload11_eq arg4 X_arg4 k) (by decide) (by decide) y

theorem r_312_eq : trip_k0_t1.sl.r_312 arg2 arg3 arg4 arg8 arg9 arg10 X_arg2 X_arg3 X_arg4 k
    = evV (rOd (wordV (rload11 arg4 X_arg4 k)) 16 slices_S32x128_o16_0_S8x128) (topV (trip_k0_t1.sl.v3355 arg2 arg3 arg8 arg9 arg10 X_arg2 X_arg3 k) (trip_k0_t1.sl.v2030 arg2 arg3 arg8 X_arg2 X_arg3 k)) (topV (trip_k0_t1.sl.v3355 arg2 arg3 arg8 arg9 arg10 X_arg2 X_arg3 k) (trip_k0_t1.sl.v2034 arg2 arg3 arg8 X_arg2 X_arg3 k)) := rfl

theorem r_312_nib (y : S16x128.Idx) : (trip_k0_t1.sl.r_312 arg2 arg3 arg4 arg8 arg9 arg10 X_arg2 X_arg3 X_arg4 k y).extractLsb' 0 4
    = nib (tileW arg2 arg3 X_arg2 X_arg3 k) (randB arg4 X_arg4 k) (32 * 6 + 2 * (y 0).val + 1) (128 * 1 + (y 1).val) := by
  rw [r_312_eq]
  exact site_od _ _ 1 6 1 16 _ _ _ _ _ (v3355_eq arg2 arg3 arg8 arg9 arg10 X_arg2 X_arg3 k) (v2030_eq arg2 arg3 arg8 X_arg2 X_arg3 k) (v2034_eq arg2 arg3 arg8 X_arg2 X_arg3 k) (rload11_eq arg4 X_arg4 k) (by decide) (by decide) y

theorem r_331_eq : trip_k0_t1.sl.r_331 arg2 arg3 arg4 arg8 arg9 arg10 X_arg2 X_arg3 X_arg4 k
    = evV (rEv (wordV (rload11 arg4 X_arg4 k)) 24 slices_S32x128_o24_0_S8x128) (topV (trip_k0_t1.sl.v3552 arg2 arg3 arg8 arg9 arg10 X_arg2 X_arg3 k) (trip_k0_t1.sl.v2042 arg2 arg3 arg8 X_arg2 X_arg3 k)) (topV (trip_k0_t1.sl.v3552 arg2 arg3 arg8 arg9 arg10 X_arg2 X_arg3 k) (trip_k0_t1.sl.v2046 arg2 arg3 arg8 X_arg2 X_arg3 k)) := rfl

theorem r_331_nib (y : S16x128.Idx) : (trip_k0_t1.sl.r_331 arg2 arg3 arg4 arg8 arg9 arg10 X_arg2 X_arg3 X_arg4 k y).extractLsb' 0 4
    = nib (tileW arg2 arg3 X_arg2 X_arg3 k) (randB arg4 X_arg4 k) (32 * 7 + 2 * (y 0).val) (128 * 1 + (y 1).val) := by
  rw [r_331_eq]
  exact site_ev _ _ 1 7 1 24 _ _ _ _ _ (v3552_eq arg2 arg3 arg8 arg9 arg10 X_arg2 X_arg3 k) (v2042_eq arg2 arg3 arg8 X_arg2 X_arg3 k) (v2046_eq arg2 arg3 arg8 X_arg2 X_arg3 k) (rload11_eq arg4 X_arg4 k) (by decide) (by decide) y

theorem r_332_eq : trip_k0_t1.sl.r_332 arg2 arg3 arg4 arg8 arg9 arg10 X_arg2 X_arg3 X_arg4 k
    = evV (rOd (wordV (rload11 arg4 X_arg4 k)) 24 slices_S32x128_o24_0_S8x128) (topV (trip_k0_t1.sl.v3552 arg2 arg3 arg8 arg9 arg10 X_arg2 X_arg3 k) (trip_k0_t1.sl.v2044 arg2 arg3 arg8 X_arg2 X_arg3 k)) (topV (trip_k0_t1.sl.v3552 arg2 arg3 arg8 arg9 arg10 X_arg2 X_arg3 k) (trip_k0_t1.sl.v2048 arg2 arg3 arg8 X_arg2 X_arg3 k)) := rfl

theorem r_332_nib (y : S16x128.Idx) : (trip_k0_t1.sl.r_332 arg2 arg3 arg4 arg8 arg9 arg10 X_arg2 X_arg3 X_arg4 k y).extractLsb' 0 4
    = nib (tileW arg2 arg3 X_arg2 X_arg3 k) (randB arg4 X_arg4 k) (32 * 7 + 2 * (y 0).val + 1) (128 * 1 + (y 1).val) := by
  rw [r_332_eq]
  exact site_od _ _ 1 7 1 24 _ _ _ _ _ (v3552_eq arg2 arg3 arg8 arg9 arg10 X_arg2 X_arg3 k) (v2044_eq arg2 arg3 arg8 X_arg2 X_arg3 k) (v2048_eq arg2 arg3 arg8 X_arg2 X_arg3 k) (rload11_eq arg4 X_arg4 k) (by decide) (by decide) y

/-- The packed codes of the first 128 channels. -/
def codesW0 : IVec S32x128 32 := packV (trip_k0_t1.sl.r_28 arg2 arg3 arg4 arg8 arg9 arg10 X_arg2 X_arg3 X_arg4 k) (trip_k0_t1.sl.r_49 arg2 arg3 arg4 arg8 arg9 arg10 X_arg2 X_arg3 X_arg4 k) (trip_k0_t1.sl.r_66 arg2 arg3 arg4 arg8 arg9 arg10 X_arg2 X_arg3 X_arg4 k) (trip_k0_t1.sl.r_83 arg2 arg3 arg4 arg8 arg9 arg10 X_arg2 X_arg3 X_arg4 k) (trip_k0_t1.sl.r_103 arg2 arg3 arg4 arg8 arg9 arg10 X_arg2 X_arg3 X_arg4 k) (trip_k0_t1.sl.r_126 arg2 arg3 arg4 arg8 arg9 arg10 X_arg2 X_arg3 X_arg4 k) (trip_k0_t1.sl.r_141 arg2 arg3 arg4 arg8 arg9 arg10 X_arg2 X_arg3 X_arg4 k) (trip_k0_t1.sl.r_158 arg2 arg3 arg4 arg8 arg9 arg10 X_arg2 X_arg3 X_arg4 k) (trip_k0_t1.sl.r_29 arg2 arg3 arg4 arg8 arg9 arg10 X_arg2 X_arg3 X_arg4 k) (trip_k0_t1.sl.r_50 arg2 arg3 arg4 arg8 arg9 arg10 X_arg2 X_arg3 X_arg4 k) (trip_k0_t1.sl.r_67 arg2 arg3 arg4 arg8 arg9 arg10 X_arg2 X_arg3 X_arg4 k) (trip_k0_t1.sl.r_84 arg2 arg3 arg4 arg8 arg9 arg10 X_arg2 X_arg3 X_arg4 k) (trip_k0_t1.sl.r_104 arg2 arg3 arg4 arg8 arg9 arg10 X_arg2 X_arg3 X_arg4 k) (trip_k0_t1.sl.r_127 arg2 arg3 arg4 arg8 arg9 arg10 X_arg2 X_arg3 X_arg4 k) (trip_k0_t1.sl.r_143 arg2 arg3 arg4 arg8 arg9 arg10 X_arg2 X_arg3 X_arg4 k) (trip_k0_t1.sl.r_159 arg2 arg3 arg4 arg8 arg9 arg10 X_arg2 X_arg3 X_arg4 k)

/-- Their packed signs. -/
def signsW0 : IVec S32x128 32 := packV (sgV (trip_k0_t1.sl.v100 arg2 arg3 arg8 X_arg2 X_arg3 k) (trip_k0_t1.sl.v104 arg2 arg3 arg8 X_arg2 X_arg3 k)) (sgV (trip_k0_t1.sl.v114 arg2 arg3 arg8 X_arg2 X_arg3 k) (trip_k0_t1.sl.v118 arg2 arg3 arg8 X_arg2 X_arg3 k)) (sgV (trip_k0_t1.sl.v128 arg2 arg3 arg8 X_arg2 X_arg3 k) (trip_k0_t1.sl.v132 arg2 arg3 arg8 X_arg2 X_arg3 k)) (sgV (trip_k0_t1.sl.v142 arg2 arg3 arg8 X_arg2 X_arg3 k) (trip_k0_t1.sl.v146 arg2 arg3 arg8 X_arg2 X_arg3 k)) (sgV (trip_k0_t1.sl.v156 arg2 arg3 arg8 X_arg2 X_arg3 k) (trip_k0_t1.sl.v160 arg2 arg3 arg8 X_arg2 X_arg3 k)) (sgV (trip_k0_t1.sl.v170 arg2 arg3 arg8 X_arg2 X_arg3 k) (trip_k0_t1.sl.v174 arg2 arg3 arg8 X_arg2 X_arg3 k)) (sgV (trip_k0_t1.sl.v184 arg2 arg3 arg8 X_arg2 X_arg3 k) (trip_k0_t1.sl.v188 arg2 arg3 arg8 X_arg2 X_arg3 k)) (sgV (trip_k0_t1.sl.v198 arg2 arg3 arg8 X_arg2 X_arg3 k) (trip_k0_t1.sl.v202 arg2 arg3 arg8 X_arg2 X_arg3 k)) (sgV (trip_k0_t1.sl.v102 arg2 arg3 arg8 X_arg2 X_arg3 k) (trip_k0_t1.sl.v106 arg2 arg3 arg8 X_arg2 X_arg3 k)) (sgV (trip_k0_t1.sl.v116 arg2 arg3 arg8 X_arg2 X_arg3 k) (trip_k0_t1.sl.v120 arg2 arg3 arg8 X_arg2 X_arg3 k)) (sgV (trip_k0_t1.sl.v130 arg2 arg3 arg8 X_arg2 X_arg3 k) (trip_k0_t1.sl.v134 arg2 arg3 arg8 X_arg2 X_arg3 k)) (sgV (trip_k0_t1.sl.v144 arg2 arg3 arg8 X_arg2 X_arg3 k) (trip_k0_t1.sl.v148 arg2 arg3 arg8 X_arg2 X_arg3 k)) (sgV (trip_k0_t1.sl.v158 arg2 arg3 arg8 X_arg2 X_arg3 k) (trip_k0_t1.sl.v162 arg2 arg3 arg8 X_arg2 X_arg3 k)) (sgV (trip_k0_t1.sl.v172 arg2 arg3 arg8 X_arg2 X_arg3 k) (trip_k0_t1.sl.v176 arg2 arg3 arg8 X_arg2 X_arg3 k)) (sgV (trip_k0_t1.sl.v186 arg2 arg3 arg8 X_arg2 X_arg3 k) (trip_k0_t1.sl.v190 arg2 arg3 arg8 X_arg2 X_arg3 k)) (sgV (trip_k0_t1.sl.v200 arg2 arg3 arg8 X_arg2 X_arg3 k) (trip_k0_t1.sl.v204 arg2 arg3 arg8 X_arg2 X_arg3 k))

theorem codesW0_apply (z : S32x128.Idx) : codesW0 arg2 arg3 arg4 arg8 arg9 arg10 X_arg2 X_arg3 X_arg4 k z
    = wordOf (fun t => nib (tileW arg2 arg3 X_arg2 X_arg3 k) (randB arg4 X_arg4 k) t (128 * 0 + (z 1).val)) (z 0).val := by
  exact packV_apply _ _ _ _ _ _ _ _ _ _ _ _ _ _ _ _ (fun t l => nib (tileW arg2 arg3 X_arg2 X_arg3 k) (randB arg4 X_arg4 k) t (128 * 0 + l))
    (r_28_nib arg2 arg3 arg4 arg8 arg9 arg10 X_arg2 X_arg3 X_arg4 k) (r_49_nib arg2 arg3 arg4 arg8 arg9 arg10 X_arg2 X_arg3 X_arg4 k) (r_66_nib arg2 arg3 arg4 arg8 arg9 arg10 X_arg2 X_arg3 X_arg4 k) (r_83_nib arg2 arg3 arg4 arg8 arg9 arg10 X_arg2 X_arg3 X_arg4 k) (r_103_nib arg2 arg3 arg4 arg8 arg9 arg10 X_arg2 X_arg3 X_arg4 k) (r_126_nib arg2 arg3 arg4 arg8 arg9 arg10 X_arg2 X_arg3 X_arg4 k) (r_141_nib arg2 arg3 arg4 arg8 arg9 arg10 X_arg2 X_arg3 X_arg4 k) (r_158_nib arg2 arg3 arg4 arg8 arg9 arg10 X_arg2 X_arg3 X_arg4 k) (r_29_nib arg2 arg3 arg4 arg8 arg9 arg10 X_arg2 X_arg3 X_arg4 k) (r_50_nib arg2 arg3 arg4 arg8 arg9 arg10 X_arg2 X_arg3 X_arg4 k) (r_67_nib arg2 arg3 arg4 arg8 arg9 arg10 X_arg2 X_arg3 X_arg4 k) (r_84_nib arg2 arg3 arg4 arg8 arg9 arg10 X_arg2 X_arg3 X_arg4 k) (r_104_nib arg2 arg3 arg4 arg8 arg9 arg10 X_arg2 X_arg3 X_arg4 k) (r_127_nib arg2 arg3 arg4 arg8 arg9 arg10 X_arg2 X_arg3 X_arg4 k) (r_143_nib arg2 arg3 arg4 arg8 arg9 arg10 X_arg2 X_arg3 X_arg4 k) (r_159_nib arg2 arg3 arg4 arg8 arg9 arg10 X_arg2 X_arg3 X_arg4 k) z

theorem signsW0_apply (z : S32x128.Idx) : signsW0 arg2 arg3 arg8 X_arg2 X_arg3 k z
    = wordOf (fun t => sgn (tok (tileW arg2 arg3 X_arg2 X_arg3 k) t (128 * 0 + (z 1).val))) (z 0).val := by
  exact packV_apply _ _ _ _ _ _ _ _ _ _ _ _ _ _ _ _ (fun t l => sgn (tok (tileW arg2 arg3 X_arg2 X_arg3 k) t (128 * 0 + l)))
    (sign_ev _ 0 0 _ _ (v100_eq arg2 arg3 arg8 X_arg2 X_arg3 k) (v104_eq arg2 arg3 arg8 X_arg2 X_arg3 k)) (sign_ev _ 0 1 _ _ (v114_eq arg2 arg3 arg8 X_arg2 X_arg3 k) (v118_eq arg2 arg3 arg8 X_arg2 X_arg3 k)) (sign_ev _ 0 2 _ _ (v128_eq arg2 arg3 arg8 X_arg2 X_arg3 k) (v132_eq arg2 arg3 arg8 X_arg2 X_arg3 k)) (sign_ev _ 0 3 _ _ (v142_eq arg2 arg3 arg8 X_arg2 X_arg3 k) (v146_eq arg2 arg3 arg8 X_arg2 X_arg3 k)) (sign_ev _ 0 4 _ _ (v156_eq arg2 arg3 arg8 X_arg2 X_arg3 k) (v160_eq arg2 arg3 arg8 X_arg2 X_arg3 k)) (sign_ev _ 0 5 _ _ (v170_eq arg2 arg3 arg8 X_arg2 X_arg3 k) (v174_eq arg2 arg3 arg8 X_arg2 X_arg3 k)) (sign_ev _ 0 6 _ _ (v184_eq arg2 arg3 arg8 X_arg2 X_arg3 k) (v188_eq arg2 arg3 arg8 X_arg2 X_arg3 k)) (sign_ev _ 0 7 _ _ (v198_eq arg2 arg3 arg8 X_arg2 X_arg3 k) (v202_eq arg2 arg3 arg8 X_arg2 X_arg3 k))
    (sign_od _ 0 0 _ _ (v102_eq arg2 arg3 arg8 X_arg2 X_arg3 k) (v106_eq arg2 arg3 arg8 X_arg2 X_arg3 k)) (sign_od _ 0 1 _ _ (v116_eq arg2 arg3 arg8 X_arg2 X_arg3 k) (v120_eq arg2 arg3 arg8 X_arg2 X_arg3 k)) (sign_od _ 0 2 _ _ (v130_eq arg2 arg3 arg8 X_arg2 X_arg3 k) (v134_eq arg2 arg3 arg8 X_arg2 X_arg3 k)) (sign_od _ 0 3 _ _ (v144_eq arg2 arg3 arg8 X_arg2 X_arg3 k) (v148_eq arg2 arg3 arg8 X_arg2 X_arg3 k)) (sign_od _ 0 4 _ _ (v158_eq arg2 arg3 arg8 X_arg2 X_arg3 k) (v162_eq arg2 arg3 arg8 X_arg2 X_arg3 k)) (sign_od _ 0 5 _ _ (v172_eq arg2 arg3 arg8 X_arg2 X_arg3 k) (v176_eq arg2 arg3 arg8 X_arg2 X_arg3 k)) (sign_od _ 0 6 _ _ (v186_eq arg2 arg3 arg8 X_arg2 X_arg3 k) (v190_eq arg2 arg3 arg8 X_arg2 X_arg3 k)) (sign_od _ 0 7 _ _ (v200_eq arg2 arg3 arg8 X_arg2 X_arg3 k) (v204_eq arg2 arg3 arg8 X_arg2 X_arg3 k)) z

theorem stored0 : k0_pay204 (trip_k0_t1.sl.r_162 arg2 arg3 arg4 arg8 arg9 arg10 X_arg2 X_arg3 X_arg4 k) (trip_k0_t1.sl.r_163 arg2 arg3 arg4 arg8 arg9 arg10 X_arg2 X_arg3 X_arg4 k) k0_pay203
    = bytesV (fun z => finW (codesW0 arg2 arg3 arg4 arg8 arg9 arg10 X_arg2 X_arg3 X_arg4 k z) (signsW0 arg2 arg3 arg8 X_arg2 X_arg3 k z)) := rfl

/-- What the trip stores for the first 128 channels. -/
theorem code_0 (x : S1x128x128.Idx) : k0_pay204 (trip_k0_t1.sl.r_162 arg2 arg3 arg4 arg8 arg9 arg10 X_arg2 X_arg3 X_arg4 k) (trip_k0_t1.sl.r_163 arg2 arg3 arg4 arg8 arg9 arg10 X_arg2 X_arg3 X_arg4 k) k0_pay203 x
    = codeByte (tileW arg2 arg3 X_arg2 X_arg3 k) (randB arg4 X_arg4 k) (128 * 0 + (x 1).val) (x 2).val := by
  have hx2 : (x 2).val < 128 := (x 2).isLt
  rw [stored0, bytesV_apply _ x ⟨(x 2).val / 4, by omega⟩ rfl]
  show byteAt (finW (codesW0 arg2 arg3 arg4 arg8 arg9 arg10 X_arg2 X_arg3 X_arg4 k (ValueIdx.ix2 ⟨(x 2).val / 4, by omega⟩ (x 1))) (signsW0 arg2 arg3 arg8 X_arg2 X_arg3 k (ValueIdx.ix2 ⟨(x 2).val / 4, by omega⟩ (x 1)))) _ = _
  rw [codesW0_apply, signsW0_apply]
  rfl

/-- The packed codes of the second 128 channels. -/
def codesW1 : IVec S32x128 32 := packV (trip_k0_t1.sl.r_192 arg2 arg3 arg4 arg8 arg9 arg10 X_arg2 X_arg3 X_arg4 k) (trip_k0_t1.sl.r_214 arg2 arg3 arg4 arg8 arg9 arg10 X_arg2 X_arg3 X_arg4 k) (trip_k0_t1.sl.r_230 arg2 arg3 arg4 arg8 arg9 arg10 X_arg2 X_arg3 X_arg4 k) (trip_k0_t1.sl.r_247 arg2 arg3 arg4 arg8 arg9 arg10 X_arg2 X_arg3 X_arg4 k) (trip_k0_t1.sl.r_270 arg2 arg3 arg4 arg8 arg9 arg10 X_arg2 X_arg3 X_arg4 k) (trip_k0_t1.sl.r_294 arg2 arg3 arg4 arg8 arg9 arg10 X_arg2 X_arg3 X_arg4 k) (trip_k0_t1.sl.r_311 arg2 arg3 arg4 arg8 arg9 arg10 X_arg2 X_arg3 X_arg4 k) (trip_k0_t1.sl.r_331 arg2 arg3 arg4 arg8 arg9 arg10 X_arg2 X_arg3 X_arg4 k) (trip_k0_t1.sl.r_193 arg2 arg3 arg4 arg8 arg9 arg10 X_arg2 X_arg3 X_arg4 k) (trip_k0_t1.sl.r_215 arg2 arg3 arg4 arg8 arg9 arg10 X_arg2 X_arg3 X_arg4 k) (trip_k0_t1.sl.r_232 arg2 arg3 arg4 arg8 arg9 arg10 X_arg2 X_arg3 X_arg4 k) (trip_k0_t1.sl.r_248 arg2 arg3 arg4 arg8 arg9 arg10 X_arg2 X_arg3 X_arg4 k) (trip_k0_t1.sl.r_271 arg2 arg3 arg4 arg8 arg9 arg10 X_arg2 X_arg3 X_arg4 k) (trip_k0_t1.sl.r_295 arg2 arg3 arg4 arg8 arg9 arg10 X_arg2 X_arg3 X_arg4 k) (trip_k0_t1.sl.r_312 arg2 arg3 arg4 arg8 arg9 arg10 X_arg2 X_arg3 X_arg4 k) (trip_k0_t1.sl.r_332 arg2 arg3 arg4 arg8 arg9 arg10 X_arg2 X_arg3 X_arg4 k)

/-- Their packed signs. -/
def signsW1 : IVec S32x128 32 := packV (sgV (trip_k0_t1.sl.v1944 arg2 arg3 arg8 X_arg2 X_arg3 k) (trip_k0_t1.sl.v1948 arg2 arg3 arg8 X_arg2 X_arg3 k)) (sgV (trip_k0_t1.sl.v1958 arg2 arg3 arg8 X_arg2 X_arg3 k) (trip_k0_t1.sl.v1962 arg2 arg3 arg8 X_arg2 X_arg3 k)) (sgV (trip_k0_t1.sl.v1972 arg2 arg3 arg8 X_arg2 X_arg3 k) (trip_k0_t1.sl.v1976 arg2 arg3 arg8 X_arg2 X_arg3 k)) (sgV (trip_k0_t1.sl.v1986 arg2 arg3 arg8 X_arg2 X_arg3 k) (trip_k0_t1.sl.v1990 arg2 arg3 arg8 X_arg2 X_arg3 k)) (sgV (trip_k0_t1.sl.v2000 arg2 arg3 arg8 X_arg2 X_arg3 k) (trip_k0_t1.sl.v2004 arg2 arg3 arg8 X_arg2 X_arg3 k)) (sgV (trip_k0_t1.sl.v2014 arg2 arg3 arg8 X_arg2 X_arg3 k) (trip_k0_t1.sl.v2018 arg2 arg3 arg8 X_arg2 X_arg3 k)) (sgV (trip_k0_t1.sl.v2028 arg2 arg3 arg8 X_arg2 X_arg3 k) (trip_k0_t1.sl.v2032 arg2 arg3 arg8 X_arg2 X_arg3 k)) (sgV (trip_k0_t1.sl.v2042 arg2 arg3 arg8 X_arg2 X_arg3 k) (trip_k0_t1.sl.v2046 arg2 arg3 arg8 X_arg2 X_arg3 k)) (sgV (trip_k0_t1.sl.v1946 arg2 arg3 arg8 X_arg2 X_arg3 k) (trip_k0_t1.sl.v1950 arg2 arg3 arg8 X_arg2 X_arg3 k)) (sgV (trip_k0_t1.sl.v1960 arg2 arg3 arg8 X_arg2 X_arg3 k) (trip_k0_t1.sl.v1964 arg2 arg3 arg8 X_arg2 X_arg3 k)) (sgV (trip_k0_t1.sl.v1974 arg2 arg3 arg8 X_arg2 X_arg3 k) (trip_k0_t1.sl.v1978 arg2 arg3 arg8 X_arg2 X_arg3 k)) (sgV (trip_k0_t1.sl.v1988 arg2 arg3 arg8 X_arg2 X_arg3 k) (trip_k0_t1.sl.v1992 arg2 arg3 arg8 X_arg2 X_arg3 k)) (sgV (trip_k0_t1.sl.v2002 arg2 arg3 arg8 X_arg2 X_arg3 k) (trip_k0_t1.sl.v2006 arg2 arg3 arg8 X_arg2 X_arg3 k)) (sgV (trip_k0_t1.sl.v2016 arg2 arg3 arg8 X_arg2 X_arg3 k) (trip_k0_t1.sl.v2020 arg2 arg3 arg8 X_arg2 X_arg3 k)) (sgV (trip_k0_t1.sl.v2030 arg2 arg3 arg8 X_arg2 X_arg3 k) (trip_k0_t1.sl.v2034 arg2 arg3 arg8 X_arg2 X_arg3 k)) (sgV (trip_k0_t1.sl.v2044 arg2 arg3 arg8 X_arg2 X_arg3 k) (trip_k0_t1.sl.v2048 arg2 arg3 arg8 X_arg2 X_arg3 k))

theorem codesW1_apply (z : S32x128.Idx) : codesW1 arg2 arg3 arg4 arg8 arg9 arg10 X_arg2 X_arg3 X_arg4 k z
    = wordOf (fun t => nib (tileW arg2 arg3 X_arg2 X_arg3 k) (randB arg4 X_arg4 k) t (128 * 1 + (z 1).val)) (z 0).val := by
  exact packV_apply _ _ _ _ _ _ _ _ _ _ _ _ _ _ _ _ (fun t l => nib (tileW arg2 arg3 X_arg2 X_arg3 k) (randB arg4 X_arg4 k) t (128 * 1 + l))
    (r_192_nib arg2 arg3 arg4 arg8 arg9 arg10 X_arg2 X_arg3 X_arg4 k) (r_214_nib arg2 arg3 arg4 arg8 arg9 arg10 X_arg2 X_arg3 X_arg4 k) (r_230_nib arg2 arg3 arg4 arg8 arg9 arg10 X_arg2 X_arg3 X_arg4 k) (r_247_nib arg2 arg3 arg4 arg8 arg9 arg10 X_arg2 X_arg3 X_arg4 k) (r_270_nib arg2 arg3 arg4 arg8 arg9 arg10 X_arg2 X_arg3 X_arg4 k) (r_294_nib arg2 arg3 arg4 arg8 arg9 arg10 X_arg2 X_arg3 X_arg4 k) (r_311_nib arg2 arg3 arg4 arg8 arg9 arg10 X_arg2 X_arg3 X_arg4 k) (r_331_nib arg2 arg3 arg4 arg8 arg9 arg10 X_arg2 X_arg3 X_arg4 k) (r_193_nib arg2 arg3 arg4 arg8 arg9 arg10 X_arg2 X_arg3 X_arg4 k) (r_215_nib arg2 arg3 arg4 arg8 arg9 arg10 X_arg2 X_arg3 X_arg4 k) (r_232_nib arg2 arg3 arg4 arg8 arg9 arg10 X_arg2 X_arg3 X_arg4 k) (r_248_nib arg2 arg3 arg4 arg8 arg9 arg10 X_arg2 X_arg3 X_arg4 k) (r_271_nib arg2 arg3 arg4 arg8 arg9 arg10 X_arg2 X_arg3 X_arg4 k) (r_295_nib arg2 arg3 arg4 arg8 arg9 arg10 X_arg2 X_arg3 X_arg4 k) (r_312_nib arg2 arg3 arg4 arg8 arg9 arg10 X_arg2 X_arg3 X_arg4 k) (r_332_nib arg2 arg3 arg4 arg8 arg9 arg10 X_arg2 X_arg3 X_arg4 k) z

theorem signsW1_apply (z : S32x128.Idx) : signsW1 arg2 arg3 arg8 X_arg2 X_arg3 k z
    = wordOf (fun t => sgn (tok (tileW arg2 arg3 X_arg2 X_arg3 k) t (128 * 1 + (z 1).val))) (z 0).val := by
  exact packV_apply _ _ _ _ _ _ _ _ _ _ _ _ _ _ _ _ (fun t l => sgn (tok (tileW arg2 arg3 X_arg2 X_arg3 k) t (128 * 1 + l)))
    (sign_ev _ 1 0 _ _ (v1944_eq arg2 arg3 arg8 X_arg2 X_arg3 k) (v1948_eq arg2 arg3 arg8 X_arg2 X_arg3 k)) (sign_ev _ 1 1 _ _ (v1958_eq arg2 arg3 arg8 X_arg2 X_arg3 k) (v1962_eq arg2 arg3 arg8 X_arg2 X_arg3 k)) (sign_ev _ 1 2 _ _ (v1972_eq arg2 arg3 arg8 X_arg2 X_arg3 k) (v1976_eq arg2 arg3 arg8 X_arg2 X_arg3 k)) (sign_ev _ 1 3 _ _ (v1986_eq arg2 arg3 arg8 X_arg2 X_arg3 k) (v1990_eq arg2 arg3 arg8 X_arg2 X_arg3 k)) (sign_ev _ 1 4 _ _ (v2000_eq arg2 arg3 arg8 X_arg2 X_arg3 k) (v2004_eq arg2 arg3 arg8 X_arg2 X_arg3 k)) (sign_ev _ 1 5 _ _ (v2014_eq arg2 arg3 arg8 X_arg2 X_arg3 k) (v2018_eq arg2 arg3 arg8 X_arg2 X_arg3 k)) (sign_ev _ 1 6 _ _ (v2028_eq arg2 arg3 arg8 X_arg2 X_arg3 k) (v2032_eq arg2 arg3 arg8 X_arg2 X_arg3 k)) (sign_ev _ 1 7 _ _ (v2042_eq arg2 arg3 arg8 X_arg2 X_arg3 k) (v2046_eq arg2 arg3 arg8 X_arg2 X_arg3 k))
    (sign_od _ 1 0 _ _ (v1946_eq arg2 arg3 arg8 X_arg2 X_arg3 k) (v1950_eq arg2 arg3 arg8 X_arg2 X_arg3 k)) (sign_od _ 1 1 _ _ (v1960_eq arg2 arg3 arg8 X_arg2 X_arg3 k) (v1964_eq arg2 arg3 arg8 X_arg2 X_arg3 k)) (sign_od _ 1 2 _ _ (v1974_eq arg2 arg3 arg8 X_arg2 X_arg3 k) (v1978_eq arg2 arg3 arg8 X_arg2 X_arg3 k)) (sign_od _ 1 3 _ _ (v1988_eq arg2 arg3 arg8 X_arg2 X_arg3 k) (v1992_eq arg2 arg3 arg8 X_arg2 X_arg3 k)) (sign_od _ 1 4 _ _ (v2002_eq arg2 arg3 arg8 X_arg2 X_arg3 k) (v2006_eq arg2 arg3 arg8 X_arg2 X_arg3 k)) (sign_od _ 1 5 _ _ (v2016_eq arg2 arg3 arg8 X_arg2 X_arg3 k) (v2020_eq arg2 arg3 arg8 X_arg2 X_arg3 k)) (sign_od _ 1 6 _ _ (v2030_eq arg2 arg3 arg8 X_arg2 X_arg3 k) (v2034_eq arg2 arg3 arg8 X_arg2 X_arg3 k)) (sign_od _ 1 7 _ _ (v2044_eq arg2 arg3 arg8 X_arg2 X_arg3 k) (v2048_eq arg2 arg3 arg8 X_arg2 X_arg3 k)) z

theorem stored1 : k0_pay406 (trip_k0_t1.sl.r_334 arg2 arg3 arg4 arg8 arg9 arg10 X_arg2 X_arg3 X_arg4 k) (trip_k0_t1.sl.r_335 arg2 arg3 arg4 arg8 arg9 arg10 X_arg2 X_arg3 X_arg4 k) (trip_k0_t1.sl.r_336 arg2 arg3 arg4 arg8 arg9 arg10 X_arg2 X_arg3 X_arg4 k) k0_pay405
    = bytesV (fun z => finW (codesW1 arg2 arg3 arg4 arg8 arg9 arg10 X_arg2 X_arg3 X_arg4 k z) (signsW1 arg2 arg3 arg8 X_arg2 X_arg3 k z)) := rfl

/-- What the trip stores for the second 128 channels. -/
theorem code_1 (x : S1x128x128.Idx) : k0_pay406 (trip_k0_t1.sl.r_334 arg2 arg3 arg4 arg8 arg9 arg10 X_arg2 X_arg3 X_arg4 k) (trip_k0_t1.sl.r_335 arg2 arg3 arg4 arg8 arg9 arg10 X_arg2 X_arg3 X_arg4 k) (trip_k0_t1.sl.r_336 arg2 arg3 arg4 arg8 arg9 arg10 X_arg2 X_arg3 X_arg4 k) k0_pay405 x
    = codeByte (tileW arg2 arg3 X_arg2 X_arg3 k) (randB arg4 X_arg4 k) (128 * 1 + (x 1).val) (x 2).val := by
  have hx2 : (x 2).val < 128 := (x 2).isLt
  rw [stored1, bytesV_apply _ x ⟨(x 2).val / 4, by omega⟩ rfl]
  show byteAt (finW (codesW1 arg2 arg3 arg4 arg8 arg9 arg10 X_arg2 X_arg3 X_arg4 k (ValueIdx.ix2 ⟨(x 2).val / 4, by omega⟩ (x 1))) (signsW1 arg2 arg3 arg8 X_arg2 X_arg3 k (ValueIdx.ix2 ⟨(x 2).val / 4, by omega⟩ (x 1)))) _ = _
  rw [codesW1_apply, signsW1_apply]
  rfl

end Trip

end Cert.Proof.Sites
-- ==== Proof.Nibbles.lean ====
/-
  The stored word, nibble by nibble.  The kernel brings the top code down and puts the signs in on whole words; no carry or
  borrow passes from a nibble to the next while every nibble is at most 8.
-/
module

public import proofs.«01_k».proof.Proof.Sites

@[expose] public section

noncomputable section

namespace Cert.Proof.Nibbles

open Idealize.ShloMosaic
open Cert.Proof.Words Cert.Proof.Sites

theorem app_nat {n m : ℕ} (x : BitVec n) (y : BitVec m) : (x ++ y).toNat = x.toNat * 2 ^ m + y.toNat := by
  rw [BitVec.toNat_append, ← Nat.shiftLeft_add_eq_or_of_lt y.isLt, Nat.shiftLeft_eq]

/-- A word, as a number. -/
theorem word_nat (f : ℕ → BitVec 4) (a : ℕ) : (wordOf f a).toNat
    = (f (2 * (4 * a))).toNat + 16 * (f (2 * (4 * a) + 1)).toNat + 256 * (f (2 * (4 * a + 1))).toNat + 4096 * (f (2 * (4 * a + 1) + 1)).toNat
      + 65536 * (f (2 * (4 * a + 2))).toNat + 1048576 * (f (2 * (4 * a + 2) + 1)).toNat + 16777216 * (f (2 * (4 * a + 3))).toNat
      + 268435456 * (f (2 * (4 * a + 3) + 1)).toNat := by
  unfold wordOf byteOf
  rw [app_nat, app_nat, app_nat, app_nat, app_nat, app_nat, app_nat]
  omega

/-- Words add nibble by nibble while no nibble overflows. -/
theorem word_add (f g : ℕ → BitVec 4) (a : ℕ) (h : ∀ t, t / 8 = a → (f t).toNat + (g t).toNat < 16) :
    wordOf f a + wordOf g a = wordOf (fun t => f t + g t) a := by
  apply BitVec.eq_of_toNat_eq
  have e : ∀ t, t / 8 = a → (f t + g t).toNat = (f t).toNat + (g t).toNat := fun t ht => BitVec.toNat_add_of_lt (h t ht)
  rw [BitVec.toNat_add, word_nat, word_nat, word_nat, e _ (by omega), e _ (by omega), e _ (by omega), e _ (by omega), e _ (by omega), e _ (by omega),
    e _ (by omega), e _ (by omega)]
  have h0 := h (2 * (4 * a)) (by omega)
  have h1 := h (2 * (4 * a) + 1) (by omega)
  have h2 := h (2 * (4 * a + 1)) (by omega)
  have h3 := h (2 * (4 * a + 1) + 1) (by omega)
  have h4 := h (2 * (4 * a + 2)) (by omega)
  have h5 := h (2 * (4 * a + 2) + 1) (by omega)
  have h6 := h (2 * (4 * a + 3)) (by omega)
  have h7 := h (2 * (4 * a + 3) + 1) (by omega)
  omega

theorem byte_bit (f : ℕ → BitVec 4) (p i : ℕ) (hi : i < 8) : (byteOf f p).getLsbD i = (f (2 * p + i / 4)).getLsbD (i % 4) := by
  unfold byteOf
  rw [BitVec.getLsbD_append]
  by_cases h : i < 4
  · rw [if_pos h, Nat.div_eq_of_lt h, Nat.mod_eq_of_lt h, Nat.add_zero]
  · rw [if_neg h]
    congr 1
    · congr 1; congr 1; omega
    · omega

theorem word_bit (f : ℕ → BitVec 4) (a q : ℕ) (hq : q < 32) : (wordOf f a).getLsbD q = (f (8 * a + q / 4)).getLsbD (q % 4) := by
  rw [wordOf_getLsbD f a q hq, byte_bit _ _ _ (by omega)]
  congr 1
  · congr 1; omega
  · omega

theorem word_ext (f g : ℕ → BitVec 4) (a : ℕ) (h : ∀ t, t / 8 = a → f t = g t) : wordOf f a = wordOf g a := by
  apply BitVec.eq_of_getLsbD_eq
  intro q hq
  rw [word_bit _ _ _ hq, word_bit _ _ _ hq, h _ (by omega)]

theorem word_and (f g : ℕ → BitVec 4) (a : ℕ) : wordOf f a &&& wordOf g a = wordOf (fun t => f t &&& g t) a := by
  apply BitVec.eq_of_getLsbD_eq
  intro q hq
  rw [BitVec.getLsbD_and, word_bit _ _ _ hq, word_bit _ _ _ hq, word_bit _ _ _ hq, BitVec.getLsbD_and]

theorem word_or (f g : ℕ → BitVec 4) (a : ℕ) : wordOf f a ||| wordOf g a = wordOf (fun t => f t ||| g t) a := by
  apply BitVec.eq_of_getLsbD_eq
  intro q hq
  rw [BitVec.getLsbD_or, word_bit _ _ _ hq, word_bit _ _ _ hq, word_bit _ _ _ hq, BitVec.getLsbD_or]

theorem word_const (a : ℕ) (n : BitVec 4) (w : BitVec 32) (h : ((n ++ n : BitVec 8) ++ (n ++ n : BitVec 8) : BitVec 16) ++ ((n ++ n : BitVec 8) ++ (n ++ n : BitVec 8) : BitVec 16) = w) :
    wordOf (fun _ => n) a = w := h

theorem eight_bit (x : BitVec 4) (i : ℕ) (hi : i < 4) : (x &&& 8#4).getLsbD i = (decide (i = 3) && x.getLsbD 3) := by
  rw [BitVec.getLsbD_and]
  interval_cases i
  · simp
  · simp
  · simp
  · simp

theorem eight_shift (x : BitVec 4) (i : ℕ) (hi : i < 4) : ((x &&& 8#4) >>> 3).getLsbD i = (decide (i = 0) && x.getLsbD 3) := by
  rw [BitVec.getLsbD_ushiftRight]
  by_cases h : i = 0
  · subst h; rw [eight_bit _ _ (by omega)]; simp
  · rw [BitVec.getLsbD_of_ge _ _ (by omega)]; simp [h]

/-- The top bits of the nibbles, brought to their nibbles' lowest. -/
theorem word_tops (f : ℕ → BitVec 4) (a : ℕ) : wordOf (fun t => f t &&& 8#4) a >>> 3 = wordOf (fun t => (f t &&& 8#4) >>> 3) a := by
  apply BitVec.eq_of_getLsbD_eq
  intro q hq
  rw [BitVec.getLsbD_ushiftRight, word_bit _ _ _ hq, eight_shift _ _ (by omega)]
  by_cases h : 3 + q < 32
  · rw [word_bit _ _ _ h, eight_bit _ _ (by omega)]
    by_cases h0 : q % 4 = 0
    · have e1 : (3 + q) % 4 = 3 := by omega
      have e2 : (3 + q) / 4 = q / 4 := by omega
      rw [e1, e2, h0]
      simp
    · have e1 : (3 + q) % 4 ≠ 3 := by omega
      simp [e1, h0]
  · rw [BitVec.getLsbD_of_ge _ _ (by omega)]
    have h0 : q % 4 ≠ 0 := by omega
    simp [h0]

/-- A nibble with the top code brought down, and the sign put in unless it is zero. -/
def fin4 (c s : BitVec 4) : BitVec 4 := (c - (c &&& 8#4) >>> 3) ||| ((c + 7#4) &&& (s &&& 8#4))

theorem low_le (c : BitVec 4) (h : c.toNat ≤ 8) : (c - (c &&& 8#4) >>> 3).toNat + ((c &&& 8#4) >>> 3).toNat < 16 ∧ (c - (c &&& 8#4) >>> 3) + (c &&& 8#4) >>> 3 = c := by
  revert h; revert c; decide

theorem finW_nib (f g : ℕ → BitVec 4) (a : ℕ) (h : ∀ t, t / 8 = a → (f t).toNat ≤ 8) :
    finW (wordOf f a) (wordOf g a) = wordOf (fun t => fin4 (f t) (g t)) a := by
  have k8 : (2290649224#32 : BitVec 32) = wordOf (fun _ => 8#4) a := (word_const a 8#4 _ (by decide)).symm
  have k7 : (2004318071#32 : BitVec 32) = wordOf (fun _ => 7#4) a := (word_const a 7#4 _ (by decide)).symm
  have sh : ∀ w : BitVec 32, IntOp.shrui .vector w 3#32 = w >>> 3 := fun _ => rfl
  have e1 : wordOf f a - wordOf (fun t => (f t &&& 8#4) >>> 3) a = wordOf (fun t => f t - (f t &&& 8#4) >>> 3) a := by
    have e : wordOf f a = wordOf (fun t => f t - (f t &&& 8#4) >>> 3) a + wordOf (fun t => (f t &&& 8#4) >>> 3) a := by
      rw [word_add _ _ _ fun t ht => (low_le (f t) (h t ht)).1]
      exact word_ext _ _ _ fun t ht => (low_le (f t) (h t ht)).2.symm
    rw [e, BitVec.add_sub_cancel]
  have e2 : wordOf f a + wordOf (fun _ => 7#4) a = wordOf (fun t => f t + 7#4) a :=
    word_add _ _ _ fun t ht => by have := h t ht; show (f t).toNat + 7 < 16; omega
  unfold finW
  rw [sh]
  show (wordOf f a - (wordOf f a &&& 2290649224#32) >>> 3) ||| ((wordOf f a + 2004318071#32) &&& (wordOf g a &&& 2290649224#32)) = _
  rw [k8, k7, word_and, word_and, word_tops, e1, e2, word_and, word_or]
  rfl

/-- A byte of a word. -/
theorem byteAt_word (f : ℕ → BitVec 4) (a b : ℕ) (hb : b < 4) : byteAt (wordOf f a) b = byteOf f (4 * a + b) := by
  apply BitVec.eq_of_getLsbD_eq
  intro i hi
  unfold byteAt
  rw [BitVec.getLsbD_extractLsb', wordOf_getLsbD _ _ _ (by omega), decide_eq_true hi]
  have e1 : (8 * b + i) / 8 = b := by omega
  have e2 : (8 * b + i) % 8 = i := by omega
  rw [e1, e2, Bool.true_and]

/-- The byte of a token pair, from its two nibbles. -/
theorem codeByte_eq {F : FTy → Type} [FloatOps F] (W : Cert.KernelIdeal.S256x256.Idx → F .f32) (R : ℕ → ℕ → BitVec 8) (c p : ℕ)
    (h : ∀ t, t / 8 = p / 4 → (nib W R t c).toNat ≤ 8) :
    codeByte W R c p = fin4 (nib W R (2 * p + 1) c) (sgn (tok W (2 * p + 1) c)) ++ fin4 (nib W R (2 * p) c) (sgn (tok W (2 * p) c)) := by
  unfold codeByte
  rw [finW_nib _ _ _ h, byteAt_word _ _ _ (by omega)]
  have e : 4 * (p / 4) + p % 4 = p := by omega
  rw [e]
  rfl

end Cert.Proof.Nibbles

end
-- ==== Proof.Trips.lean ====
/-
  The loop as a whole.  After the 24 trips the transposed maxima hold every block's maximum and the result block every
  pair's code byte, whatever the buffers held before.
-/
module

public import proofs.«01_k».proof.Proof.Sites

@[expose] public section

noncomputable section

namespace Cert.Proof.Trips

open Cert.KernelIdeal Cert.KernelIdeal.Gen Cert.Proof.Weights Cert.Proof.Words Cert.Proof.Sites Cert.Proof.KernelIdealRun
open Idealize.ShloMosaic Idealize.ShloMosaic.TcCoe

variable {F : FTy → Type} [FloatOps F]

theorem trips_eq : k0_t1_loop.trips = 24 := by decide

/-- Trip `n`, taken modulo the number of trips. -/
def kOf (n : ℕ) : Fin k0_t1_loop.trips := ⟨n % 24, by rw [trips_eq]; exact Nat.mod_lt _ (by decide)⟩

theorem kOf_val (k : Fin k0_t1_loop.trips) (n : ℕ) (h : n = k.val) : kOf n = k := by
  have : k.val < 24 := k.isLt
  apply Fin.ext; show n % 24 = k.val; omega

section Trip
variable (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole)
  (X2 : M2.view.ty.Contents (Elt F)) (X3 : M3.view.ty.Contents (Elt F)) (X4 : M4.view.ty.Contents (Elt F)) (k : Fin k0_t1_loop.trips)
  (f6 : BufTy.Contents (Elt F) M6.view.ty) (f8 : BufTy.Contents (Elt F) M8.view.ty) (f9 : BufTy.Contents (Elt F) M9.view.ty) (f10 : BufTy.Contents (Elt F) M10.view.ty) (f11 : BufTy.Contents (Elt F) M11.view.ty)

/-- The maxima the loop leaves: row `8·k + g`, block `g` of tile `k`. -/
def amG : S192x256.Idx → F .f32 := fun y => blockMax (tileW M2 M3 X2 X3 (kOf ((y 0).val / 8))) ((y 0).val % 8) (y 1).val

/-- The code bytes the loop leaves: byte `128·k + p` of a channel, token pair `p` of tile `k`. -/
def codeG : S1x256x3072.Idx → BitVec 8 := fun y =>
  codeByte (tileW M2 M3 X2 X3 (kOf ((y 2).val / 128))) (randB M4 X4 (kOf ((y 2).val / 128))) (y 1).val ((y 2).val % 128)

theorem trip11 : (tripL_k0_t1 (F := F) 𝒱₀ c none i M2 h2 M3 h3 M4 h4 M5 h5 M6 h6 M7 h7 M8 h8 M9 h9 M10 h10 M11 h11 X2 X3 X4 k f6 f8 f9 f10 f11).2.2.2.2
    = [⟨Rect.unit (s := S192x256) (k0_off6 k) S8x128.size (k0_off6_inb k), k0_pay221 (trip_k0_t1.sl.r_170 M2 M3 M8 M9 X2 X3 k) (trip_k0_t1.sl.v2065 M2 M3 M8 M9 X2 X3 k) (trip_k0_t1.sl.v2067 M2 M3 M8 M9 X2 X3 k) (trip_k0_t1.sl.v2069 M2 M3 M8 M9 X2 X3 k)⟩,
       ⟨Rect.unit (s := S192x256) (k0_off2 k) S8x128.size (k0_off2_inb k), k0_pay18 (trip_k0_t1.sl.r_6 M2 M3 M8 M9 X2 X3 k) (trip_k0_t1.sl.v221 M2 M3 M8 M9 X2 X3 k) (trip_k0_t1.sl.v223 M2 M3 M8 M9 X2 X3 k) (trip_k0_t1.sl.v225 M2 M3 M8 M9 X2 X3 k)⟩] := by
  dsimp only
  unfold trip_k0_t1
  rfl

theorem trip6 : (tripL_k0_t1 (F := F) 𝒱₀ c none i M2 h2 M3 h3 M4 h4 M5 h5 M6 h6 M7 h7 M8 h8 M9 h9 M10 h10 M11 h11 X2 X3 X4 k f6 f8 f9 f10 f11).1
    = [⟨Rect.unit (s := S1x256x3072) (k0_off9 k) S1x128x128.size (k0_off9_inb k), k0_pay406 (trip_k0_t1.sl.r_334 M2 M3 M4 M8 M9 M10 X2 X3 X4 k) (trip_k0_t1.sl.r_335 M2 M3 M4 M8 M9 M10 X2 X3 X4 k) (trip_k0_t1.sl.r_336 M2 M3 M4 M8 M9 M10 X2 X3 X4 k) k0_pay405⟩,
       ⟨Rect.unit (s := S1x256x3072) (k0_off5 k) S1x128x128.size (k0_off5_inb k), k0_pay204 (trip_k0_t1.sl.r_162 M2 M3 M4 M8 M9 M10 X2 X3 X4 k) (trip_k0_t1.sl.r_163 M2 M3 M4 M8 M9 M10 X2 X3 X4 k) k0_pay203⟩] := by
  dsimp only
  unfold trip_k0_t1
  rfl

theorem piece11_0 (x : S8x128.Idx) : k0_pay18 (trip_k0_t1.sl.r_6 M2 M3 M8 M9 X2 X3 k) (trip_k0_t1.sl.v221 M2 M3 M8 M9 X2 X3 k) (trip_k0_t1.sl.v223 M2 M3 M8 M9 X2 X3 k) (trip_k0_t1.sl.v225 M2 M3 M8 M9 X2 X3 k) x
    = amG M2 M3 X2 X3 ((Rect.unit (s := S192x256) (k0_off2 k) S8x128.size (k0_off2_inb k)).emb x) := by
  have hx0 : (x 0).val < 8 := (x 0).isLt
  have o0 : (k0_off2 k) 0 = 8 * k.val := by rw [k0_off2_eq]; rfl
  have o1 : (k0_off2 k) 1 = 0 := by rw [k0_off2_eq]; rfl
  have e0 : (((Rect.unit (s := S192x256) (k0_off2 k) S8x128.size (k0_off2_inb k)).emb x) 0).val = (k0_off2 k) 0 + 1 * (x 0).val := rfl
  have e1 : (((Rect.unit (s := S192x256) (k0_off2 k) S8x128.size (k0_off2_inb k)).emb x) 1).val = (k0_off2 k) 1 + 1 * (x 1).val := rfl
  have hl : k0_pay18 (trip_k0_t1.sl.r_6 M2 M3 M8 M9 X2 X3 k) (trip_k0_t1.sl.v221 M2 M3 M8 M9 X2 X3 k) (trip_k0_t1.sl.v223 M2 M3 M8 M9 X2 X3 k) (trip_k0_t1.sl.v225 M2 M3 M8 M9 X2 X3 k) x = trip_k0_t1.sl.r_7 M2 M3 M8 M9 X2 X3 k x := by unfold k0_pay18; rw [shapeCast_self]; rfl
  rw [hl, am_0 M2 M3 M8 M9 X2 X3 k x]
  unfold amG
  rw [e0, e1, o0, o1, kOf_val k _ (by omega)]
  congr 1 <;> omega

theorem mem11_0 (y : S192x256.Idx) (h0 : (y 0).val / 8 = k.val) (h1 : (y 1).val / 128 = 0) :
    y ∈ (Rect.unit (s := S192x256) (k0_off2 k) S8x128.size (k0_off2_inb k)).set := by
  have o0 : (k0_off2 k) 0 = 8 * k.val := by rw [k0_off2_eq]; rfl
  have o1 : (k0_off2 k) 1 = 0 := by rw [k0_off2_eq]; rfl
  refine Rect.mem_set_unit.mpr (Fin.forall_fin_two.mpr ⟨?_, ?_⟩)
  · rw [o0]; show 8 * k.val ≤ (y 0).val ∧ (y 0).val < 8 * k.val + 8; omega
  · rw [o1]; show 0 ≤ (y 1).val ∧ (y 1).val < 0 + 128; omega

theorem piece11_1 (x : S8x128.Idx) : k0_pay221 (trip_k0_t1.sl.r_170 M2 M3 M8 M9 X2 X3 k) (trip_k0_t1.sl.v2065 M2 M3 M8 M9 X2 X3 k) (trip_k0_t1.sl.v2067 M2 M3 M8 M9 X2 X3 k) (trip_k0_t1.sl.v2069 M2 M3 M8 M9 X2 X3 k) x
    = amG M2 M3 X2 X3 ((Rect.unit (s := S192x256) (k0_off6 k) S8x128.size (k0_off6_inb k)).emb x) := by
  have hx0 : (x 0).val < 8 := (x 0).isLt
  have o0 : (k0_off6 k) 0 = 8 * k.val := by rw [k0_off6_eq]; rfl
  have o1 : (k0_off6 k) 1 = 128 := by rw [k0_off6_eq]; rfl
  have e0 : (((Rect.unit (s := S192x256) (k0_off6 k) S8x128.size (k0_off6_inb k)).emb x) 0).val = (k0_off6 k) 0 + 1 * (x 0).val := rfl
  have e1 : (((Rect.unit (s := S192x256) (k0_off6 k) S8x128.size (k0_off6_inb k)).emb x) 1).val = (k0_off6 k) 1 + 1 * (x 1).val := rfl
  have hl : k0_pay221 (trip_k0_t1.sl.r_170 M2 M3 M8 M9 X2 X3 k) (trip_k0_t1.sl.v2065 M2 M3 M8 M9 X2 X3 k) (trip_k0_t1.sl.v2067 M2 M3 M8 M9 X2 X3 k) (trip_k0_t1.sl.v2069 M2 M3 M8 M9 X2 X3 k) x = trip_k0_t1.sl.r_171 M2 M3 M8 M9 X2 X3 k x := by unfold k0_pay221; rw [shapeCast_self]; rfl
  rw [hl, am_1 M2 M3 M8 M9 X2 X3 k x]
  unfold amG
  rw [e0, e1, o0, o1, kOf_val k _ (by omega)]
  congr 1 <;> omega

theorem mem11_1 (y : S192x256.Idx) (h0 : (y 0).val / 8 = k.val) (h1 : (y 1).val / 128 = 1) :
    y ∈ (Rect.unit (s := S192x256) (k0_off6 k) S8x128.size (k0_off6_inb k)).set := by
  have o0 : (k0_off6 k) 0 = 8 * k.val := by rw [k0_off6_eq]; rfl
  have o1 : (k0_off6 k) 1 = 128 := by rw [k0_off6_eq]; rfl
  refine Rect.mem_set_unit.mpr (Fin.forall_fin_two.mpr ⟨?_, ?_⟩)
  · rw [o0]; show 8 * k.val ≤ (y 0).val ∧ (y 0).val < 8 * k.val + 8; omega
  · rw [o1]; show 128 ≤ (y 1).val ∧ (y 1).val < 128 + 128; omega

theorem piece6_0 (x : S1x128x128.Idx) : k0_pay204 (trip_k0_t1.sl.r_162 M2 M3 M4 M8 M9 M10 X2 X3 X4 k) (trip_k0_t1.sl.r_163 M2 M3 M4 M8 M9 M10 X2 X3 X4 k) k0_pay203 x
    = codeG M2 M3 M4 X2 X3 X4 ((Rect.unit (s := S1x256x3072) (k0_off5 k) S1x128x128.size (k0_off5_inb k)).emb x) := by
  have hx1 : (x 1).val < 128 := (x 1).isLt
  have hx2 : (x 2).val < 128 := (x 2).isLt
  have o1 : (k0_off5 k) 1 = 0 := by rw [k0_off5_eq]; rfl
  have o2 : (k0_off5 k) 2 = 128 * k.val := by rw [k0_off5_eq]; rfl
  have e1 : (((Rect.unit (s := S1x256x3072) (k0_off5 k) S1x128x128.size (k0_off5_inb k)).emb x) 1).val = (k0_off5 k) 1 + 1 * (x 1).val := rfl
  have e2 : (((Rect.unit (s := S1x256x3072) (k0_off5 k) S1x128x128.size (k0_off5_inb k)).emb x) 2).val = (k0_off5 k) 2 + 1 * (x 2).val := rfl
  refine (code_0 M2 M3 M4 M8 M9 M10 X2 X3 X4 k x).trans ?_
  unfold codeG
  rw [e1, e2, o1, o2, kOf_val k _ (by omega)]
  congr 1 <;> omega

theorem mem6_0 (y : S1x256x3072.Idx) (h0 : (y 2).val / 128 = k.val) (h1 : (y 1).val / 128 = 0) :
    y ∈ (Rect.unit (s := S1x256x3072) (k0_off5 k) S1x128x128.size (k0_off5_inb k)).set := by
  have hy0 : (y 0).val < 1 := (y 0).isLt
  have o0 : (k0_off5 k) 0 = 0 := by rw [k0_off5_eq]; rfl
  have o1 : (k0_off5 k) 1 = 0 := by rw [k0_off5_eq]; rfl
  have o2 : (k0_off5 k) 2 = 128 * k.val := by rw [k0_off5_eq]; rfl
  refine Rect.mem_set_unit.mpr fun a => ?_
  match a with
  | ⟨0, _⟩ => show (k0_off5 k) 0 ≤ (y 0).val ∧ (y 0).val < (k0_off5 k) 0 + 1; omega
  | ⟨1, _⟩ => show (k0_off5 k) 1 ≤ (y 1).val ∧ (y 1).val < (k0_off5 k) 1 + 128; omega
  | ⟨2, _⟩ => show (k0_off5 k) 2 ≤ (y 2).val ∧ (y 2).val < (k0_off5 k) 2 + 128; omega

theorem piece6_1 (x : S1x128x128.Idx) : k0_pay406 (trip_k0_t1.sl.r_334 M2 M3 M4 M8 M9 M10 X2 X3 X4 k) (trip_k0_t1.sl.r_335 M2 M3 M4 M8 M9 M10 X2 X3 X4 k) (trip_k0_t1.sl.r_336 M2 M3 M4 M8 M9 M10 X2 X3 X4 k) k0_pay405 x
    = codeG M2 M3 M4 X2 X3 X4 ((Rect.unit (s := S1x256x3072) (k0_off9 k) S1x128x128.size (k0_off9_inb k)).emb x) := by
  have hx1 : (x 1).val < 128 := (x 1).isLt
  have hx2 : (x 2).val < 128 := (x 2).isLt
  have o1 : (k0_off9 k) 1 = 128 := by rw [k0_off9_eq]; rfl
  have o2 : (k0_off9 k) 2 = 128 * k.val := by rw [k0_off9_eq]; rfl
  have e1 : (((Rect.unit (s := S1x256x3072) (k0_off9 k) S1x128x128.size (k0_off9_inb k)).emb x) 1).val = (k0_off9 k) 1 + 1 * (x 1).val := rfl
  have e2 : (((Rect.unit (s := S1x256x3072) (k0_off9 k) S1x128x128.size (k0_off9_inb k)).emb x) 2).val = (k0_off9 k) 2 + 1 * (x 2).val := rfl
  refine (code_1 M2 M3 M4 M8 M9 M10 X2 X3 X4 k x).trans ?_
  unfold codeG
  rw [e1, e2, o1, o2, kOf_val k _ (by omega)]
  congr 1 <;> omega

theorem mem6_1 (y : S1x256x3072.Idx) (h0 : (y 2).val / 128 = k.val) (h1 : (y 1).val / 128 = 1) :
    y ∈ (Rect.unit (s := S1x256x3072) (k0_off9 k) S1x128x128.size (k0_off9_inb k)).set := by
  have hy0 : (y 0).val < 1 := (y 0).isLt
  have o0 : (k0_off9 k) 0 = 0 := by rw [k0_off9_eq]; rfl
  have o1 : (k0_off9 k) 1 = 128 := by rw [k0_off9_eq]; rfl
  have o2 : (k0_off9 k) 2 = 128 * k.val := by rw [k0_off9_eq]; rfl
  refine Rect.mem_set_unit.mpr fun a => ?_
  match a with
  | ⟨0, _⟩ => show (k0_off9 k) 0 ≤ (y 0).val ∧ (y 0).val < (k0_off9 k) 0 + 1; omega
  | ⟨1, _⟩ => show (k0_off9 k) 1 ≤ (y 1).val ∧ (y 1).val < (k0_off9 k) 1 + 128; omega
  | ⟨2, _⟩ => show (k0_off9 k) 2 ≤ (y 2).val ∧ (y 2).val < (k0_off9 k) 2 + 128; omega

theorem pieces11 : ∀ p ∈ (tripL_k0_t1 (F := F) 𝒱₀ c none i M2 h2 M3 h3 M4 h4 M5 h5 M6 h6 M7 h7 M8 h8 M9 h9 M10 h10 M11 h11 X2 X3 X4 k f6 f8 f9 f10 f11).2.2.2.2, ∀ x : p.1.shape.Idx, p.2 x = amG M2 M3 X2 X3 (p.1.emb x) := by
  rw [trip11]
  refine List.forall_mem_cons.mpr ⟨piece11_1 M2 M3 M8 M9 X2 X3 k, List.forall_mem_cons.mpr ⟨piece11_0 M2 M3 M8 M9 X2 X3 k, ?_⟩⟩
  intro p hp
  exact absurd hp List.not_mem_nil

theorem covers11 (y : S192x256.Idx) (hy : (y 0).val / 8 = k.val) : ∃ p ∈ (tripL_k0_t1 (F := F) 𝒱₀ c none i M2 h2 M3 h3 M4 h4 M5 h5 M6 h6 M7 h7 M8 h8 M9 h9 M10 h10 M11 h11 X2 X3 X4 k f6 f8 f9 f10 f11).2.2.2.2, y ∈ p.1.set := by
  rw [trip11]
  have hy1 : (y 1).val < 256 := (y 1).isLt
  rcases (show (y 1).val / 128 = 0 ∨ (y 1).val / 128 = 1 by omega) with h | h
  · exact ⟨_, .tail _ (.head _), mem11_0 k y hy h⟩
  · exact ⟨_, .head _, mem11_1 k y hy h⟩

theorem all11 (n : ℕ) (hn : n ≤ 24) : (∀ p ∈ (pb_k0_t1 (F := F) 𝒱₀ c none i M2 h2 M3 h3 M4 h4 M5 h5 M6 h6 M7 h7 M8 h8 M9 h9 M10 h10 M11 h11 X2 X3 X4 f6 f8 f9 f10 f11 n).2.2.2.2, ∀ x : p.1.shape.Idx, p.2 x = amG M2 M3 X2 X3 (p.1.emb x))
    ∧ ∀ y : S192x256.Idx, (y 0).val / 8 < n → ∃ p ∈ (pb_k0_t1 (F := F) 𝒱₀ c none i M2 h2 M3 h3 M4 h4 M5 h5 M6 h6 M7 h7 M8 h8 M9 h9 M10 h10 M11 h11 X2 X3 X4 f6 f8 f9 f10 f11 n).2.2.2.2, y ∈ p.1.set := by
  induction n with
  | zero => exact ⟨fun p hp => absurd hp List.not_mem_nil, fun y hy => absurd hy (Nat.not_lt_zero _)⟩
  | succ n ih =>
    obtain ⟨ih1, ih2⟩ := ih (by omega)
    have hk : n < k0_t1_loop.trips := by rw [trips_eq]; omega
    have e := pb_k0_t1_succ (F := F) 𝒱₀ c none i M2 h2 M3 h3 M4 h4 M5 h5 M6 h6 M7 h7 M8 h8 M9 h9 M10 h10 M11 h11 X2 X3 X4 f6 f8 f9 f10 f11 ⟨n, hk⟩
    have e' := congrArg (fun s => s.2.2.2.2) e
    refine ⟨fun p hp => ?_, fun y hy => ?_⟩
    · rw [e'] at hp
      rcases List.mem_append.mp hp with hp | hp
      · exact pieces11 c i M2 h2 M3 h3 M4 h4 M5 h5 M6 h6 M7 h7 M8 h8 M9 h9 M10 h10 M11 h11 X2 X3 X4 ⟨n, hk⟩ _ _ _ _ _ p hp
      · exact ih1 p hp
    · rw [e']
      by_cases h : (y 0).val / 8 = n
      · obtain ⟨p, hp, hm⟩ := covers11 c i M2 h2 M3 h3 M4 h4 M5 h5 M6 h6 M7 h7 M8 h8 M9 h9 M10 h10 M11 h11 X2 X3 X4 ⟨n, hk⟩ _ _ _ _ _ y h
        exact ⟨p, List.mem_append.mpr (.inl hp), hm⟩
      · obtain ⟨p, hp, hm⟩ := ih2 y (by omega)
        exact ⟨p, List.mem_append.mpr (.inr hp), hm⟩

theorem pieces6 : ∀ p ∈ (tripL_k0_t1 (F := F) 𝒱₀ c none i M2 h2 M3 h3 M4 h4 M5 h5 M6 h6 M7 h7 M8 h8 M9 h9 M10 h10 M11 h11 X2 X3 X4 k f6 f8 f9 f10 f11).1, ∀ x : p.1.shape.Idx, p.2 x = codeG M2 M3 M4 X2 X3 X4 (p.1.emb x) := by
  rw [trip6]
  refine List.forall_mem_cons.mpr ⟨piece6_1 M2 M3 M4 M8 M9 M10 X2 X3 X4 k, List.forall_mem_cons.mpr ⟨piece6_0 M2 M3 M4 M8 M9 M10 X2 X3 X4 k, ?_⟩⟩
  intro p hp
  exact absurd hp List.not_mem_nil

theorem covers6 (y : S1x256x3072.Idx) (hy : (y 2).val / 128 = k.val) : ∃ p ∈ (tripL_k0_t1 (F := F) 𝒱₀ c none i M2 h2 M3 h3 M4 h4 M5 h5 M6 h6 M7 h7 M8 h8 M9 h9 M10 h10 M11 h11 X2 X3 X4 k f6 f8 f9 f10 f11).1, y ∈ p.1.set := by
  rw [trip6]
  have hy1 : (y 1).val < 256 := (y 1).isLt
  rcases (show (y 1).val / 128 = 0 ∨ (y 1).val / 128 = 1 by omega) with h | h
  · exact ⟨_, .tail _ (.head _), mem6_0 k y hy h⟩
  · exact ⟨_, .head _, mem6_1 k y hy h⟩

theorem all6 (n : ℕ) (hn : n ≤ 24) : (∀ p ∈ (pb_k0_t1 (F := F) 𝒱₀ c none i M2 h2 M3 h3 M4 h4 M5 h5 M6 h6 M7 h7 M8 h8 M9 h9 M10 h10 M11 h11 X2 X3 X4 f6 f8 f9 f10 f11 n).1, ∀ x : p.1.shape.Idx, p.2 x = codeG M2 M3 M4 X2 X3 X4 (p.1.emb x))
    ∧ ∀ y : S1x256x3072.Idx, (y 2).val / 128 < n → ∃ p ∈ (pb_k0_t1 (F := F) 𝒱₀ c none i M2 h2 M3 h3 M4 h4 M5 h5 M6 h6 M7 h7 M8 h8 M9 h9 M10 h10 M11 h11 X2 X3 X4 f6 f8 f9 f10 f11 n).1, y ∈ p.1.set := by
  induction n with
  | zero => exact ⟨fun p hp => absurd hp List.not_mem_nil, fun y hy => absurd hy (Nat.not_lt_zero _)⟩
  | succ n ih =>
    obtain ⟨ih1, ih2⟩ := ih (by omega)
    have hk : n < k0_t1_loop.trips := by rw [trips_eq]; omega
    have e := pb_k0_t1_succ (F := F) 𝒱₀ c none i M2 h2 M3 h3 M4 h4 M5 h5 M6 h6 M7 h7 M8 h8 M9 h9 M10 h10 M11 h11 X2 X3 X4 f6 f8 f9 f10 f11 ⟨n, hk⟩
    have e' := congrArg (fun s => s.1) e
    refine ⟨fun p hp => ?_, fun y hy => ?_⟩
    · rw [e'] at hp
      rcases List.mem_append.mp hp with hp | hp
      · exact pieces6 c i M2 h2 M3 h3 M4 h4 M5 h5 M6 h6 M7 h7 M8 h8 M9 h9 M10 h10 M11 h11 X2 X3 X4 ⟨n, hk⟩ _ _ _ _ _ p hp
      · exact ih1 p hp
    · rw [e']
      by_cases h : (y 2).val / 128 = n
      · obtain ⟨p, hp, hm⟩ := covers6 c i M2 h2 M3 h3 M4 h4 M5 h5 M6 h6 M7 h7 M8 h8 M9 h9 M10 h10 M11 h11 X2 X3 X4 ⟨n, hk⟩ _ _ _ _ _ y h
        exact ⟨p, List.mem_append.mpr (.inl hp), hm⟩
      · obtain ⟨p, hp, hm⟩ := ih2 y (by omega)
        exact ⟨p, List.mem_append.mpr (.inr hp), hm⟩

end Trip

/-! ## The loop's results from the three input blocks -/

/-- The product of tile `k`, from the blocks of `x` and of the rotation. -/
def tileB (x2 : Vec F S1x6144x256 .bf16) (x3 : Vec F S256x256 .bf16) (k : Fin k0_t1_loop.trips) : S256x256.Idx → F .f32 :=
  k0_pay2 (fun j => x3 ((Rect.unit (s := S256x256) ![0, 0] S256x256.size inb_S256x256_S256x256_0_0).toLoadRect.idx j))
    (fun j => x2 ((Rect.unit (s := S1x6144x256) (k0_off1 k) S1x256x256.size (k0_off1_inb k)).toLoadRect.idx j))

/-- The random byte of token `t` of tile `k`, channel `c`. -/
def randBlk (x4 : Vec F S1x256x6144 .i8) (k : Fin k0_t1_loop.trips) (t c : ℕ) : BitVec 8 :=
  x4 (ValueIdx.ix3 (0 : Fin 1) (Fin.ofNat 256 c) (Fin.ofNat 6144 (256 * k.val + t)))

/-- The transposed maxima of the input blocks. -/
def amOf (x2 : Vec F S1x6144x256 .bf16) (x3 : Vec F S256x256 .bf16) : Vec F S192x256 .f32 := fun y =>
  blockMax (tileB x2 x3 (kOf ((y 0).val / 8))) ((y 0).val % 8) (y 1).val

/-- The code bytes of the input blocks. -/
def codesOf (x2 : Vec F S1x6144x256 .bf16) (x3 : Vec F S256x256 .bf16) (x4 : Vec F S1x256x6144 .i8) : Vec F S1x256x3072 .i8 := fun y =>
  codeByte (tileB x2 x3 (kOf ((y 2).val / 128))) (randBlk x4 (kOf ((y 2).val / 128))) (y 1).val ((y 2).val % 128)

section Whole
variable (c : Dev nD) (i : grid0.Coords) (M2 : Memref sig .tc .vmem S1x6144x256 .bf16) (h2 : M2.IsWhole) (M3 : Memref sig .tc .vmem S256x256 .bf16) (h3 : M3.IsWhole) (M4 : Memref sig .tc .vmem S1x256x6144 .i8) (h4 : M4.IsWhole) (M5 : Memref sig .tc .vmem S1x256x192 .f32) (h5 : M5.IsWhole) (M6 : Memref sig .tc .vmem S1x256x3072 .i8) (h6 : M6.IsWhole) (M7 : Memref sig .tc .vmem S1x256x192 .i8) (h7 : M7.IsWhole) (M8 : Memref sig .tc .vmem S256x256 .f32) (h8 : M8.IsWhole) (M9 : Memref sig .tc .vmem S128x128 .f32) (h9 : M9.IsWhole) (M10 : Memref sig .tc .vmem S2x8x128 .f32) (h10 : M10.IsWhole) (M11 : Memref sig .tc .vmem S192x256 .f32) (h11 : M11.IsWhole)
  (x2 : Vec F S1x6144x256 .bf16) (x3 : Vec F S256x256 .bf16) (x4 : Vec F S1x256x6144 .i8)

theorem tileW_unread (k : Fin k0_t1_loop.trips) : tileW M2 M3 (h2.unread x2) (h3.unread x3) k = tileB x2 x3 k := by
  unfold tileW tileB
  have e2 : ∀ r : LoadRect S1x6144x256, View.readAt (Elt F) M2.view r (h2.unread x2) = fun j => x2 (r.idx j) := fun r => by
    funext j; rw [View.readAt_apply, Memref.IsWhole.read_unread]
  have e3 : ∀ r : LoadRect S256x256, View.readAt (Elt F) M3.view r (h3.unread x3) = fun j => x3 (r.idx j) := fun r => by
    funext j; rw [View.readAt_apply, Memref.IsWhole.read_unread]
  rw [e2, e3]
  rfl

theorem randB_unread (k : Fin k0_t1_loop.trips) : randB M4 (h4.unread x4) k = randBlk x4 k := by
  funext t c
  unfold randB randBlk
  rw [Memref.IsWhole.read_unread]

/-- The loop leaves the input blocks' maxima and code bytes, whatever its buffers held. -/
theorem leaves_eq (A : Vec F S192x256 .f32) (C : Vec F S1x256x3072 .i8) (h : Leaves c i M2 h2 M3 h3 M4 h4 M5 h5 M6 h6 M7 h7 M8 h8 M9 h9 M10 h10 M11 h11 x2 x3 x4 A C) :
    A = amOf x2 x3 ∧ C = codesOf x2 x3 x4 := by
  obtain ⟨f6, f8, f9, f10, f11, rfl, rfl⟩ := h
  constructor
  · funext y
    have a := all11 c i M2 h2 M3 h3 M4 h4 M5 h5 M6 h6 M7 h7 M8 h8 M9 h9 M10 h10 M11 h11 (h2.unread x2) (h3.unread x3) (h4.unread x4) f6 f8 f9 f10 f11 24 le_rfl
    have hy : (y 0).val < 192 := (y 0).isLt
    have r := View.read_writes_apply_of_pieces (v := M11.view) (f := f11) (amG M2 M3 (h2.unread x2) (h3.unread x3)) _ a.1 y (a.2 y (by omega))
    unfold maxima
    rw [View.readAt_apply, trips_eq]
    have ei : (Rect.unit (s := S192x256) ![0, 0] S192x256.size inb_S192x256_S192x256_0_0).toLoadRect.idx y = y := by
      refine Shape.idx_ext₂ ?_ ?_
      · show 0 + 1 * (y 0).val = (y 0).val; omega
      · show 0 + 1 * (y 1).val = (y 1).val; omega
    refine (congrArg _ ei).trans (r.trans ?_)
    unfold amG amOf
    rw [tileW_unread]
  · funext y
    have a := all6 c i M2 h2 M3 h3 M4 h4 M5 h5 M6 h6 M7 h7 M8 h8 M9 h9 M10 h10 M11 h11 (h2.unread x2) (h3.unread x3) (h4.unread x4) f6 f8 f9 f10 f11 24 le_rfl
    have hy : (y 2).val < 3072 := (y 2).isLt
    have r := View.read_writes_apply_of_pieces (v := M6.view) (f := f6) (codeG M2 M3 M4 (h2.unread x2) (h3.unread x3) (h4.unread x4)) _ a.1 y (a.2 y (by omega))
    unfold codes
    rw [trips_eq]
    refine r.trans ?_
    unfold codeG codesOf
    rw [tileW_unread, randB_unread]

end Whole

end Cert.Proof.Trips
-- ==== Proof.KernelValue.lean ====
/-
  What the kernel's three result arrays hold when it ends: grid point `t` writes channels 256·t … 256·t + 255 of each,
  so channel `d` of a result is row `d mod 256` of what point `d / 256` computes from its three input blocks.
-/
module

public import proofs.«01_k».proof.Proof.Trips
public import Idealize.ShloMosaic.Lib.Pipeline.Value

@[expose] public section

set_option maxRecDepth 16384

noncomputable section

namespace Cert.Proof.KernelValue

open Cert.KernelIdeal Cert.KernelIdeal.Gen Cert.Proof.Trips
open Cert.Proof.KernelIdealRun (𝒱₀ scaleOf kernelRun Leaves ms0 ms1 ms2 ms3 ms4 ms5 hs0 hs1 hs2 hs3 hs4 hs5 sc0 sc1 sc2 sc3 hsc0 hsc1 hsc2 hsc3 PhiA_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The state's monad at this program. -/
local notation "𝕄" => MT nD τ sig Unit (Elt F) ℕ (UR sig nD τ) ℕ

variable (m : (ℓ : Loc nD τ sig) → Buf (Elt F) ℓ) (ρ : Dev nD → PrngReg)

/-- The transposed maxima point `t` computes. -/
def amAt (c : Dev nD) (t : Fin cfg0.N) : Vec F S192x256 .f32 := amOf (iblk m c 0 t) (iblk m c 1 t)

/-- The code bytes point `t` computes. -/
def codesAt (c : Dev nD) (t : Fin cfg0.N) : Vec F S1x256x3072 .i8 := codesOf (iblk m c 0 t) (iblk m c 1 t) (iblk m c 2 t)

/-- The proof data: after the body each input's buffer at its block, each result's at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay408 (amAt m c t)
    | ⟨4, _⟩ => codesAt m c t
    | ⟨5, _⟩ => scaleOf (amAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay408 (amAt m c t) := by dsimp only [dats]
theorem after0_4 (c : Dev nD) (t : Fin cfg0.N) : (dats m 0 c).after 4 t = codesAt m c t := by dsimp only [dats]
theorem after0_5 (c : Dev nD) (t : Fin cfg0.N) : (dats m 0 c).after 5 t = scaleOf (amAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body obligation: `kernelRun` at the point's memrefs and blocks, its results read by `leaves_eq`. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3, after0_4, after0_5,
    show (dats m 0 c).Φ t.castSucc = Pipeline.ΦA spec0 c from rfl, PhiA_eq]
  iintro ⟨⟨⟨HS0, HS1, HS2, HS3⟩, Hr⟩, Ho, ⟨%d0, H0⟩, ⟨%d1, H1⟩, ⟨%d2, H2⟩, ⟨%d3, H3⟩, ⟨%d4, H4⟩, ⟨%d5, H5⟩⟩
  iapply (kernelRun c (grid0.coords t) (ms0 t) (hs0 t) (ms1 t) (hs1 t) (ms2 t) (hs2 t) (ms3 t) (hs3 t) (ms4 t) (hs4 t) (ms5 t) (hs5 t) sc0 hsc0 sc1 hsc1 sc2 hsc2 sc3 hsc3 (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, ⟨%A, %C, %hL, H3, H4, H5⟩, HS0, HS1, HS2, HS3⟩
  have hAC := leaves_eq c (grid0.coords t) (ms0 t) (hs0 t) (ms1 t) (hs1 t) (ms2 t) (hs2 t) (ms3 t) (hs3 t) (ms4 t) (hs4 t) (ms5 t) (hs5 t) sc0 hsc0 sc1 hsc1 sc2 hsc2 sc3 hsc3 (iblk m c 0 t) (iblk m c 1 t) (iblk m c 2 t) A C hL
  obtain ⟨rfl, rfl⟩ := hAC
  isplitl [HS0 HS1 HS2 HS3 Hr]
  · isplitl [HS0 HS1 HS2 HS3]
    · isplitl [HS0]; · iexact HS0
      isplitl [HS1]; · iexact HS1
      isplitl [HS2]; · iexact HS2
      iexact HS3
    iexact Hr
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- From any memory with zero counters every execution terminates with the arrays at what the points computed. -/
theorem run_main : θ_run defs (onTc (τ := τ) (main (F := F))) (s₀ m ρ) (Pipeline.FramePost cfgs (dats m) 0 (V m)) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-! ## The arrays -/

/-- The point that writes channel `d`. -/
def ptOf (d : ℕ) : Fin cfg0.N := ⟨d / 256 % 64, by rw [show cfg0.N = 64 from N_0]; exact Nat.mod_lt _ (by decide)⟩

theorem ptOf_eq (t : Fin cfg0.N) (d j : ℕ) (hj : j < 256) (h : d = 256 * t.val + j) : ptOf d = t := by
  have : t.val < 64 := lt_of_lt_of_eq t.isLt N_0
  apply Fin.ext; show d / 256 % 64 = t.val; omega

/-- The maxima array. -/
def resAmax (c : Dev nD) : Buf (Elt F) ((c : Thread nD τ).loc main_v38_0) := fun (i : S1x16384x192.Idx) =>
  k0_pay408 (amAt m c (ptOf (i 1).val)) (ValueIdx.ix3 (0 : Fin 1) (Fin.ofNat 256 (i 1).val) (i 2))
/-- The codes array. -/
def resCodes (c : Dev nD) : Buf (Elt F) ((c : Thread nD τ).loc main_v38_1) := fun (i : S1x16384x3072.Idx) =>
  codesAt m c (ptOf (i 1).val) (ValueIdx.ix3 (0 : Fin 1) (Fin.ofNat 256 (i 1).val) (i 2))
/-- The scales array. -/
def resScale (c : Dev nD) : Buf (Elt F) ((c : Thread nD τ).loc main_v38_2) := fun (i : S1x16384x192.Idx) =>
  scaleOf (amAt m c (ptOf (i 1).val)) (ValueIdx.ix3 (0 : Fin 1) (Fin.ofNat 256 (i 1).val) (i 2))

theorem index3 : ∀ t : Fin cfg0.N, win0_3.index t 0 = 0 ∧ win0_3.index t 1 = t.val ∧ win0_3.index t 2 = 0 := by decide +kernel
theorem index4 : ∀ t : Fin cfg0.N, win0_4.index t 0 = 0 ∧ win0_4.index t 1 = t.val ∧ win0_4.index t 2 = 0 := by decide +kernel
theorem index5 : ∀ t : Fin cfg0.N, win0_5.index t 0 = 0 ∧ win0_5.index t 1 = t.val ∧ win0_5.index t 2 = 0 := by decide +kernel

/-- Two indices of rank three with the same coordinates are one. -/
theorem idx_ext₃ {n0 n1 n2 : ℕ} {x y : Shape.Idx ⟨3, ![n0, n1, n2]⟩} (h0 : (x 0).val = (y 0).val)
    (h1 : (x 1).val = (y 1).val) (h2 : (x 2).val = (y 2).val) : x = y := by
  funext a; apply Fin.ext; fin_cases a
  · exact h0
  · exact h1
  · exact h2

/-- What point `t` writes back of result window 3 is its part of `resAmax`. -/
theorem flushed3 (c : Dev nD) (t : Fin cfg0.N) (hf : (cfg0.win 3).flush t = true) :
    (dats m 0 c).flushed 3 t = ((cfg0.win 3).blk t).view.read (Elt F) (resAmax m c) := by
  show (cfg0.win 3).cut (grid0.coords t) ((dats m 0 c).after 3 t) = _
  rw [after0_3]
  funext (j : S1x256x192.Idx)
  obtain ⟨e0, e1, e2⟩ := index3 t
  rw [View.read_apply]
  have hj0 : (j 0).val < 1 := (j 0).isLt
  have hj : (j 1).val < 256 := (j 1).isLt
  have hd : (((cfg0.win 3).blk t).view.emb j 1).val = 256 * t.val + (j 1).val := by
    show win0_3.index t 1 * 256 + 1 * (j 1).val = _; rw [e1]; omega
  show k0_pay408 (amAt m c t) j = k0_pay408 (amAt m c (ptOf (((cfg0.win 3).blk t).view.emb j 1).val)) _
  rw [ptOf_eq t _ _ hj hd]
  refine congrArg _ (idx_ext₃ ?_ ?_ ?_)
  · show (j 0).val = 0; omega
  · show (j 1).val = (((cfg0.win 3).blk t).view.emb j 1).val % 256; rw [hd]; omega
  · show (j 2).val = win0_3.index t 2 * 192 + 1 * (j 2).val; rw [e2]; omega

/-- Array 3 ends at `resAmax`. -/
theorem final3 (c : Dev nD) : (dats m 0 c).arrAt 3 cfg0.N = resAmax m c :=
  (dats m 0 c).arrAt_eq_of_cover 3 (resAmax m c) (flushed3 m c) fun (i : S1x16384x192.Idx) =>
    ⟨ptOf (i 1).val, flush0_3 _, by
      show i ∈ ((View.whole main_v38_0).slice (win0_3.rect (ptOf (i 1).val))).set
      rw [View.set_slice_whole, Rect.mem_set_unit]
      obtain ⟨e0, e1, e2⟩ := index3 (ptOf (i 1).val)
      have h0 : (i 0).val < 1 := (i 0).isLt
      have h1 : (i 1).val < 16384 := (i 1).isLt
      have h2 : (i 2).val < 192 := (i 2).isLt
      have ht : (ptOf (i 1).val).val = (i 1).val / 256 := by show (i 1).val / 256 % 64 = _; omega
      intro a
      match a with
      | ⟨0, _⟩ => show win0_3.index (ptOf (i 1).val) 0 * 1 ≤ (i 0).val ∧ (i 0).val < win0_3.index (ptOf (i 1).val) 0 * 1 + 1
                  rw [e0]; omega
      | ⟨1, _⟩ => show win0_3.index (ptOf (i 1).val) 1 * 256 ≤ (i 1).val ∧ (i 1).val < win0_3.index (ptOf (i 1).val) 1 * 256 + 256
                  rw [e1, ht]; omega
      | ⟨2, _⟩ => show win0_3.index (ptOf (i 1).val) 2 * 192 ≤ (i 2).val ∧ (i 2).val < win0_3.index (ptOf (i 1).val) 2 * 192 + 192
                  rw [e2]; omega⟩

/-- What point `t` writes back of result window 4 is its part of `resCodes`. -/
theorem flushed4 (c : Dev nD) (t : Fin cfg0.N) (hf : (cfg0.win 4).flush t = true) :
    (dats m 0 c).flushed 4 t = ((cfg0.win 4).blk t).view.read (Elt F) (resCodes m c) := by
  show (cfg0.win 4).cut (grid0.coords t) ((dats m 0 c).after 4 t) = _
  rw [after0_4]
  funext (j : S1x256x3072.Idx)
  obtain ⟨e0, e1, e2⟩ := index4 t
  rw [View.read_apply]
  have hj0 : (j 0).val < 1 := (j 0).isLt
  have hj : (j 1).val < 256 := (j 1).isLt
  have hd : (((cfg0.win 4).blk t).view.emb j 1).val = 256 * t.val + (j 1).val := by
    show win0_4.index t 1 * 256 + 1 * (j 1).val = _; rw [e1]; omega
  show codesAt m c t j = codesAt m c (ptOf (((cfg0.win 4).blk t).view.emb j 1).val) _
  rw [ptOf_eq t _ _ hj hd]
  refine congrArg _ (idx_ext₃ ?_ ?_ ?_)
  · show (j 0).val = 0; omega
  · show (j 1).val = (((cfg0.win 4).blk t).view.emb j 1).val % 256; rw [hd]; omega
  · show (j 2).val = win0_4.index t 2 * 3072 + 1 * (j 2).val; rw [e2]; omega

/-- Array 4 ends at `resCodes`. -/
theorem final4 (c : Dev nD) : (dats m 0 c).arrAt 4 cfg0.N = resCodes m c :=
  (dats m 0 c).arrAt_eq_of_cover 4 (resCodes m c) (flushed4 m c) fun (i : S1x16384x3072.Idx) =>
    ⟨ptOf (i 1).val, flush0_4 _, by
      show i ∈ ((View.whole main_v38_1).slice (win0_4.rect (ptOf (i 1).val))).set
      rw [View.set_slice_whole, Rect.mem_set_unit]
      obtain ⟨e0, e1, e2⟩ := index4 (ptOf (i 1).val)
      have h0 : (i 0).val < 1 := (i 0).isLt
      have h1 : (i 1).val < 16384 := (i 1).isLt
      have h2 : (i 2).val < 3072 := (i 2).isLt
      have ht : (ptOf (i 1).val).val = (i 1).val / 256 := by show (i 1).val / 256 % 64 = _; omega
      intro a
      match a with
      | ⟨0, _⟩ => show win0_4.index (ptOf (i 1).val) 0 * 1 ≤ (i 0).val ∧ (i 0).val < win0_4.index (ptOf (i 1).val) 0 * 1 + 1
                  rw [e0]; omega
      | ⟨1, _⟩ => show win0_4.index (ptOf (i 1).val) 1 * 256 ≤ (i 1).val ∧ (i 1).val < win0_4.index (ptOf (i 1).val) 1 * 256 + 256
                  rw [e1, ht]; omega
      | ⟨2, _⟩ => show win0_4.index (ptOf (i 1).val) 2 * 3072 ≤ (i 2).val ∧ (i 2).val < win0_4.index (ptOf (i 1).val) 2 * 3072 + 3072
                  rw [e2]; omega⟩

/-- What point `t` writes back of result window 5 is its part of `resScale`. -/
theorem flushed5 (c : Dev nD) (t : Fin cfg0.N) (hf : (cfg0.win 5).flush t = true) :
    (dats m 0 c).flushed 5 t = ((cfg0.win 5).blk t).view.read (Elt F) (resScale m c) := by
  show (cfg0.win 5).cut (grid0.coords t) ((dats m 0 c).after 5 t) = _
  rw [after0_5]
  funext (j : S1x256x192.Idx)
  obtain ⟨e0, e1, e2⟩ := index5 t
  rw [View.read_apply]
  have hj0 : (j 0).val < 1 := (j 0).isLt
  have hj : (j 1).val < 256 := (j 1).isLt
  have hd : (((cfg0.win 5).blk t).view.emb j 1).val = 256 * t.val + (j 1).val := by
    show win0_5.index t 1 * 256 + 1 * (j 1).val = _; rw [e1]; omega
  show scaleOf (amAt m c t) j = scaleOf (amAt m c (ptOf (((cfg0.win 5).blk t).view.emb j 1).val)) _
  rw [ptOf_eq t _ _ hj hd]
  refine congrArg _ (idx_ext₃ ?_ ?_ ?_)
  · show (j 0).val = 0; omega
  · show (j 1).val = (((cfg0.win 5).blk t).view.emb j 1).val % 256; rw [hd]; omega
  · show (j 2).val = win0_5.index t 2 * 192 + 1 * (j 2).val; rw [e2]; omega

/-- Array 5 ends at `resScale`. -/
theorem final5 (c : Dev nD) : (dats m 0 c).arrAt 5 cfg0.N = resScale m c :=
  (dats m 0 c).arrAt_eq_of_cover 5 (resScale m c) (flushed5 m c) fun (i : S1x16384x192.Idx) =>
    ⟨ptOf (i 1).val, flush0_5 _, by
      show i ∈ ((View.whole main_v38_2).slice (win0_5.rect (ptOf (i 1).val))).set
      rw [View.set_slice_whole, Rect.mem_set_unit]
      obtain ⟨e0, e1, e2⟩ := index5 (ptOf (i 1).val)
      have h0 : (i 0).val < 1 := (i 0).isLt
      have h1 : (i 1).val < 16384 := (i 1).isLt
      have h2 : (i 2).val < 192 := (i 2).isLt
      have ht : (ptOf (i 1).val).val = (i 1).val / 256 := by show (i 1).val / 256 % 64 = _; omega
      intro a
      match a with
      | ⟨0, _⟩ => show win0_5.index (ptOf (i 1).val) 0 * 1 ≤ (i 0).val ∧ (i 0).val < win0_5.index (ptOf (i 1).val) 0 * 1 + 1
                  rw [e0]; omega
      | ⟨1, _⟩ => show win0_5.index (ptOf (i 1).val) 1 * 256 ≤ (i 1).val ∧ (i 1).val < win0_5.index (ptOf (i 1).val) 1 * 256 + 256
                  rw [e1, ht]; omega
      | ⟨2, _⟩ => show win0_5.index (ptOf (i 1).val) 2 * 192 ≤ (i 2).val ∧ (i 2).val < win0_5.index (ptOf (i 1).val) 2 * 192 + 192
                  rw [e2]; omega⟩

/-- The run, read: the three result arrays at what the points computed, the arguments unchanged. -/
theorem run : θ_run defs (onTc (τ := τ) (main (F := F))) ⟨m, fun _ => 0, ρ⟩ (fun r => ∀ c : Dev nD,
      (r.2.mem ((c.tc : Thread nD τ).loc main_v38_0) = resAmax m c
        ∧ r.2.mem ((c.tc : Thread nD τ).loc main_v38_1) = resCodes m c
        ∧ r.2.mem ((c.tc : Thread nD τ).loc main_v38_2) = resScale m c)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))) :=
  (θ_run defs _ _).mono (fun _ h c =>
    ⟨⟨((h c).1 3).trans (final3 m c), ((h c).1 4).trans (final4 m c), ((h c).1 5).trans (final5 m c)⟩,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩) (run_main m ρ)

end Cert.Proof.KernelValue

end
-- ==== Proof.Product.lean ====
/-
  The transform.  In exact arithmetic the kernel's product of a 256 × 256 block-diagonal matrix, its rows permuted, with
  a tile of 256 tokens is, row by row, the reference's product of the 16 × 16 sign-flipped Hadamard matrix with a group
  of 16 tokens: the other 240 terms of a row are zero.
-/
module

public import proofs.«01_k».proof.Proof.Gen.ReferenceIdeal.Run
public import proofs.«01_k».proof.Proof.KernelValue
public import Idealize.ShloMosaic.Lib.Pointwise
public import Idealize.ShloMosaic.Lib.Tactic.CleanTypes
public import Idealize.ShloMosaic.Lib.StableHlo.ReadAt

@[expose] public section

noncomputable section

namespace Cert.Proof.Product

open Idealize.ShloMosaic Idealize.ShloMosaic.TcCoe
open Cert.Proof.Weights Cert.Proof.Sites Cert.Proof.Trips

/-- The parity of the common ones of `i` and `j`, as the reference takes it: the bits' sum, modulo two. -/
def par (i j : ℕ) : BitVec 32 :=
  IntOp.andi (IntOp.addi (IntOp.addi (IntOp.addi
    (IntOp.andi (IntOp.andi (BitVec.ofNat 32 i) (BitVec.ofNat 32 j)) 1#32)
    (IntOp.andi (IntOp.shrsi .host (IntOp.andi (BitVec.ofNat 32 i) (BitVec.ofNat 32 j)) 1#32) 1#32))
    (IntOp.andi (IntOp.shrsi .host (IntOp.andi (BitVec.ofNat 32 i) (BitVec.ofNat 32 j)) 2#32) 1#32))
    (IntOp.andi (IntOp.shrsi .host (IntOp.andi (BitVec.ofNat 32 i) (BitVec.ofNat 32 j)) 3#32) 1#32)) 1#32

/-- The same parity as the kernel takes it: the exclusive or of the four shifts. -/
def parX (i j : ℕ) : BitVec 32 :=
  IntOp.andi (IntOp.xori (IntOp.xori (IntOp.xori
    (IntOp.andi (BitVec.ofNat 32 i) (BitVec.ofNat 32 j))
    (IntOp.shrsi .host (IntOp.andi (BitVec.ofNat 32 i) (BitVec.ofNat 32 j)) 1#32))
    (IntOp.shrsi .host (IntOp.andi (BitVec.ofNat 32 i) (BitVec.ofNat 32 j)) 2#32))
    (IntOp.shrsi .host (IntOp.andi (BitVec.ofNat 32 i) (BitVec.ofNat 32 j)) 3#32)) 1#32

theorem parX_eq : ∀ i j : Fin 16, parX i.val j.val = par i.val j.val := by decide

/-- The Hadamard matrix's entry, over four. -/
def had (i j : ℕ) : EReal :=
  Ideal.ofBits .f32 1048576000#32 * (1 - Ideal.ofBits .f32 1073741824#32 * FloatOps.sitofp (F := Ideal) .f32 (par i j))

/-- The transformed value of channel `d`, token `t`, from the activations `x` and the signs `s`. -/
def ws (x : Shape.Idx ⟨3, ![1, 6144, 16384]⟩ → EReal) (s : Shape.Idx ⟨1, ![16]⟩ → EReal) (d t : ℕ) : EReal :=
  ∑ j : Fin 16, had (t % 16) j.val * s (ValueIdx.ix1 j)
    * x (ValueIdx.ix3 (0 : Fin 1) (Fin.ofNat 6144 (t / 16 * 16 + j.val)) (Fin.ofNat 16384 d))

section Ref
open Cert.ReferenceIdeal Cert.ReferenceIdeal.Value Idealize.ShloMosaic.StableHlo

/-- The reference's product at an index. -/
theorem ref_w (V0 : Valuation τ sig (Elt Ideal)) (d : Fin 16384) (n : Fin 192) (e : Fin 32) :
    (res_main_v40 (F := Ideal) V0 : S1x16384x192x32.Idx → EReal) (ValueIdx.ix4 (0 : Fin 1) d n e)
      = ws (V0 (Proc.devRef .tc main_arg0)) (V0 (Proc.devRef .tc main_arg1)) d.val (32 * n.val + e.val) := by
  unfold res_main_v40 res_main_v6
  clean_types
  pointwise
  unfold ws
  refine Finset.sum_congr rfl fun j _ => ?_
  have hd := d.isLt; have hn := n.isLt; have he := e.isLt; have hj := j.isLt
  have e1 : (32 * n.val + e.val) % 16 = e.val % 16 := by omega
  rw [e1]
  refine congrArg₂ (· * ·) rfl (congrArg _ ?_)
  refine Cert.Proof.KernelValue.idx_ext₃ rfl ?_ ?_
  · show (n.val * 2 + e.val / 16) * 16 + j.val = ((32 * n.val + e.val) / 16 * 16 + j.val) % 6144; omega
  · show d.val = d.val % 16384; omega

end Ref

section Ker
open Cert.KernelIdeal Cert.KernelIdeal.Gen
variable (m : (ℓ : Loc nD τ sig) → Buf (Elt Ideal) ℓ)

/-- The token, within a tile, of row `r` of the kernel's product. -/
def tokOf (r : ℕ) : ℕ := r / 32 * 32 + r % 8 * 4 + r / 8 % 4

/-- The kernel's matrix at an index. -/
theorem ker_t (c : Dev nD) (r k : Fin 256) :
    (V m c main_v37 : S256x256.Idx → EReal) (ValueIdx.ix2 r k)
      = if tokOf r.val / 16 = k.val / 16 then
          had (tokOf r.val % 16) (k.val % 16) * (m (c, Proc.devRef .tc main_arg1) : S16.Idx → EReal) (ValueIdx.ix1 (Fin.ofNat 16 k.val))
        else 0 := by
  unfold V
  after_reads_at
  have hr := r.isLt; have hk := k.isLt
  have hb : IntOp.cmpi CmpIPredicate.eq (IntOp.addi (BitVec.ofNat 32 (tokOf r.val / 16)) 0#32) (BitVec.ofNat 32 (k.val / 16))
      = if tokOf r.val / 16 = k.val / 16 then 1#1 else 0#1 := by
    have ht : tokOf r.val < 256 := by unfold tokOf; omega
    unfold IntOp.cmpi IntOp.addi
    by_cases h : tokOf r.val / 16 = k.val / 16
    · rw [if_pos h, h]; simp
    · rw [if_neg h]
      have : ¬ BitVec.ofNat 32 (tokOf r.val / 16) + 0#32 = BitVec.ofNat 32 (k.val / 16) := by
        intro e; apply h
        have := congrArg BitVec.toNat e
        simp only [BitVec.toNat_add, BitVec.toNat_ofNat] at this
        omega
      rw [show BitVec.ofNat 32 (tokOf r.val / 16) + 0#32 = BitVec.ofNat 32 (tokOf r.val / 16) from BitVec.add_zero _] at this ⊢
      show BitVec.ofBool (BitVec.ofNat 32 (tokOf r.val / 16) == BitVec.ofNat 32 (k.val / 16)) = 0#1
      rw [beq_false_of_ne this]; rfl
  refine (congrArg (fun b => FloatOps.uitofp (F := Ideal) FTy.bf16 b * _) hb).trans ?_
  have hp : parX (tokOf r.val % 16) (k.val % 16) = par (tokOf r.val % 16) (k.val % 16) :=
    parX_eq ⟨tokOf r.val % 16, Nat.mod_lt _ (by decide)⟩ ⟨k.val % 16, Nat.mod_lt _ (by decide)⟩
  have h0 : FloatOps.uitofp (F := Ideal) FTy.bf16 0#1 = (0 : EReal) := by simp [FloatOps.uitofp]
  have h1 : FloatOps.uitofp (F := Ideal) FTy.bf16 1#1 = (1 : EReal) := by simp [FloatOps.uitofp]
  split
  · refine (congrArg (· * _) h1).trans ((one_mul _).trans ?_)
    refine congrArg₂ (· * ·) ?_ rfl
    unfold had
    rw [← hp]
    rfl
  · exact (congrArg (· * _) h0).trans (zero_mul _)

/-- A sum over 256 whose terms outside one group of sixteen are zero. -/
theorem sum_group (f : Fin 256 → EReal) (q : ℕ) (hq : q < 16) (h : ∀ k : Fin 256, k.val / 16 ≠ q → f k = 0) :
    ∑ k : Fin 256, f k = ∑ j : Fin 16, f (Fin.ofNat 256 (16 * q + j.val)) := by
  symm
  refine Finset.sum_of_injOn (fun j : Fin 16 => (Fin.ofNat 256 (16 * q + j.val) : Fin 256)) ?_ ?_ ?_ ?_
  · intro a _ b _ e
    have := congrArg Fin.val e
    simp only [Fin.ofNat] at this
    have := a.isLt; have := b.isLt
    apply Fin.ext; omega
  · intro _ _; simp
  · intro k _ hk
    apply h
    intro e
    apply hk
    have := k.isLt
    refine ⟨⟨k.val % 16, Nat.mod_lt _ (by decide)⟩, by simp, ?_⟩
    apply Fin.ext
    show (16 * q + k.val % 16) % 256 = k.val
    omega
  · intro _ _; rfl

theorem index0 : ∀ t : Fin cfg0.N, win0_0.index t 0 = 0 ∧ win0_0.index t 1 = 0 ∧ win0_0.index t 2 = t.val := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = t.val ∧ win0_2.index t 2 = 0 := by decide +kernel

theorem iblk0_apply (c : Dev nD) (t : Fin cfg0.N) (j : S1x6144x256.Idx) (i : S1x6144x16384.Idx)
    (h1 : (i 1).val = (j 1).val) (h2 : (i 2).val = 256 * t.val + (j 2).val) :
    (iblk m c 0 t : S1x6144x256.Idx → EReal) j = (m ((c : Thread nD τ).loc main_arg0) : S1x6144x16384.Idx → EReal) i := by
  unfold iblk
  rw [View.read_apply]
  obtain ⟨e0, e1, e2⟩ := index0 t
  have hi0 : (i 0).val < 1 := (i 0).isLt
  have hj0 : (j 0).val < 1 := (j 0).isLt
  show (V m c main_arg0 : S1x6144x16384.Idx → EReal) _ = _
  rw [V_main_arg0]
  refine congrArg _ (Cert.Proof.KernelValue.idx_ext₃ ?_ ?_ ?_)
  · show win0_0.index t 0 * 1 + 1 * (j 0).val = (i 0).val; rw [e0]; omega
  · show win0_0.index t 1 * 6144 + 1 * (j 1).val = (i 1).val; rw [e1]; omega
  · show win0_0.index t 2 * 256 + 1 * (j 2).val = (i 2).val; rw [e2]; omega

theorem iblk1_apply (c : Dev nD) (t : Fin cfg0.N) (j : S256x256.Idx) :
    (iblk m c 1 t : S256x256.Idx → EReal) j = (V m c main_v37 : S256x256.Idx → EReal) j := by
  unfold iblk
  rw [View.read_apply]
  obtain ⟨e0, e1⟩ := index1 t
  show (V m c main_v37 : S256x256.Idx → EReal) _ = _
  refine congrArg _ (Shape.idx_ext₂ ?_ ?_)
  · show win0_1.index t 0 * 256 + 1 * (j 0).val = (j 0).val; rw [e0]; omega
  · show win0_1.index t 1 * 256 + 1 * (j 1).val = (j 1).val; rw [e1]; omega

theorem iblk2_apply (c : Dev nD) (t : Fin cfg0.N) (j : S1x256x6144.Idx) (i : S1x16384x6144.Idx)
    (h1 : (i 1).val = 256 * t.val + (j 1).val) (h2 : (i 2).val = (j 2).val) :
    (iblk m c 2 t : S1x256x6144.Idx → BitVec 8) j = (m ((c : Thread nD τ).loc main_arg2) : S1x16384x6144.Idx → BitVec 8) i := by
  unfold iblk
  rw [View.read_apply]
  obtain ⟨e0, e1, e2⟩ := index2 t
  have hi0 : (i 0).val < 1 := (i 0).isLt
  have hj0 : (j 0).val < 1 := (j 0).isLt
  show (V m c main_arg2 : S1x16384x6144.Idx → BitVec 8) _ = _
  rw [V_main_arg2]
  refine congrArg _ (Cert.Proof.KernelValue.idx_ext₃ ?_ ?_ ?_)
  · show win0_2.index t 0 * 1 + 1 * (j 0).val = (i 0).val; rw [e0]; omega
  · show win0_2.index t 1 * 256 + 1 * (j 1).val = (i 1).val; rw [e1]; omega
  · show win0_2.index t 2 * 6144 + 1 * (j 2).val = (i 2).val; rw [e2]; omega

/-- The kernel's product at an index. -/
theorem ker_w (c : Dev nD) (t : Fin cfg0.N) (k : Fin k0_t1_loop.trips) (r l : ℕ) (hr : r < 256) (hl : l < 256) :
    wAt (tileB (F := Ideal) (iblk m c 0 t) (iblk m c 1 t) k) r l
      = ws (m ((c : Thread nD τ).loc main_arg0)) (m ((c : Thread nD τ).loc main_arg1)) (256 * t.val + l) (256 * k.val + tokOf r) := by
  have hk : k.val < 24 := k.isLt
  have ht : t.val < 64 := lt_of_lt_of_eq t.isLt N_0
  have htok : tokOf r < 256 := by unfold tokOf; omega
  unfold wAt tileB k0_pay2
  pointwise
  have ho := k0_off1_eq k
  refine (Finset.sum_congr rfl (g := fun x : Fin 256 => (if tokOf r / 16 = x.val / 16 then
      had (tokOf r % 16) (x.val % 16) * (m (c, Proc.devRef .tc main_arg1) : S16.Idx → EReal) (ValueIdx.ix1 (Fin.ofNat 16 x.val))
    else 0) * (m ((c : Thread nD τ).loc main_arg0) : S1x6144x16384.Idx → EReal)
      (ValueIdx.ix3 (0 : Fin 1) (Fin.ofNat 6144 (256 * k.val + x.val)) (Fin.ofNat 16384 (256 * t.val + l)))) fun x _ => ?_).trans ?_
  · have hx := x.isLt
    refine congrArg₂ (· * ·) ?_ ?_
    · refine ((iblk1_apply m c t _).trans (congrArg (V m c main_v37 : S256x256.Idx → EReal) (?_ : _ = ValueIdx.ix2 (⟨r, hr⟩ : Fin 256) x))).trans (ker_t m c ⟨r, hr⟩ x)
      refine Shape.idx_ext₂ ?_ rfl
      show r % 256 = r; omega
    · refine iblk0_apply m c t _ _ ?_ ?_
      · show (256 * k.val + x.val) % 6144 = k0_off1 k 1 + x.val
        rw [ho]; show _ = 256 * k.val + x.val; omega
      · show (256 * t.val + l) % 16384 = 256 * t.val + (k0_off1 k 2 + l % 256)
        rw [ho]; show _ = 256 * t.val + (0 + l % 256); omega
  · rw [sum_group _ (tokOf r / 16) (by omega) (fun x hx => by rw [if_neg (fun e => hx e.symm)]; exact zero_mul _)]
    unfold ws
    refine Finset.sum_congr rfl fun j _ => ?_
    have hj := j.isLt
    have e1 : (Fin.ofNat 256 (16 * (tokOf r / 16) + j.val) : Fin 256).val = 16 * (tokOf r / 16) + j.val := by
      show (16 * (tokOf r / 16) + j.val) % 256 = _; omega
    rw [if_pos (by rw [e1]; omega), e1]
    have e2 : (256 * k.val + tokOf r) % 16 = tokOf r % 16 := by omega
    have e3 : (16 * (tokOf r / 16) + j.val) % 16 = j.val := by omega
    rw [e2, e3]
    refine congrArg₂ (· * ·) (congrArg₂ (· * ·) rfl (congrArg _ ?_)) (congrArg _ ?_)
    · refine congrArg ValueIdx.ix1 (Fin.ext ?_)
      show (16 * (tokOf r / 16) + j.val) % 16 = j.val; omega
    · refine Cert.Proof.KernelValue.idx_ext₃ rfl ?_ rfl
      show (256 * k.val + (16 * (tokOf r / 16) + j.val)) % 6144 = ((256 * k.val + tokOf r) / 16 * 16 + j.val) % 6144; omega

/-- The row of token `u` is the one whose token is `u`. -/
theorem tokOf_row : ∀ u : Fin 256, tokOf (32 * (u.val / 32) + 8 * (u.val % 4) + u.val % 32 / 4) = u.val := by decide +kernel

/-- The kernel's product at a token. -/
theorem ker_tok (c : Dev nD) (t : Fin cfg0.N) (k : Fin k0_t1_loop.trips) (u l : ℕ) (hu : u < 256) (hl : l < 256) :
    tok (tileB (F := Ideal) (iblk m c 0 t) (iblk m c 1 t) k) u l
      = ws (m ((c : Thread nD τ).loc main_arg0)) (m ((c : Thread nD τ).loc main_arg1)) (256 * t.val + l) (256 * k.val + u) := by
  unfold tok
  rw [ker_w m c t k _ l (by omega) hl]
  rw [tokOf_row ⟨u, hu⟩]

end Ker

end Cert.Proof.Product

end
-- ==== Proof.Reads.lean ====
/-
  What the reference's arrays hold at an index: the block maximum, by what bounds it; the shared exponent, by a count of
  powers of two; the scaled value; its code before the four bits are packed.
-/
module

public import proofs.«01_k».proof.Proof.Product
public import Idealize.ShloMosaic.Lib.IndicatorCount

@[expose] public section

noncomputable section

namespace Cert.Proof.Reads

open Cert.ReferenceIdeal Cert.ReferenceIdeal.Value Cert.ReferenceIdeal.Gen
open Idealize.ShloMosaic Idealize.ShloMosaic.TcCoe Idealize.ShloMosaic.StableHlo

variable (V0 : Valuation τ sig (Elt Ideal))

/-- The indices of a four-axis array that drop to `(0, d, n)` when the last axis is dropped. -/
theorem drop_iff {K : ℕ} (h : (⟨4, ![1, 16384, 192, K]⟩ : Shape).ReducesTo [3] S1x16384x192) (i : (⟨4, ![1, 16384, 192, K]⟩ : Shape).Idx)
    (d : Fin 16384) (n : Fin 192) (hk : Shape.kept (⟨4, ![1, 16384, 192, K]⟩ : Shape) [3] = [0, 1, 2]) :
    h.drop i = ValueIdx.ix3 (0 : Fin 1) d n ↔ i = ValueIdx.ix4 (0 : Fin 1) d n (i 3) := by
  have h1 : (i 1).val = (h.drop i 1).val := (h.drop_apply_val_of_eq i 1 1 (by rw [hk]; simp) (by simp [hk])).symm
  have h2 : (i 2).val = (h.drop i 2).val := (h.drop_apply_val_of_eq i 2 2 (by rw [hk]; simp) (by simp [hk])).symm
  constructor
  · intro e
    have e1 : (h.drop i 1).val = d.val := by rw [e]
    have e2 : (h.drop i 2).val = n.val := by rw [e]
    funext a
    match a with
    | ⟨0, _⟩ => exact Subsingleton.elim (α := Fin 1) _ _
    | ⟨1, _⟩ => exact Fin.ext (h1.trans e1)
    | ⟨2, _⟩ => exact Fin.ext (h2.trans e2)
    | ⟨3, _⟩ => rfl
  · intro e
    have e1 : (i 1).val = d.val := by rw [e]; rfl
    have e2 : (i 2).val = n.val := by rw [e]; rfl
    refine Cert.Proof.KernelValue.idx_ext₃ ?_ ?_ ?_
    · exact congrArg Fin.val (Subsingleton.elim (α := Fin 1) _ _)
    · exact h1.symm.trans e1
    · exact h2.symm.trans e2

/-- The rotated weights, as numbers. -/
def wR : S1x16384x192x32.Idx → EReal := res_main_v40 (F := Ideal) V0

/-- The block maxima, as numbers. -/
def amaxR : S1x16384x192.Idx → EReal := res_main_v42 (F := Ideal) V0

theorem fold_le {ι : Type} (S : Finset ι) (f : ι → Ideal .f32) (b : Ideal .f32) (x : EReal) :
    (S.fold (FloatOps.maximumf (F := Ideal) (φ := .f32)) b f : EReal) ≤ x ↔ (b : EReal) ≤ x ∧ ∀ i ∈ S, (f i : EReal) ≤ x := by
  refine Finset.fold_op_rel_iff_and (r := fun (c : Ideal .f32) (y : Ideal .f32) => (y : EReal) ≤ (c : EReal)) (c := x) ?_
  intro c y z
  exact max_le_iff (α := EReal)

/-- A number bounds the block's maximum exactly when it bounds the magnitude of each of its 32 elements. -/
theorem amax_le (d : Fin 16384) (n : Fin 192) (x : EReal) :
    amaxR V0 (ValueIdx.ix3 (0 : Fin 1) d n) ≤ x
      ↔ ∀ e : Fin 32, max (wR V0 (ValueIdx.ix4 (0 : Fin 1) d n e))
          (-wR V0 (ValueIdx.ix4 (0 : Fin 1) d n e)) ≤ x := by
  unfold amaxR wR res_main_v42
  clean_types
  rw [Host.reduce_eq_fold]
  refine (fold_le _ _ _ x).trans ?_
  constructor
  · intro h e
    refine h.2 (ValueIdx.ix4 (0 : Fin 1) d n e) (Finset.mem_filter.2 ⟨Finset.mem_univ _, ?_⟩)
    exact (drop_iff _ (ValueIdx.ix4 (0 : Fin 1) d n e) d n (by decide)).2 rfl
  · intro h
    refine ⟨?_, fun i hi => ?_⟩
    · refine le_of_eq_of_le ?_ bot_le
      show Ideal.ofBits .f32 0xFF800000#32 = ⊥
      simp [Ideal.ofBits, Ideal.ieee]
    · have e := (drop_iff _ i d n (by decide)).1 (Finset.mem_filter.1 hi).2
      rw [e]
      exact h (i 3)

/-- The power of two the count compares with, the `k`-th from 2^-149 on. -/
def powAt (k : Fin 277) : EReal :=
  Ideal.pow (Ideal.ofBits .f32 0x40000000#32) (FloatOps.sitofp (F := Ideal) .f32 (IntOp.addi 4294967147#32 (BitVec.ofNat 32 k.val)))

/-- How many of the 277 powers of two do not exceed a number. -/
def countOf (a : EReal) : ℕ := (Finset.univ.filter fun k : Fin 277 => powAt k ≤ a).card

/-- The shared exponent of a block, from its maximum. -/
def expOf (a : EReal) : BitVec 32 :=
  Scalar.select (FloatOps.cmpf (F := Ideal) (φ := .f32) .ogt a (FloatOps.ofBits .f32 0x00000000#32))
    (IntOp.subi (IntOp.subi (BitVec.ofNat 32 (countOf a)) 149#32) 3#32) 0#32

/-- A sum of bits over the last axis counts the bits set. -/
theorem reduce_count (p : IVec S1x16384x192x277 1) (d : Fin 16384) (n : Fin 192) :
    Host.reduce IntOp.addi (extui 32 p natLt_1_32) (constantI S_ 32 0#32) reducesTo_S1x16384x192x277_S1x16384x192_d3 h_S_ (ValueIdx.ix3 (0 : Fin 1) d n)
      = BitVec.ofNat 32 (Finset.univ.filter fun k : Fin 277 => p (ValueIdx.ix4 (0 : Fin 1) d n k) = 1#1).card := by
  rw [Host.reduce_eq_fold]
  refine (IndicatorCount.fold_addi_setWidth_eq_card p _).trans (congrArg (BitVec.ofNat 32) ?_)
  symm
  refine Finset.card_bij (fun k _ => (ValueIdx.ix4 (0 : Fin 1) d n k : S1x16384x192x277.Idx)) ?_ ?_ ?_
  · intro k hk
    refine Finset.mem_filter.2 ⟨Finset.mem_filter.2 ⟨Finset.mem_univ _, (drop_iff _ (ValueIdx.ix4 (0 : Fin 1) d n k) d n (by decide)).2 rfl⟩, ?_⟩
    exact (Finset.mem_filter.1 hk).2
  · intro k _ k' _ e
    exact congrFun e 3
  · intro i hi
    have hi' := Finset.mem_filter.1 hi
    have e := (drop_iff _ i d n (by decide)).1 (Finset.mem_filter.1 hi'.1).2
    refine ⟨i 3, Finset.mem_filter.2 ⟨Finset.mem_univ _, ?_⟩, e.symm⟩
    exact (congrArg p e).symm.trans hi'.2

/-- A selection over differences, at an index. -/
theorem sel_apply (am z : FVec Ideal S1x16384x192 .f32) (cnt a b e : IVec S1x16384x192 32) (i : S1x16384x192.Idx) :
    select (cmpf .ogt am z) (subi (subi cnt a) b) e i
      = Scalar.select (FloatOps.cmpf (F := Ideal) (φ := .f32) .ogt (am i) (z i)) (IntOp.subi (IntOp.subi (cnt i) (a i)) (b i)) (e i) := rfl

/-- A comparison of a block's number with the `k`-th of 277, at an index. -/
theorem cmp_apply (am : FVec Ideal S1x16384x192 .f32) (pw : FVec Ideal S277 .f32) (d : Fin 16384) (n : Fin 192) (k : Fin 277) :
    cmpf .oge (broadcastInDim S1x16384x192x277 ![0, 1, 2, 3] bcast_S1x16384x192x1_S1x16384x192x277_0_1_2_3
          (broadcastInDim S1x16384x192x1 ![0, 1, 2] bcast_S1x16384x192_S1x16384x192x1_0_1_2 am))
        (broadcastInDim S1x16384x192x277 ![0, 1, 2, 3] bcast_S1x1x1x277_S1x16384x192x277_0_1_2_3
          (broadcastInDim S1x1x1x277 ![3] bcast_S277_S1x1x1x277_3 pw)) (ValueIdx.ix4 (0 : Fin 1) d n k)
      = FloatOps.cmpf (F := Ideal) (φ := .f32) .oge (am (ValueIdx.ix3 (0 : Fin 1) d n)) (pw (ValueIdx.ix1 k)) := by
  pointwise
  rfl

/-- The array of powers of two, at an index. -/
theorem pow_apply (k : Fin 277) :
    Host.powf (F := Ideal) (broadcastInDim S277 ![] bcast_S_S277 (constant S_ .f32 0x40000000#32))
      (sitofp .f32 (addi (broadcastInDim S277 ![] bcast_S_S277 (constantI S_ 32 4294967147#32)) (iotaInDim S277 32 0))) (ValueIdx.ix1 k)
      = powAt k := rfl

theorem oge_iff (a b : EReal) : FloatOps.cmpf (F := Ideal) (φ := .f32) .oge a b = 1#1 ↔ b ≤ a := by
  show BitVec.ofBool (decide (b ≤ a)) = 1#1 ↔ _
  by_cases h : b ≤ a <;> simp [h]

/-- The number of powers of two that do not exceed a block's number, as the sum of bits takes it. -/
theorem count_apply (am : FVec Ideal S1x16384x192 .f32) (d : Fin 16384) (n : Fin 192) :
    Host.reduce IntOp.addi (extui 32 (cmpf .oge (broadcastInDim S1x16384x192x277 ![0, 1, 2, 3] bcast_S1x16384x192x1_S1x16384x192x277_0_1_2_3
          (broadcastInDim S1x16384x192x1 ![0, 1, 2] bcast_S1x16384x192_S1x16384x192x1_0_1_2 am))
        (broadcastInDim S1x16384x192x277 ![0, 1, 2, 3] bcast_S1x1x1x277_S1x16384x192x277_0_1_2_3
          (broadcastInDim S1x1x1x277 ![3] bcast_S277_S1x1x1x277_3 (Host.powf (F := Ideal) (broadcastInDim S277 ![] bcast_S_S277 (constant S_ .f32 0x40000000#32))
      (sitofp .f32 (addi (broadcastInDim S277 ![] bcast_S_S277 (constantI S_ 32 4294967147#32)) (iotaInDim S277 32 0))))))) natLt_1_32)
      (constantI S_ 32 0#32) reducesTo_S1x16384x192x277_S1x16384x192_d3 h_S_ (ValueIdx.ix3 (0 : Fin 1) d n)
      = BitVec.ofNat 32 (countOf (am (ValueIdx.ix3 (0 : Fin 1) d n))) := by
  rw [reduce_count]
  refine congrArg (BitVec.ofNat 32) (congrArg Finset.card (Finset.filter_congr fun k _ => ?_))
  rw [cmp_apply, pow_apply]
  exact oge_iff _ _

/-- The shared exponents, at an index. -/
theorem exp_eq (d : Fin 16384) (n : Fin 192) :
    res_main_v62 (F := Ideal) V0 (ValueIdx.ix3 (0 : Fin 1) d n) = expOf (amaxR V0 (ValueIdx.ix3 (0 : Fin 1) d n)) := by
  unfold res_main_v62
  refine (sel_apply _ _ _ _ _ _ _).trans ?_
  rw [count_apply]
  rfl

end Cert.Proof.Reads
-- ==== Proof.FloatBits.lean ====
/-
  What the bits of some f32 numbers denote: powers of two, and the number just below one.
-/
module

public import Idealize.ShloMosaic.PureOps.Ideal

@[expose] public section

noncomputable section

namespace Cert.Proof.FloatBits

open Idealize.ShloMosaic

/-- A positive normal f32 from its exponent field and its fraction. -/
theorem normal_bits (b : BitVec 32) (E T : ℕ) (h1 : 1 ≤ E) (h2 : E ≤ 254) (hT : T < 8388608) (hb : b.toNat = E * 8388608 + T) :
    Ideal.ofBits .f32 b = (((2 ^ 23 + T : ℕ) * (2 : ℝ) ^ ((E : ℤ) - 150) : ℝ) : EReal) := by
  have e1 : (BitVec.extractLsb' 23 8 b).toNat = E := by
    rw [BitVec.extractLsb'_toNat, hb, Nat.shiftRight_eq_div_pow]; omega
  have e2 : (BitVec.extractLsb' 0 23 b).toNat = T := by
    rw [BitVec.extractLsb'_toNat, hb, Nat.shiftRight_eq_div_pow]; omega
  have e3 : (BitVec.extractLsb' (8 + 23) 1 b == 1#1) = false := by
    apply beq_false_of_ne
    intro e
    have := congrArg BitVec.toNat e
    rw [BitVec.extractLsb'_toNat, hb, Nat.shiftRight_eq_div_pow] at this
    simp at this
    omega
  show Ideal.ieee 8 23 b = _
  unfold Ideal.ieee
  simp only [e1, e2, e3]
  rw [if_neg (by omega), if_neg (by omega)]
  have : (E : ℤ) - (2 ^ (8 - 1) - 1) - (23 : ℕ) = (E : ℤ) - 150 := by push_cast; omega
  rw [this]
  simp

/-- The bits of a power of two. -/
theorem pow_bits (b : BitVec 32) (E : ℕ) (h1 : 1 ≤ E) (h2 : E ≤ 254) (hb : b.toNat = E * 8388608) :
    Ideal.ofBits .f32 b = (((2 : ℝ) ^ ((E : ℤ) - 127) : ℝ) : EReal) := by
  obtain ⟨T, hT⟩ : ∃ T : ℕ, T = 0 := ⟨0, rfl⟩
  rw [normal_bits b E T h1 h2 (by rw [hT]; norm_num) (by rw [hT, Nat.add_zero]; exact hb), hT, show (E : ℤ) - 127 = (23 : ℕ) + ((E : ℤ) - 150) by push_cast; omega,
    zpow_add₀ (by norm_num), zpow_natCast]
  norm_num

/-- The bits just below a power of two. -/
theorem below_bits (b : BitVec 32) (E : ℕ) (h1 : 2 ≤ E) (h2 : E ≤ 255) (hb : b.toNat = E * 8388608 - 1) :
    Ideal.ofBits .f32 b = (((2 : ℝ) ^ ((E : ℤ) - 127) * (1 - 1 / 16777216) : ℝ) : EReal) := by
  have e : ((E - 1 : ℕ) : ℤ) = (E : ℤ) - 1 := by omega
  rw [normal_bits b (E - 1) 8388607 (by omega) (by omega) (by omega) (by omega), e,
    show (E : ℤ) - 127 = (24 : ℕ) + ((E : ℤ) - 1 - 150) by push_cast; omega,
    zpow_add₀ (by norm_num), zpow_natCast]
  congr 1
  push_cast
  ring

/-- All ones in the exponent field and no fraction. -/
theorem top_bits : Ideal.ofBits .f32 0x7F800000#32 = ⊤ := by
  simp [Ideal.ofBits, Ideal.ieee]

end Cert.Proof.FloatBits

end
-- ==== Proof.Grid.lean ====
/-
  The quantiser's grid in exact arithmetic, without either program.  A magnitude `x` in [0, 8) has the position `pos x` on
  the E2M1 grid: codes are its integers.  The kernel works on `z`, just below twice `x + max x 1`, and reads a position in
  512ths off the exponent and the ten leading fraction bits of `z`; this module bounds the difference.
-/
module

public import Idealize.ShloMosaic.PureOps.Ideal

@[expose] public section

noncomputable section

namespace Cert.Proof.Grid

open Idealize.ShloMosaic

/-- The position of a magnitude on the grid 0, 1/2, 1, 3/2, 2, 3, 4, 6. -/
def pos (x : ℝ) : ℝ := if x < 2 then 2 * x else if x < 4 then x + 2 else x / 2 + 4

/-- The position the kernel reads off, in 512ths. -/
def posZ (z : ℝ) : ℝ :=
  if z < 2 then 1024 * z - 2048 else if z < 4 then 512 * z - 1024 else if z < 8 then 256 * z
  else if z < 16 then 128 * z + 1024 else 64 * z + 2048

/-- What is lost to the reciprocal's being just below a power of two. -/
def dl : ℝ := 1 - 1 / 16777216

/-- The number whose bits the kernel takes. -/
def zR (x : ℝ) : ℝ := 2 * x * dl + max (2 * x * dl) (2 - 1 / 8388608)

theorem zR_eq (x : ℝ) : zR x = 2 * dl * (x + max x 1) := by
  unfold zR dl
  rcases le_total x 1 with h | h
  · rw [max_eq_right h, max_eq_right (by linarith)]; ring
  · rw [max_eq_left h, max_eq_left (by linarith)]; ring

theorem zR_bounds (x : ℝ) (h0 : 0 ≤ x) (h8 : x < 8) : 1 ≤ zR x ∧ zR x < 32 := by
  rw [zR_eq]
  unfold dl
  rcases le_total x 1 with h | h
  · rw [max_eq_right h]; constructor <;> linarith
  · rw [max_eq_left h]; constructor <;> linarith

/-- The kernel's position is below the true one, by at most 2^-13 of a 512th. -/
theorem posZ_bounds (x : ℝ) (h0 : 0 ≤ x) (h8 : x < 8) :
    posZ (zR x) < 512 * pos x ∧ 512 * pos x - 1 / 8192 ≤ posZ (zR x) := by
  rw [zR_eq]
  unfold posZ pos dl
  rcases le_total x 1 with h | h
  · rw [max_eq_right h]; split_ifs <;> constructor <;> linarith
  · rw [max_eq_left h]; split_ifs <;> constructor <;> linarith

theorem pos_nonneg (x : ℝ) (h0 : 0 ≤ x) : 0 ≤ pos x := by
  unfold pos; split_ifs <;> linarith

theorem pos_lt (x : ℝ) (h8 : x < 8) : pos x < 8 := by
  unfold pos; split_ifs <;> linarith

/-- The code the kernel finds before the top code is brought down. -/
def kIdx (x : ℝ) (r : ℕ) : ℤ := (⌊posZ (zR x)⌋ + 511 - 2 * r) / 512

/-- Whatever the random byte, the kernel's code is 0 … 8. -/
theorem kIdx_range (x : ℝ) (h0 : 0 ≤ x) (h8 : x < 8) (r : ℕ) (hr : r < 256) : 0 ≤ kIdx x r ∧ kIdx x r ≤ 8 := by
  obtain ⟨h1, h2⟩ := posZ_bounds x h0 h8
  have h3 := pos_nonneg x h0
  have h4 := pos_lt x h8
  have a : (-1 : ℤ) ≤ ⌊posZ (zR x)⌋ := Int.le_floor.2 (by push_cast; norm_num at h2; linarith)
  have b : ⌊posZ (zR x)⌋ < 4096 := Int.floor_lt.2 (by push_cast; linarith)
  unfold kIdx
  omega

/-- The kernel's code does not exceed 7 up to 6. -/
theorem kIdx_down (x : ℝ) (h0 : 0 ≤ x) (h8 : x < 8) (r k : ℕ) (hr : r < 256) (hk : ⌊pos x⌋ = k)
    (h : (pos x - k) * 256 ≤ (r : ℝ) + 1 / 2) : kIdx x r = k := by
  obtain ⟨h1, h2⟩ := posZ_bounds x h0 h8
  have k1 : (k : ℝ) ≤ pos x := by have := Int.floor_le (pos x); rw [hk] at this; exact_mod_cast this
  have a : 512 * (k : ℤ) - 1 ≤ ⌊posZ (zR x)⌋ := Int.le_floor.2 (by push_cast; norm_num at h2; linarith)
  have b : ⌊posZ (zR x)⌋ < 512 * (k : ℤ) + 2 * r + 1 := Int.floor_lt.2 (by push_cast; linarith)
  unfold kIdx
  omega

theorem kIdx_up (x : ℝ) (h0 : 0 ≤ x) (h8 : x < 8) (r k : ℕ) (hr : r < 256) (hk : ⌊pos x⌋ = k)
    (h : (r : ℝ) + 1 / 2 + 1 / 16384 ≤ (pos x - k) * 256) : kIdx x r = k + 1 := by
  obtain ⟨h1, h2⟩ := posZ_bounds x h0 h8
  have k2 : pos x < k + 1 := by have := Int.lt_floor_add_one (pos x); rw [hk] at this; exact_mod_cast this
  have a : 512 * (k : ℤ) + 2 * r + 1 ≤ ⌊posZ (zR x)⌋ := Int.le_floor.2 (by push_cast; norm_num at h2 h; linarith)
  have b : ⌊posZ (zR x)⌋ < 512 * (k : ℤ) + 512 := Int.floor_lt.2 (by push_cast; linarith)
  unfold kIdx
  omega

/-- Above 6 the kernel's code is 7 or 8, which is brought down to 7. -/
theorem kIdx_top (x : ℝ) (h6 : 6 ≤ x) (h8 : x < 8) (r : ℕ) (hr : r < 256) : kIdx x r = 7 ∨ kIdx x r = 8 := by
  obtain ⟨h1, h2⟩ := posZ_bounds x (by linarith) h8
  have h3 : pos x = x / 2 + 4 := by unfold pos; rw [if_neg (by linarith), if_neg (by linarith)]
  have a : (3583 : ℤ) ≤ ⌊posZ (zR x)⌋ := Int.le_floor.2 (by push_cast; norm_num at h2; linarith)
  have b : ⌊posZ (zR x)⌋ < 4096 := Int.floor_lt.2 (by push_cast; linarith)
  unfold kIdx
  omega

/-! ## The reference's code -/

/-- The grid's step at a magnitude. -/
def stepR (x : ℝ) : ℝ := if x < 2 then 1 / 2 else if x < 4 then 1 else 2

/-- The grid point below a magnitude. -/
def loR (x : ℝ) : ℝ := (⌊x / stepR x⌋ : ℝ) * stepR x

/-- How far between two grid points a magnitude lies. -/
def fracR (x : ℝ) : ℝ := (x - loR x) / stepR x

/-- A grid point's code. -/
def codeR (q : ℝ) : ℝ := if q < 2 then 2 * q else if q < 4 then q + 2 else q * (1 / 2) + 4

theorem fracR_eq (x : ℝ) : fracR x = pos x - ⌊pos x⌋ := by
  unfold fracR loR stepR pos
  split_ifs
  · rw [show x / (1 / 2) = 2 * x by ring]; ring
  · have : ⌊x + 2⌋ = ⌊x⌋ + 2 := by exact_mod_cast Int.floor_add_natCast x 2
    rw [div_one, this]; push_cast; ring
  · have : ⌊x / 2 + 4⌋ = ⌊x / 2⌋ + 4 := by exact_mod_cast Int.floor_add_natCast (x / 2) 4
    rw [this]; push_cast; field_simp; ring_nf

/-- Rounded to the point below or above, the magnitude has that point's code. -/
theorem codeR_eq (x : ℝ) (h0 : 0 ≤ x) (h6 : x ≤ 6) (u : ℕ) (hu : u ≤ 1) :
    codeR (loR x + stepR x * u) = ⌊pos x⌋ + u := by
  have hu' : (u : ℝ) = 0 ∨ (u : ℝ) = 1 := by interval_cases u <;> simp
  unfold loR stepR pos
  split_ifs with h1 h2
  · rw [show x / (1 / 2) = 2 * x by ring]
    have a : (0 : ℤ) ≤ ⌊2 * x⌋ := Int.le_floor.2 (by push_cast; linarith)
    have b : ⌊2 * x⌋ < 4 := Int.floor_lt.2 (by push_cast; linarith)
    generalize ⌊2 * x⌋ = k at a b
    unfold codeR
    interval_cases k <;> rcases hu' with e | e <;> rw [e] <;> norm_num
  · have e2 : ⌊x + 2⌋ = ⌊x⌋ + 2 := by exact_mod_cast Int.floor_add_natCast x 2
    rw [div_one, e2]
    have a : (2 : ℤ) ≤ ⌊x⌋ := Int.le_floor.2 (by push_cast; linarith)
    have b : ⌊x⌋ < 4 := Int.floor_lt.2 (by push_cast; linarith)
    generalize ⌊x⌋ = k at a b
    unfold codeR
    interval_cases k <;> rcases hu' with e | e <;> rw [e] <;> norm_num
  · have e2 : ⌊x / 2 + 4⌋ = ⌊x / 2⌋ + 4 := by exact_mod_cast Int.floor_add_natCast (x / 2) 4
    rw [e2]
    have a : (2 : ℤ) ≤ ⌊x / 2⌋ := Int.le_floor.2 (by push_cast; linarith)
    have b : ⌊x / 2⌋ < 4 := Int.floor_lt.2 (by push_cast; linarith)
    generalize ⌊x / 2⌋ = k at a b
    unfold codeR
    interval_cases k <;> rcases hu' with e | e <;> rw [e] <;> norm_num

end Cert.Proof.Grid

end
-- ==== Proof.Exponent.lean ====
/-
  The exponent of a block.  The kernel finds the exponent field of the largest magnitude by comparing it with powers of
  two; the reference counts how many powers of two do not exceed it.  For a positive normal number both find the same.
-/
module

public import proofs.«01_k».proof.Proof.Reads
public import proofs.«01_k».proof.Proof.FloatBits
public import proofs.«01_k».proof.Proof.Grid

@[expose] public section

noncomputable section

namespace Cert.Proof.Exponent

open Idealize.ShloMosaic
open Cert.Proof.Weights Cert.Proof.FloatBits Cert.Proof.Reads

theorem sel_one {α : Type} {c : BitVec 1} (h : c = 1#1) (a b : α) : Scalar.select c a b = a := if_pos h

theorem sel_not {α : Type} {c : BitVec 1} (h : ¬ c = 1#1) (a b : α) : Scalar.select c a b = b := if_neg h

/-- `n` is the exponent field of the number `a`. -/
def IsExp (a : ℝ) (n : ℕ) : Prop := 1 ≤ n ∧ n ≤ 254 ∧ (2 : ℝ) ^ ((n : ℤ) - 127) ≤ a ∧ a < (2 : ℝ) ^ ((n : ℤ) - 126)

/-- A positive normal number has an exponent field. -/
theorem exists_exp (a : ℝ) (h1 : (2 : ℝ) ^ (-126 : ℤ) ≤ a) (h2 : a < (2 : ℝ) ^ (128 : ℤ)) : ∃ n, IsExp a n := by
  classical
  have hex : ∃ k : ℕ, a < (2 : ℝ) ^ ((k : ℤ) - 126) := ⟨254, by norm_num at h2 ⊢; exact h2⟩
  have f1 := Nat.find_spec hex
  have f2 : Nat.find hex ≤ 254 := Nat.find_min' hex (by norm_num at h2 ⊢; exact h2)
  have f3 : Nat.find hex ≠ 0 := fun h => by
    rw [h] at f1
    exact absurd (lt_of_le_of_lt h1 f1) (by norm_num)
  have f4 := Nat.find_min hex (m := Nat.find hex - 1) (by omega)
  refine ⟨Nat.find hex, by omega, f2, ?_, f1⟩
  have e : ((Nat.find hex - 1 : ℕ) : ℤ) - 126 = (Nat.find hex : ℤ) - 127 := by omega
  rw [e] at f4
  exact not_lt.1 f4

/-- Which powers of two do not exceed a number, by its exponent field. -/
theorem pow_le_iff {a : ℝ} {n : ℕ} (h : IsExp a n) (z : ℤ) : (2 : ℝ) ^ z ≤ a ↔ z ≤ (n : ℤ) - 127 := by
  obtain ⟨-, -, h3, h4⟩ := h
  constructor
  · intro hz
    have := (zpow_lt_zpow_iff_right₀ (by norm_num : (1 : ℝ) < 2)).1 (lt_of_le_of_lt hz h4)
    omega
  · intro hz
    exact le_trans ((zpow_le_zpow_iff_right₀ (by norm_num : (1 : ℝ) < 2)).2 hz) h3

theorem shl23 (k : BitVec 32) (hk : k.toNat ≤ 255) : (IntOp.shli .vector k 23#32).toNat = k.toNat * 8388608 := by
  show (if (23#32).toNat < 32 then k <<< 23#32 else _).toNat = _
  rw [if_pos (by decide)]
  show (k <<< (23#32).toNat).toNat = _
  rw [BitVec.toNat_shiftLeft, Nat.shiftLeft_eq]
  simp
  omega

/-- One step of the search. -/
theorem up_spec (a : EReal) (n : ℕ)
    (H : ∀ k : BitVec 32, 1 ≤ k.toNat → k.toNat ≤ 255 → (Ideal.ofBits .f32 (IntOp.shli .vector k 23#32) ≤ a ↔ k.toNat ≤ n))
    (j e : BitVec 32) (hj : 1 ≤ j.toNat) (h0 : e.toNat + 2 * j.toNat ≤ 256) (h1 : e.toNat ≤ n) (h2 : n < e.toNat + 2 * j.toNat) :
    (up (F := Ideal) a j e).toNat ≤ n ∧ n < (up (F := Ideal) a j e).toNat + j.toNat
      ∧ (up (F := Ideal) a j e).toNat + j.toNat ≤ 256 := by
  have ea : (IntOp.addi e j).toNat = e.toNat + j.toNat := by
    show (e + j).toNat = _
    rw [BitVec.toNat_add]; omega
  have hh := H (IntOp.addi e j) (by omega) (by omega)
  unfold up
  by_cases hc : FloatOps.cmpf (F := Ideal) (φ := .f32) .oge a (FloatOps.ofBits .f32 (IntOp.shli .vector (IntOp.addi e j) 23#32)) = 1#1
  · have := hh.1 ((oge_iff _ _).1 hc)
    rw [sel_one hc]; omega
  · have : ¬ (IntOp.addi e j).toNat ≤ n := fun hn => hc ((oge_iff _ _).2 (hh.2 hn))
    rw [sel_not hc]; omega

/-- The search finds the field. -/
theorem expo_of (a : EReal) (n : ℕ) (hn : n ≤ 255)
    (H : ∀ k : BitVec 32, 1 ≤ k.toNat → k.toNat ≤ 255 → (Ideal.ofBits .f32 (IntOp.shli .vector k 23#32) ≤ a ↔ k.toNat ≤ n)) :
    expo (F := Ideal) a = BitVec.ofNat 32 n := by
  have s1 := up_spec a n H 128#32 0#32 (by decide) (by decide) (by simp) (by simp; omega)
  have s2 := up_spec a n H 64#32 _ (by decide) s1.2.2 s1.1 s1.2.1
  have s3 := up_spec a n H 32#32 _ (by decide) s2.2.2 s2.1 s2.2.1
  have s4 := up_spec a n H 16#32 _ (by decide) s3.2.2 s3.1 s3.2.1
  have s5 := up_spec a n H 8#32 _ (by decide) s4.2.2 s4.1 s4.2.1
  have s6 := up_spec a n H 4#32 _ (by decide) s5.2.2 s5.1 s5.2.1
  have s7 := up_spec a n H 2#32 _ (by decide) s6.2.2 s6.1 s6.2.1
  have s8 := up_spec a n H 1#32 _ (by decide) s7.2.2 s7.1 s7.2.1
  have e1 : (1#32 : BitVec 32).toNat = 1 := rfl
  rw [e1] at s8
  have : (expo (F := Ideal) a).toNat = n := by unfold expo; omega
  apply BitVec.eq_of_toNat_eq
  rw [this, BitVec.toNat_ofNat]
  omega

theorem bits_le_iff {a : ℝ} {n : ℕ} (h : IsExp a n) (k : BitVec 32) (h1 : 1 ≤ k.toNat) (h2 : k.toNat ≤ 255) :
    Ideal.ofBits .f32 (IntOp.shli .vector k 23#32) ≤ (a : EReal) ↔ k.toNat ≤ n := by
  rcases Nat.lt_or_ge k.toNat 255 with hk | hk
  · rw [pow_bits _ k.toNat h1 (by omega) (shl23 k h2), EReal.coe_le_coe_iff, pow_le_iff h]
    omega
  · have ek : k = 255#32 := BitVec.eq_of_toNat_eq (by simp; omega)
    subst ek
    have e : IntOp.shli .vector 255#32 23#32 = 0x7F800000#32 := by decide
    rw [e, top_bits]
    have := h.2.1
    constructor
    · intro hh; exact absurd (top_le_iff.1 hh) (EReal.coe_ne_top a)
    · intro hh; simp at hh; omega

/-- The kernel's search on a positive normal number. -/
theorem expo_eq {a : ℝ} {n : ℕ} (h : IsExp a n) : expo (F := Ideal) (a : EReal) = BitVec.ofNat 32 n :=
  expo_of _ _ (by have := h.2.1; omega) (bits_le_iff h)

/-- The kernel's search on zero. -/
theorem expo_zero : expo (F := Ideal) (0 : EReal) = 0#32 := by
  refine expo_of _ 0 (by omega) fun k h1 h2 => ?_
  rcases Nat.lt_or_ge k.toNat 255 with hk | hk
  · rw [pow_bits _ k.toNat h1 (by omega) (shl23 k h2)]
    constructor
    · intro hh
      have : ((2 : ℝ) ^ ((k.toNat : ℤ) - 127)) ≤ 0 := by exact_mod_cast hh
      exact absurd this (not_le.2 (by positivity))
    · intro hh; omega
  · have ek : k = 255#32 := BitVec.eq_of_toNat_eq (by simp; omega)
    subst ek
    have e : IntOp.shli .vector 255#32 23#32 = 0x7F800000#32 := by decide
    rw [e, top_bits]
    simp

/-- The power of two the count compares with. -/
theorem powAt_eq (k : Fin 277) : powAt k = (((2 : ℝ) ^ ((k.val : ℤ) - 149) : ℝ) : EReal) := by
  have e : (IntOp.addi 4294967147#32 (BitVec.ofNat 32 k.val)).toInt = (k.val : ℤ) - 149 := by
    have := k.isLt
    show (4294967147#32 + BitVec.ofNat 32 k.val).toInt = _
    rw [BitVec.toInt_eq_toNat_bmod, BitVec.toNat_add, BitVec.toNat_ofNat, Int.bmod_def]
    simp only [BitVec.toNat_ofNat]
    split_ifs <;> omega
  have e2 : Ideal.ofBits .f32 0x40000000#32 = ((2 : ℝ) : EReal) := by
    rw [pow_bits 0x40000000#32 128 (by norm_num) (by norm_num) (by decide)]; norm_num
  unfold powAt
  rw [e2]
  show Ideal.pow ((2 : ℝ) : EReal) (((IntOp.addi 4294967147#32 (BitVec.ofNat 32 k.val)).toInt : ℝ) : EReal) = _
  rw [e, Ideal.pow_coe_coe]
  congr 1
  exact Real.rpow_intCast 2 _

/-- The count on a positive normal number. -/
theorem countOf_eq {a : ℝ} {n : ℕ} (h : IsExp a n) : countOf (a : EReal) = n + 23 := by
  unfold countOf
  have e : (Finset.univ.filter fun k : Fin 277 => powAt k ≤ (a : EReal)) = Finset.univ.filter fun k : Fin 277 => k.val < n + 23 := by
    refine Finset.filter_congr fun k _ => ?_
    rw [powAt_eq, EReal.coe_le_coe_iff, pow_le_iff h]
    omega
  rw [e, Fin.card_filter_val_lt]
  have := h.2.1
  omega

theorem ogt_iff (a b : EReal) : FloatOps.cmpf (F := Ideal) (φ := .f32) .ogt a b = 1#1 ↔ b < a := by
  show BitVec.ofBool (decide (b < a)) = 1#1 ↔ _
  by_cases h : b < a <;> simp [h]

theorem zero_bits : FloatOps.ofBits (F := Ideal) .f32 0x00000000#32 = (0 : EReal) := by
  show Ideal.ofBits .f32 0x00000000#32 = 0
  simp [Ideal.ofBits, Ideal.ieee]

theorem pos_of {a : ℝ} {n : ℕ} (h : IsExp a n) : (0 : EReal) < (a : EReal) := by
  have : (0 : ℝ) < a := lt_of_lt_of_le (by positivity) h.2.2.1
  exact_mod_cast this

/-- The shared exponent of a block that is not zero. -/
theorem expOf_eq {a : ℝ} {n : ℕ} (h : IsExp a n) : expOf (a : EReal) = BitVec.ofNat 32 n - 129#32 := by
  unfold expOf
  rw [sel_one ((ogt_iff _ _).2 (by rw [zero_bits]; exact pos_of h)), countOf_eq h]
  show BitVec.ofNat 32 (n + 23) - 149#32 - 3#32 = _
  have := h.2.1
  apply BitVec.eq_of_toNat_eq
  simp [BitVec.toNat_sub, BitVec.toNat_ofNat]
  omega

/-- The shared exponent of a block of zeros. -/
theorem expOf_zero : expOf (0 : EReal) = 0#32 := by
  unfold expOf
  rw [sel_not]
  intro h
  have := (ogt_iff _ _).1 h
  rw [zero_bits] at this
  exact absurd this (lt_irrefl _)

/-- The kernel's scale byte of a block's maximum. -/
def scaleByte (a : EReal) : BitVec 8 :=
  (Scalar.select (FloatOps.cmpf (F := Ideal) (φ := .f32) .ogt a (FloatOps.ofBits .f32 0x00000000#32))
    (IntOp.subi (expo (F := Ideal) a) 2#32) 127#32).setWidth 8

theorem scale_pos {a : ℝ} {n : ℕ} (h : IsExp a n) :
    scaleByte (a : EReal) = (IntOp.addi (expOf (a : EReal)) 127#32).setWidth 8 := by
  unfold scaleByte
  rw [sel_one ((ogt_iff _ _).2 (by rw [zero_bits]; exact pos_of h)), expo_eq h, expOf_eq h]
  congr 1
  show BitVec.ofNat 32 n - 2#32 = BitVec.ofNat 32 n - 129#32 + 127#32
  bv_omega

theorem scale_zero : scaleByte (0 : EReal) = (IntOp.addi (expOf (0 : EReal)) 127#32).setWidth 8 := by
  unfold scaleByte
  rw [sel_not, expOf_zero]
  · rfl
  · intro h
    have := (ogt_iff _ _).1 h
    rw [zero_bits] at this
    exact absurd this (lt_irrefl _)

/-- The reciprocal the kernel multiplies by. -/
theorem invOf_of (a : EReal) (n : ℕ) (h3 : 3 ≤ n) (h4 : n ≤ 254) (h : IntOp.maxsi (expo (F := Ideal) a) 3#32 = BitVec.ofNat 32 n) :
    (invOf (F := Ideal) a : EReal) = (((2 : ℝ) ^ (130 - (n : ℤ)) * Grid.dl : ℝ) : EReal) := by
  unfold invOf
  rw [h]
  have e1 : (IntOp.subi 257#32 (BitVec.ofNat 32 n)).toNat = 257 - n := by
    show (257#32 - BitVec.ofNat 32 n).toNat = _
    rw [BitVec.toNat_sub, BitVec.toNat_ofNat]
    simp
    omega
  have e2 := shl23 (IntOp.subi 257#32 (BitVec.ofNat 32 n)) (by omega)
  have e3 : (IntOp.subi (IntOp.shli .vector (IntOp.subi 257#32 (BitVec.ofNat 32 n)) 23#32) 1#32).toNat = (257 - n) * 8388608 - 1 := by
    show (IntOp.shli .vector (IntOp.subi 257#32 (BitVec.ofNat 32 n)) 23#32 - 1#32).toNat = _
    rw [BitVec.toNat_sub, e2, e1]
    simp
    omega
  have e4 : ((257 - n : ℕ) : ℤ) - 127 = 130 - (n : ℤ) := by omega
  refine (below_bits _ (257 - n) (by omega) (by omega) e3).trans ?_
  rw [e4]
  rfl

theorem max3 {n : ℕ} (h : n ≤ 254) : IntOp.maxsi (BitVec.ofNat 32 n) 3#32 = BitVec.ofNat 32 (max n 3) := by
  have : ∀ k : Fin 255, IntOp.maxsi (BitVec.ofNat 32 k.val) 3#32 = BitVec.ofNat 32 (max k.val 3) := by decide +kernel
  exact this ⟨n, by omega⟩

end Cert.Proof.Exponent
-- ==== Proof.Agree.lean ====
/-
  The kernel's maxima and scales are the reference's.
-/
module

public import proofs.«01_k».proof.Proof.Exponent

@[expose] public section

noncomputable section

namespace Cert.Proof.Agree

open Idealize.ShloMosaic Idealize.ShloMosaic.TcCoe
open Cert.Proof.Weights Cert.Proof.Sites Cert.Proof.Trips Cert.Proof.Reads Cert.Proof.Exponent Cert.Proof.KernelValue Cert.Proof.Product

section Max
variable (W : Cert.KernelIdeal.S256x256.Idx → Ideal .f32)

theorem max4_le (p q r s x : EReal) : max (max p q) (max r s) ≤ x ↔ (p ≤ x ∧ q ≤ x) ∧ (r ≤ x ∧ s ≤ x) := by
  rw [max_le_iff, max_le_iff, max_le_iff]

theorem part_le (g s c : ℕ) (x : EReal) : (partMax (F := Ideal) W g s c : EReal) ≤ x
    ↔ ∀ b : Fin 4, max (wAt (F := Ideal) W (32 * g + 8 * b.val + s) c : EReal) (-(wAt (F := Ideal) W (32 * g + 8 * b.val + s) c : EReal)) ≤ x := by
  have e : (partMax (F := Ideal) W g s c : EReal) = max (max (max (wAt (F := Ideal) W (32 * g + s) c : EReal) (-(wAt (F := Ideal) W (32 * g + s) c : EReal)))
      (max (wAt (F := Ideal) W (32 * g + 8 + s) c : EReal) (-(wAt (F := Ideal) W (32 * g + 8 + s) c : EReal))))
      (max (max (wAt (F := Ideal) W (32 * g + 16 + s) c : EReal) (-(wAt (F := Ideal) W (32 * g + 16 + s) c : EReal)))
      (max (wAt (F := Ideal) W (32 * g + 24 + s) c : EReal) (-(wAt (F := Ideal) W (32 * g + 24 + s) c : EReal)))) := rfl
  rw [e, max4_le]
  constructor
  · rintro ⟨⟨h0, h1⟩, h2, h3⟩ b
    fin_cases b
    · exact h0
    · exact h1
    · exact h2
    · exact h3
  · intro h
    exact ⟨⟨h 0, h 1⟩, h 2, h 3⟩

theorem block_le (g c : ℕ) (x : EReal) : (blockMax (F := Ideal) W g c : EReal) ≤ x
    ↔ ∀ s : Fin 8, (partMax (F := Ideal) W g s.val c : EReal) ≤ x := by
  have e : (blockMax (F := Ideal) W g c : EReal) = max (max (max (max (max (max (max (partMax (F := Ideal) W g 0 c : EReal)
      (partMax (F := Ideal) W g 1 c : EReal)) (partMax (F := Ideal) W g 2 c : EReal)) (partMax (F := Ideal) W g 3 c : EReal))
      (partMax (F := Ideal) W g 4 c : EReal)) (partMax (F := Ideal) W g 5 c : EReal)) (partMax (F := Ideal) W g 6 c : EReal))
      (partMax (F := Ideal) W g 7 c : EReal) := rfl
  rw [e]
  simp only [max_le_iff]
  constructor
  · rintro ⟨⟨⟨⟨⟨⟨⟨h0, h1⟩, h2⟩, h3⟩, h4⟩, h5⟩, h6⟩, h7⟩ s
    fin_cases s
    · exact h0
    · exact h1
    · exact h2
    · exact h3
    · exact h4
    · exact h5
    · exact h6
    · exact h7
  · intro h
    exact ⟨⟨⟨⟨⟨⟨⟨h 0, h 1⟩, h 2⟩, h 3⟩, h 4⟩, h 5⟩, h 6⟩, h 7⟩

/-- A number bounds a block's maximum exactly when it bounds the magnitudes of its 32 tokens. -/
theorem block_tok (g c : ℕ) (x : EReal) : (blockMax (F := Ideal) W g c : EReal) ≤ x
    ↔ ∀ e : Fin 32, max (tok (F := Ideal) W (32 * g + e.val) c : EReal) (-(tok (F := Ideal) W (32 * g + e.val) c : EReal)) ≤ x := by
  rw [block_le]
  simp only [part_le]
  unfold tok
  constructor
  · intro h e
    have := h ⟨e.val / 4, by omega⟩ ⟨e.val % 4, by omega⟩
    have ee : 32 * ((32 * g + e.val) / 32) + 8 * ((32 * g + e.val) % 4) + (32 * g + e.val) % 32 / 4 = 32 * g + 8 * (e.val % 4) + e.val / 4 := by omega
    rw [ee]
    exact this
  · intro h s b
    have := h ⟨4 * s.val + b.val, by omega⟩
    have ee : 32 * ((32 * g + (4 * s.val + b.val)) / 32) + 8 * ((32 * g + (4 * s.val + b.val)) % 4) + (32 * g + (4 * s.val + b.val)) % 32 / 4
        = 32 * g + 8 * b.val + s.val := by omega
    simp only [ee] at this
    exact this

end Max

section Results
variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The reference is given the kernel's arguments. -/
structure SameArgs : Prop where
  a0 : (V0 (Proc.devRef .tc Cert.ReferenceIdeal.main_arg0) : Shape.Idx ⟨3, ![1, 6144, 16384]⟩ → EReal)
    = m ((c : Thread Cert.KernelIdeal.nD Cert.KernelIdeal.τ).loc Cert.KernelIdeal.main_arg0)
  a1 : (V0 (Proc.devRef .tc Cert.ReferenceIdeal.main_arg1) : Shape.Idx ⟨1, ![16]⟩ → EReal)
    = m ((c : Thread Cert.KernelIdeal.nD Cert.KernelIdeal.τ).loc Cert.KernelIdeal.main_arg1)
  a2 : (V0 (Proc.devRef .tc Cert.ReferenceIdeal.main_arg2) : Shape.Idx ⟨3, ![1, 16384, 6144]⟩ → BitVec 8)
    = m ((c : Thread Cert.KernelIdeal.nD Cert.KernelIdeal.τ).loc Cert.KernelIdeal.main_arg2)

variable {m c V0} (h : SameArgs m c V0)
include h

/-- The tile of channel `d` and token block `n`. -/
abbrev tileAt (m : (ℓ : Loc Cert.KernelIdeal.nD Cert.KernelIdeal.τ Cert.KernelIdeal.sig) → Buf (Elt Ideal) ℓ) (c : Dev Cert.KernelIdeal.nD) (d n : ℕ) :
    Cert.KernelIdeal.S256x256.Idx → Ideal .f32 :=
  tileB (F := Ideal) (Cert.KernelIdeal.Gen.iblk m c 0 (ptOf d)) (Cert.KernelIdeal.Gen.iblk m c 1 (ptOf d)) (kOf (n / 8))

/-- A token of the kernel's tile is the reference's element. -/
theorem tok_eq (d : Fin 16384) (n : Fin 192) (e : Fin 32) :
    (tok (F := Ideal) (tileAt m c d.val n.val) (32 * (n.val % 8) + e.val) (d.val % 256) : EReal) = wR V0 (ValueIdx.ix4 (0 : Fin 1) d n e) := by
  refine (ker_tok m c (ptOf d.val) (kOf (n.val / 8)) _ _ (by omega) (by omega)).trans ?_
  refine Eq.trans ?_ (ref_w V0 d n e).symm
  rw [h.a0, h.a1]
  have e1 : (ptOf d.val).val = d.val / 256 % 64 := rfl
  have e2 : (kOf (n.val / 8)).val = n.val / 8 % 24 := rfl
  have e3 : 256 * (ptOf d.val).val + d.val % 256 = d.val := by omega
  have e4 : 256 * (kOf (n.val / 8)).val + (32 * (n.val % 8) + e.val) = 32 * n.val + e.val := by omega
  rw [e3, e4]

/-- The kernel's block maximum is the reference's. -/
theorem max_eq (d : Fin 16384) (n : Fin 192) :
    (blockMax (F := Ideal) (tileAt m c d.val n.val) (n.val % 8) (d.val % 256) : EReal) = amaxR V0 (ValueIdx.ix3 (0 : Fin 1) d n) := by
  have key : ∀ x : EReal, (blockMax (F := Ideal) (tileAt m c d.val n.val) (n.val % 8) (d.val % 256) : EReal) ≤ x
      ↔ amaxR V0 (ValueIdx.ix3 (0 : Fin 1) d n) ≤ x := by
    intro x
    rw [block_tok, amax_le]
    simp only [tok_eq h]
  exact le_antisymm ((key _).2 le_rfl) ((key _).1 le_rfl)

theorem amAt_eq (d : Fin 16384) (n : Fin 192) :
    (amAt (F := Ideal) m c (ptOf d.val) (ValueIdx.ix2 n (Fin.ofNat 256 d.val)) : EReal) = amaxR V0 (ValueIdx.ix3 (0 : Fin 1) d n) := by
  rw [← max_eq h d n]
  rfl

/-- The first result. -/
theorem amax_agree (d : Fin 16384) (n : Fin 192) :
    (resAmax (F := Ideal) m c (ValueIdx.ix3 (0 : Fin 1) d n) : EReal) = amaxR V0 (ValueIdx.ix3 (0 : Fin 1) d n) := by
  rw [← amAt_eq h d n]
  show Cert.KernelIdeal.Gen.k0_pay408 (amAt (F := Ideal) m c (ptOf d.val)) (ValueIdx.ix3 (0 : Fin 1) (Fin.ofNat 256 d.val) n) = _
  unfold Cert.KernelIdeal.Gen.k0_pay408 Cert.KernelIdeal.Gen.k0_pay407
  pointwise
  rfl

omit h in
theorem scaleOf_apply (A : Vec Ideal Cert.KernelIdeal.S192x256 .f32) (j : Fin 256) (n : Fin 192) :
    Cert.Proof.KernelIdealRun.scaleOf A (ValueIdx.ix3 (0 : Fin 1) j n) = scaleByte (A (ValueIdx.ix2 n j)) := by
  have h : Cert.KernelIdeal.Gen.k0_pay407 A (ValueIdx.ix2 j n) = A (ValueIdx.ix2 n j) := by
    unfold Cert.KernelIdeal.Gen.k0_pay407
    pointwise
    rfl
  unfold Cert.Proof.KernelIdealRun.scaleOf Cert.KernelIdeal.Gen.k0_pay1
  refine (shapeCast_addUnit_apply _ _ _ _).trans ((congrArg (trunci (s := Cert.KernelIdeal.S256x192) 8 _ _)
    (Shape.idx_ext₂ rfl rfl : (fun a => ValueIdx.ix3 (0 : Fin 1) j n a.succ : Cert.KernelIdeal.S256x192.Idx) = ValueIdx.ix2 j n)).trans ?_)
  rw [← h]
  rfl

theorem scale_read (d : Fin 16384) (n : Fin 192) :
    resScale (F := Ideal) m c (ValueIdx.ix3 (0 : Fin 1) d n) = scaleByte (amaxR V0 (ValueIdx.ix3 (0 : Fin 1) d n)) := by
  rw [← amAt_eq h d n]
  exact scaleOf_apply _ _ _

omit h in
/-- A number between a power of two and the largest f32 is real and has an exponent field. -/
theorem real_of {a : EReal} (z : ℤ) (hz : -126 ≤ z) (h1 : (((2 : ℝ) ^ z : ℝ) : EReal) ≤ a) (h2 : a ≤ Ideal.ofBits .f32 0x7F7FFFFF#32) :
    ∃ (x : ℝ) (n : ℕ), a = (x : EReal) ∧ IsExp x n ∧ z ≤ (n : ℤ) - 127 := by
  have t : Ideal.ofBits .f32 0x7F7FFFFF#32 < (((2 : ℝ) ^ (128 : ℤ) : ℝ) : EReal) := by
    rw [FloatBits.below_bits 0x7F7FFFFF#32 255 (by norm_num) (by norm_num) (by decide), EReal.coe_lt_coe_iff]
    norm_num
  induction a with
  | bot => exact absurd (le_bot_iff.1 h1) (EReal.coe_ne_bot _)
  | top => exact absurd (lt_of_le_of_lt h2 t) (not_lt.2 le_top)
  | coe x =>
    have h3 : (2 : ℝ) ^ z ≤ x := EReal.coe_le_coe_iff.1 h1
    have h4 : x < (2 : ℝ) ^ (128 : ℤ) := EReal.coe_lt_coe_iff.1 (lt_of_le_of_lt h2 t)
    obtain ⟨n, hn⟩ := exists_exp x (le_trans (zpow_le_zpow_right₀ (by norm_num) hz) h3) h4
    exact ⟨x, n, rfl, hn, (pow_le_iff hn z).1 h3⟩

omit h in
theorem min_normal : Ideal.ofBits .f32 0x00800000#32 = (((2 : ℝ) ^ (-126 : ℤ) : ℝ) : EReal) := by
  rw [FloatBits.pow_bits 0x00800000#32 1 (by norm_num) (by norm_num) (by decide)]
  norm_num

/-- The third result, where the maximum is zero or a finite normal number. -/
theorem scale_agree (d : Fin 16384) (n : Fin 192) (h2 : amaxR V0 (ValueIdx.ix3 (0 : Fin 1) d n) ≤ Ideal.ofBits .f32 0x7F7FFFFF#32)
    (h1 : amaxR V0 (ValueIdx.ix3 (0 : Fin 1) d n) = 0 ∨ Ideal.ofBits .f32 0x00800000#32 ≤ amaxR V0 (ValueIdx.ix3 (0 : Fin 1) d n)) :
    resScale (F := Ideal) m c (ValueIdx.ix3 (0 : Fin 1) d n) = (IntOp.addi (expOf (amaxR V0 (ValueIdx.ix3 (0 : Fin 1) d n))) 127#32).setWidth 8 := by
  rw [scale_read h]
  rcases h1 with h1 | h1
  · rw [h1]; exact scale_zero
  · rw [min_normal] at h1
    obtain ⟨x, k, e, hk, -⟩ := real_of (-126) le_rfl h1 h2
    rw [e]; exact scale_pos hk

end Results

end Cert.Proof.Agree
-- ==== Proof.Mask.lean ====
/-
  The mask of the value claim, read in the reference's own arrays: which scales and which codes it selects.
-/
module

public import proofs.«01_k».proof.Proof.Agree
public import proofs.«01_k».proof.Proof.Gen.On_normal_and_untied

@[expose] public section

noncomputable section

namespace Cert.Proof.Mask

open Cert.ReferenceIdeal Cert.ReferenceIdeal.Value Cert.ReferenceIdeal.Gen
open Idealize.ShloMosaic Idealize.ShloMosaic.TcCoe Idealize.ShloMosaic.StableHlo
open Cert.Proof.Reads Cert.Proof.Exponent

section Arrays
variable {F : FTy → Type} [FloatOps F] (V0 : Valuation τ sig (Elt F))

/-- The mask's three arrays. -/
abbrev maskOf := Cert.On_normal_and_untied.fn (F := F) (V0 (Proc.devRef .tc main_arg0)) (V0 (Proc.devRef .tc main_arg1)) (V0 (Proc.devRef .tc main_arg2))

/-- The blocks with a maximum that is zero, or finite and from a number on. -/
abbrev blocksFrom (b : BitVec 32) (v42 : FVec F S1x16384x192 .f32) : IVec S1x16384x192 1 :=
  andi (cmpf .ole v42 (broadcastInDim S1x16384x192 ![] bcast_S_S1x16384x192 (constant (F := F) S_ .f32 0x7F7FFFFF#32)))
      (ori (cmpf .oeq v42 (broadcastInDim S1x16384x192 ![] bcast_S_S1x16384x192 (constant (F := F) S_ .f32 0x00000000#32)))
        (cmpf .oge v42 (broadcastInDim S1x16384x192 ![] bcast_S_S1x16384x192 (constant (F := F) S_ .f32 b))))

/-- The steps between the grid points around some magnitudes. -/
abbrev stepsOf (v71 : FVec F S1x16384x192x32 .f32) : FVec F S1x16384x192x32 .f32 :=
  select (cmpf .olt v71 (broadcastInDim S1x16384x192x32 ![] bcast_S_S1x16384x192x32 (constant (F := F) S_ .f32 0x40000000#32))) (broadcastInDim S1x16384x192x32 ![] bcast_S_S1x16384x192x32 (constant (F := F) S_ .f32 0x3F000000#32)) (select (cmpf .olt v71 (broadcastInDim S1x16384x192x32 ![] bcast_S_S1x16384x192x32 (constant (F := F) S_ .f32 0x40800000#32))) (broadcastInDim S1x16384x192x32 ![] bcast_S_S1x16384x192x32 (constant (F := F) S_ .f32 0x3F800000#32)) (broadcastInDim S1x16384x192x32 ![] bcast_S_S1x16384x192x32 (constant (F := F) S_ .f32 0x40000000#32)))

/-- The grid points below some magnitudes. -/
abbrev lowsOf (v71 : FVec F S1x16384x192x32 .f32) : FVec F S1x16384x192x32 .f32 :=
  mulf (Host.floor (Host.divf v71 (stepsOf v71))) (stepsOf v71)

/-- Where an element's code is told apart: below the threshold, or above it by 2^-14; and which blocks are coded. -/
def codeMask (a2 : IVec S1x16384x6144 8) (v42 : FVec F S1x16384x192 .f32) (v71 : FVec F S1x16384x192x32 .f32) : IVec S1x16384x192x32 1 :=
  andi (ori (cmpf .ole (mulf (Host.divf (subf v71 (lowsOf v71)) (stepsOf v71)) (broadcastInDim S1x16384x192x32 ![] bcast_S_S1x16384x192x32 (constant (F := F) S_ .f32 0x43800000#32)))
        (addf (sitofp .f32 (extui 32 (shapeCast _ a2 shapeCasts_S1x16384x6144_S1x16384x192x32) natLt_8_32)) (broadcastInDim S1x16384x192x32 ![] bcast_S_S1x16384x192x32 (constant (F := F) S_ .f32 0x3F000000#32))))
      (cmpf .oge (mulf (Host.divf (subf v71 (lowsOf v71)) (stepsOf v71)) (broadcastInDim S1x16384x192x32 ![] bcast_S_S1x16384x192x32 (constant (F := F) S_ .f32 0x43800000#32)))
        (addf (addf (sitofp .f32 (extui 32 (shapeCast _ a2 shapeCasts_S1x16384x6144_S1x16384x192x32) natLt_8_32)) (broadcastInDim S1x16384x192x32 ![] bcast_S_S1x16384x192x32 (constant (F := F) S_ .f32 0x3F000000#32))) (broadcastInDim S1x16384x192x32 ![] bcast_S_S1x16384x192x32 (constant (F := F) S_ .f32 0x38800000#32)))))
    (broadcastInDim S1x16384x192x32 ![0, 1, 2, 3] bcast_S1x16384x192x1_S1x16384x192x32_0_1_2_3 (broadcastInDim S1x16384x192x1 ![0, 1, 2] bcast_S1x16384x192_S1x16384x192x1_0_1_2
      (blocksFrom 0x01800000#32 v42)))

/-- A byte is selected when both its elements are. -/
abbrev pairMask (M : IVec S1x16384x192x32 1) : IVec S1x16384x3072 1 :=
  andi (shapeCast S1x16384x3072 (extractStridedSlice S1x16384x3072x1 ![0, 0, 0, 0] (shapeCast S1x16384x3072x2 M shapeCasts_S1x16384x192x32_S1x16384x3072x2) slices_S1x16384x3072x2_S1x16384x3072x1_0_0_0_0) shapeCasts_S1x16384x3072x1_S1x16384x3072)
    (shapeCast S1x16384x3072 (extractStridedSlice S1x16384x3072x1 ![0, 0, 0, 1] (shapeCast S1x16384x3072x2 M shapeCasts_S1x16384x192x32_S1x16384x3072x2) slices_S1x16384x3072x2_S1x16384x3072x1_0_0_0_1) shapeCasts_S1x16384x3072x1_S1x16384x3072)

/-! The mask's chain, cut where the reference's arrays are. -/

theorem chain1 : maskOf V0 = Cert.On_normal_and_untied.fn_part2 (V0 (Proc.devRef .tc main_arg0)) (V0 (Proc.devRef .tc main_arg2))
    (truncf .bf16 (mulf (mulf (broadcastInDim S16x16 ![] bcast_S_S16x16 (constant S_ .f32 0x3E800000#32)) (subf (broadcastInDim S16x16 ![] bcast_S_S16x16 (constant S_ .f32 0x3F800000#32)) (mulf (broadcastInDim S16x16 ![] bcast_S_S16x16 (constant S_ .f32 0x40000000#32)) (sitofp .f32 (andi (addi (addi (addi (andi (res_main_v6 V0) (broadcastInDim S16x16 ![] bcast_S_S16x16 (constantI S_ 32 1#32))) (andi (Host.shrsi (res_main_v6 V0) (broadcastInDim S16x16 ![] bcast_S_S16x16 (constantI S_ 32 1#32))) (broadcastInDim S16x16 ![] bcast_S_S16x16 (constantI S_ 32 1#32)))) (andi (Host.shrsi (res_main_v6 V0) (broadcastInDim S16x16 ![] bcast_S_S16x16 (constantI S_ 32 2#32))) (broadcastInDim S16x16 ![] bcast_S_S16x16 (constantI S_ 32 1#32)))) (andi (Host.shrsi (res_main_v6 V0) (broadcastInDim S16x16 ![] bcast_S_S16x16 (constantI S_ 32 3#32))) (broadcastInDim S16x16 ![] bcast_S_S16x16 (constantI S_ 32 1#32)))) (broadcastInDim S16x16 ![] bcast_S_S16x16 (constantI S_ 32 1#32))))))) (broadcastInDim S16x16 ![0, 1] bcast_S1x16_S16x16_0_1 (broadcastInDim S1x16 ![1] bcast_S16_S1x16_1 (V0 (Proc.devRef .tc main_arg1))))) bitsLt_bf16_f32) := rfl

theorem chain2 (a0 : FVec F S1x6144x16384 .bf16) (a2 : IVec S1x16384x6144 8) (v36 : FVec F S16x16 .bf16) :
    Cert.On_normal_and_untied.fn_part2 a0 a2 v36
      = (fun v40 : FVec F S1x16384x192x32 .f32 => (fun v42 : FVec F S1x16384x192 .f32 => Cert.On_normal_and_untied.fn_part3 a2 v40 v42
          (Host.reduce IntOp.addi (extui 32 (cmpf .oge (broadcastInDim S1x16384x192x277 ![0, 1, 2, 3] bcast_S1x16384x192x1_S1x16384x192x277_0_1_2_3 (broadcastInDim S1x16384x192x1 ![0, 1, 2] bcast_S1x16384x192_S1x16384x192x1_0_1_2 v42)) (broadcastInDim S1x16384x192x277 ![0, 1, 2, 3] bcast_S1x1x1x277_S1x16384x192x277_0_1_2_3 (broadcastInDim S1x1x1x277 ![3] bcast_S277_S1x1x1x277_3 (Host.powf (broadcastInDim S277 ![] bcast_S_S277 (constant S_ .f32 0x40000000#32)) (sitofp .f32 (addi (broadcastInDim S277 ![] bcast_S_S277 (constantI S_ 32 4294967147#32)) (iotaInDim S277 32 0))))))) natLt_1_32) (constantI S_ 32 0#32) reducesTo_S1x16384x192x277_S1x16384x192_d3 h_S_) (constantI S_ 32 149#32))
        (Host.reduce FloatOps.maximumf (Host.absf v40) (constant S_ .f32 0xFF800000#32) reducesTo_S1x16384x192x32_S1x16384x192_d3 h_S_))
        (shapeCast _ (transpose S1x16384x384x16 [1, 3, 2, 0] (Host.dotGeneral dot_S16x16_S1x384x16x16384_S16x1x384x16384_1_2_0_013_n_n none v36 (shapeCast _ a0 shapeCasts_S1x6144x16384_S1x384x16x16384)) transposes_S16x1x384x16384_S1x16384x384x16_1_3_2_0) shapeCasts_S1x16384x384x16_S1x16384x192x32) := rfl

theorem chain3 (a2 : IVec S1x16384x6144 8) (v40 : FVec F S1x16384x192x32 .f32) (v42 : FVec F S1x16384x192 .f32) (v55 : IVec S1x16384x192 32) (c : IVec S_ 32) :
    Cert.On_normal_and_untied.fn_part3 a2 v40 v42 v55 c
      = Cert.On_normal_and_untied.fn_part4 a2 v42 (Host.absf (minimumf (broadcastInDim S1x16384x192x32 ![] bcast_S_S1x16384x192x32 (id (constant S_ .f32 0x40C00000#32))) (maximumf (broadcastInDim S1x16384x192x32 ![] bcast_S_S1x16384x192x32 (id (constant S_ .f32 0xC0C00000#32))) (mulf v40 (broadcastInDim S1x16384x192x32 ![0, 1, 2, 3] bcast_S1x16384x192x1_S1x16384x192x32_0_1_2_3 (broadcastInDim S1x16384x192x1 ![0, 1, 2] bcast_S1x16384x192_S1x16384x192x1_0_1_2 (Host.powf (broadcastInDim S1x16384x192 ![] bcast_S_S1x16384x192 (constant S_ .f32 0x40000000#32)) (sitofp .f32 (negi
          (select (cmpf .ogt v42 (broadcastInDim S1x16384x192 ![] bcast_S_S1x16384x192 (constant S_ .f32 0x00000000#32))) (subi (subi v55 (broadcastInDim S1x16384x192 ![] bcast_S_S1x16384x192 c)) (broadcastInDim S1x16384x192 ![] bcast_S_S1x16384x192 (constantI S_ 32 3#32))) (broadcastInDim S1x16384x192 ![] bcast_S_S1x16384x192 (id (constantI S_ 32 0#32))))))))))))) (broadcastInDim S1x16384x192x32 ![] bcast_S_S1x16384x192x32 (constant (F := F) S_ .f32 0x40000000#32)) := rfl

theorem chain4 (a2 : IVec S1x16384x6144 8) (v42 : FVec F S1x16384x192 .f32) (v71 : FVec F S1x16384x192x32 .f32) :
    Cert.On_normal_and_untied.fn_part4 a2 v42 v71 (broadcastInDim S1x16384x192x32 ![] bcast_S_S1x16384x192x32 (constant (F := F) S_ .f32 0x40000000#32))
      = (cmpf .oeq v42 v42, pairMask (codeMask a2 v42 v71), blocksFrom 0x00800000#32 v42) := rfl

theorem chain34 : Cert.On_normal_and_untied.fn_part3 (V0 (Proc.devRef .tc main_arg2)) (res_main_v40 V0) (res_main_v42 V0)
      (Host.reduce IntOp.addi (extui 32 (cmpf .oge (broadcastInDim S1x16384x192x277 ![0, 1, 2, 3] bcast_S1x16384x192x1_S1x16384x192x277_0_1_2_3 (broadcastInDim S1x16384x192x1 ![0, 1, 2] bcast_S1x16384x192_S1x16384x192x1_0_1_2 (res_main_v42 V0))) (broadcastInDim S1x16384x192x277 ![0, 1, 2, 3] bcast_S1x1x1x277_S1x16384x192x277_0_1_2_3 (broadcastInDim S1x1x1x277 ![3] bcast_S277_S1x1x1x277_3 (Host.powf (broadcastInDim S277 ![] bcast_S_S277 (constant S_ .f32 0x40000000#32)) (sitofp .f32 (addi (broadcastInDim S277 ![] bcast_S_S277 (constantI S_ 32 4294967147#32)) (iotaInDim S277 32 0))))))) natLt_1_32) (constantI S_ 32 0#32) reducesTo_S1x16384x192x277_S1x16384x192_d3 h_S_) (constantI S_ 32 149#32)
    = Cert.On_normal_and_untied.fn_part4 (V0 (Proc.devRef .tc main_arg2)) (res_main_v42 V0) (res_main_v71 V0) (broadcastInDim S1x16384x192x32 ![] bcast_S_S1x16384x192x32 (constant (F := F) S_ .f32 0x40000000#32)) :=
by
  unfold res_main_v71 res_main_v70 res_main_v62
  exact chain3 _ _ _ _ _

theorem chain12 : maskOf V0 = Cert.On_normal_and_untied.fn_part3 (V0 (Proc.devRef .tc main_arg2)) (res_main_v40 V0) (res_main_v42 V0)
      (Host.reduce IntOp.addi (extui 32 (cmpf .oge (broadcastInDim S1x16384x192x277 ![0, 1, 2, 3] bcast_S1x16384x192x1_S1x16384x192x277_0_1_2_3 (broadcastInDim S1x16384x192x1 ![0, 1, 2] bcast_S1x16384x192_S1x16384x192x1_0_1_2 (res_main_v42 V0))) (broadcastInDim S1x16384x192x277 ![0, 1, 2, 3] bcast_S1x1x1x277_S1x16384x192x277_0_1_2_3 (broadcastInDim S1x1x1x277 ![3] bcast_S277_S1x1x1x277_3 (Host.powf (broadcastInDim S277 ![] bcast_S_S277 (constant S_ .f32 0x40000000#32)) (sitofp .f32 (addi (broadcastInDim S277 ![] bcast_S_S277 (constantI S_ 32 4294967147#32)) (iotaInDim S277 32 0))))))) natLt_1_32) (constantI S_ 32 0#32) reducesTo_S1x16384x192x277_S1x16384x192_d3 h_S_) (constantI S_ 32 149#32) :=
by
  unfold res_main_v42 res_main_v40
  exact (chain1 V0).trans (chain2 _ _ _)

/-- The mask, in the reference's arrays. -/
theorem mask_eq : maskOf V0 = (cmpf .oeq (res_main_v42 V0) (res_main_v42 V0),
    pairMask (codeMask (V0 (Proc.devRef .tc main_arg2)) (res_main_v42 V0) (res_main_v71 V0)), blocksFrom 0x00800000#32 (res_main_v42 V0)) :=
  (chain12 V0).trans ((chain34 V0).trans (chain4 _ _ _))

end Arrays

variable (V0 : Valuation τ sig (Elt Ideal))

theorem ole_iff (a b : EReal) : FloatOps.cmpf (F := Ideal) (φ := .f32) .ole a b = 1#1 ↔ a ≤ b := by
  show BitVec.ofBool (decide (a ≤ b)) = 1#1 ↔ _
  by_cases h : a ≤ b <;> simp [h]

theorem olt_iff (a b : EReal) : FloatOps.cmpf (F := Ideal) (φ := .f32) .olt a b = 1#1 ↔ a < b := by
  show BitVec.ofBool (decide (a < b)) = 1#1 ↔ _
  by_cases h : a < b <;> simp [h]

theorem oeq_iff (a b : EReal) : FloatOps.cmpf (F := Ideal) (φ := .f32) .oeq a b = 1#1 ↔ a = b := by
  show BitVec.ofBool (decide (a = b)) = 1#1 ↔ _
  by_cases h : a = b <;> simp [h]

theorem and_iff (a b : BitVec 1) : IntOp.andi a b = 1#1 ↔ a = 1#1 ∧ b = 1#1 := by
  revert a b; decide

theorem or_iff (a b : BitVec 1) : IntOp.ori a b = 1#1 ↔ a = 1#1 ∨ b = 1#1 := by
  revert a b; decide

/-- The scales' mask, as an array. -/
theorem scales_array : (maskOf (F := Ideal) V0).2.2 = blocksFrom (F := Ideal) 0x00800000#32 (res_main_v42 V0) := by
  rw [mask_eq]

/-- The codes' mask, as an array. -/
theorem codes_array : (maskOf (F := Ideal) V0).2.1
    = pairMask (codeMask (F := Ideal) (V0 (Proc.devRef .tc main_arg2)) (res_main_v42 V0) (res_main_v71 V0)) := by
  rw [mask_eq]

/-- The blocks with a maximum that is zero, or finite and from a number on, at an index. -/
theorem blocks_of (b : BitVec 32) (v42 : FVec Ideal S1x16384x192 .f32) (i : S1x16384x192.Idx) (h : blocksFrom (F := Ideal) b v42 i = 1#1) :
    (v42 i : EReal) ≤ Ideal.ofBits .f32 0x7F7FFFFF#32 ∧ ((v42 i : EReal) = 0 ∨ Ideal.ofBits .f32 b ≤ (v42 i : EReal)) := by
  have h' : IntOp.andi (FloatOps.cmpf (F := Ideal) (φ := .f32) .ole (v42 i) (FloatOps.ofBits .f32 0x7F7FFFFF#32))
      (IntOp.ori (FloatOps.cmpf (F := Ideal) (φ := .f32) .oeq (v42 i) (FloatOps.ofBits .f32 0x00000000#32))
        (FloatOps.cmpf (F := Ideal) (φ := .f32) .oge (v42 i) (FloatOps.ofBits .f32 b))) = 1#1 := h
  obtain ⟨h1, h2⟩ := (and_iff _ _).1 h'
  refine ⟨(ole_iff _ _).1 h1, ?_⟩
  rcases (or_iff _ _).1 h2 with h3 | h3
  · exact Or.inl (((oeq_iff _ _).1 h3).trans zero_bits)
  · exact Or.inr ((oge_iff _ _).1 h3)

/-- A block whose scale the mask selects is zero, or a finite normal number. -/
theorem scales_of (d : Fin 16384) (n : Fin 192) (h : (maskOf (F := Ideal) V0).2.2 (ValueIdx.ix3 (0 : Fin 1) d n) = 1#1) :
    amaxR V0 (ValueIdx.ix3 (0 : Fin 1) d n) ≤ Ideal.ofBits .f32 0x7F7FFFFF#32
      ∧ (amaxR V0 (ValueIdx.ix3 (0 : Fin 1) d n) = 0 ∨ Ideal.ofBits .f32 0x00800000#32 ≤ amaxR V0 (ValueIdx.ix3 (0 : Fin 1) d n)) := by
  rw [scales_array] at h
  exact blocks_of _ _ _ h

end Cert.Proof.Mask
-- ==== Proof.Elements.lean ====
/-
  What the reference's and the mask's arrays hold at an index, as functions of one element, its block's maximum and its
  random byte.
-/
module

public import proofs.«01_k».proof.Proof.Mask

@[expose] public section

noncomputable section

namespace Cert.Proof.Elements

open Cert.ReferenceIdeal Cert.ReferenceIdeal.Value Cert.ReferenceIdeal.Gen
open Idealize.ShloMosaic Idealize.ShloMosaic.TcCoe Idealize.ShloMosaic.StableHlo
open Cert.Proof.Reads Cert.Proof.Mask

/-! ## Pairs of elements -/

theorem pair0 {α : Type} (M : S1x16384x192x32.Idx → α) (d : Fin 16384) (p : Fin 3072) :
    shapeCast S1x16384x3072 (extractStridedSlice S1x16384x3072x1 ![0, 0, 0, 0] (shapeCast S1x16384x3072x2 M shapeCasts_S1x16384x192x32_S1x16384x3072x2) slices_S1x16384x3072x2_S1x16384x3072x1_0_0_0_0) shapeCasts_S1x16384x3072x1_S1x16384x3072 (ValueIdx.ix3 (0 : Fin 1) d p)
      = M (ValueIdx.ix4 (0 : Fin 1) d (⟨p.val / 16, by omega⟩ : Fin 192) (⟨p.val % 16 * 2, by omega⟩ : Fin 32)) := by
  pointwise
  rfl

theorem pair1 {α : Type} (M : S1x16384x192x32.Idx → α) (d : Fin 16384) (p : Fin 3072) :
    shapeCast S1x16384x3072 (extractStridedSlice S1x16384x3072x1 ![0, 0, 0, 1] (shapeCast S1x16384x3072x2 M shapeCasts_S1x16384x192x32_S1x16384x3072x2) slices_S1x16384x3072x2_S1x16384x3072x1_0_0_0_1) shapeCasts_S1x16384x3072x1_S1x16384x3072 (ValueIdx.ix3 (0 : Fin 1) d p)
      = M (ValueIdx.ix4 (0 : Fin 1) d (⟨p.val / 16, by omega⟩ : Fin 192) (⟨p.val % 16 * 2 + 1, by omega⟩ : Fin 32)) := by
  pointwise
  rfl

/-- The random bytes, by block. -/
theorem rand_read (A : IVec S1x16384x6144 8) (d : Fin 16384) (n : Fin 192) (e : Fin 32) :
    shapeCast S1x16384x192x32 A shapeCasts_S1x16384x6144_S1x16384x192x32 (ValueIdx.ix4 (0 : Fin 1) d n e)
      = A (ValueIdx.ix3 (0 : Fin 1) d (⟨n.val * 32 + e.val, by omega⟩ : Fin 6144)) := by
  pointwise
  rfl

/-- A block's bit, at an element. -/
theorem block_read {α : Type} (A : S1x16384x192.Idx → α) (d : Fin 16384) (n : Fin 192) (e : Fin 32) :
    broadcastInDim S1x16384x192x32 ![0, 1, 2, 3] bcast_S1x16384x192x1_S1x16384x192x32_0_1_2_3 (broadcastInDim S1x16384x192x1 ![0, 1, 2] bcast_S1x16384x192_S1x16384x192x1_0_1_2 A)
        (ValueIdx.ix4 (0 : Fin 1) d n e)
      = A (ValueIdx.ix3 (0 : Fin 1) d n) := by
  pointwise
  rfl

/-! ## One element -/

/-- The step of the grid at a magnitude. -/
def stepE (y : Ideal .f32) : Ideal .f32 :=
  Scalar.select (FloatOps.cmpf (F := Ideal) (φ := .f32) .olt y (FloatOps.ofBits .f32 0x40000000#32)) (FloatOps.ofBits (F := Ideal) .f32 0x3F000000#32)
    (Scalar.select (FloatOps.cmpf (F := Ideal) (φ := .f32) .olt y (FloatOps.ofBits .f32 0x40800000#32)) (FloatOps.ofBits (F := Ideal) .f32 0x3F800000#32)
      (FloatOps.ofBits (F := Ideal) .f32 0x40000000#32))

/-- The grid point below a magnitude. -/
def lowE (y : Ideal .f32) : Ideal .f32 :=
  FloatOps.mulf (F := Ideal) (φ := .f32) (Ideal.liftRound Int.floor (Ideal.div y (stepE y))) (stepE y)

/-- 256 times how far above it the magnitude lies. -/
def farE (y : Ideal .f32) : Ideal .f32 :=
  FloatOps.mulf (F := Ideal) (φ := .f32) (Ideal.div (FloatOps.subf (F := Ideal) (φ := .f32) y (lowE y)) (stepE y)) (FloatOps.ofBits .f32 0x43800000#32)

/-- The threshold of a random byte. -/
def thrE (r : BitVec 8) : Ideal .f32 :=
  FloatOps.addf (F := Ideal) (φ := .f32) (FloatOps.sitofp (F := Ideal) .f32 (r.setWidth 32)) (FloatOps.ofBits .f32 0x3F000000#32)

/-- The grid point a magnitude is brought to. -/
def gridE (y : Ideal .f32) (r : BitVec 8) : Ideal .f32 :=
  FloatOps.addf (F := Ideal) (φ := .f32) (lowE y)
    (FloatOps.mulf (F := Ideal) (φ := .f32) (stepE y) (FloatOps.uitofp (F := Ideal) .f32 (FloatOps.cmpf (F := Ideal) (φ := .f32) .olt (thrE r) (farE y))))

/-- A grid point's code. -/
def codeE (q : Ideal .f32) : BitVec 32 :=
  FloatOps.fptosi (F := Ideal) (φ := .f32) 32 (Scalar.select (FloatOps.cmpf (F := Ideal) (φ := .f32) .olt q (FloatOps.ofBits .f32 0x40000000#32))
    (FloatOps.mulf (F := Ideal) (φ := .f32) (FloatOps.ofBits .f32 0x40000000#32) q)
    (Scalar.select (FloatOps.cmpf (F := Ideal) (φ := .f32) .olt q (FloatOps.ofBits .f32 0x40800000#32))
      (FloatOps.addf (F := Ideal) (φ := .f32) q (FloatOps.ofBits .f32 0x40000000#32))
      (FloatOps.addf (F := Ideal) (φ := .f32) (FloatOps.mulf (F := Ideal) (φ := .f32) q (FloatOps.ofBits .f32 0x3F000000#32)) (FloatOps.ofBits .f32 0x40800000#32))))

/-- The scaled value, clipped to the grid's ends. -/
def scaledE (w : Ideal .f32) (s : BitVec 32) : Ideal .f32 :=
  FloatOps.minimumf (F := Ideal) (φ := .f32) (FloatOps.ofBits .f32 0x40C00000#32) (FloatOps.maximumf (F := Ideal) (φ := .f32) (FloatOps.ofBits .f32 0xC0C00000#32)
    (FloatOps.mulf (F := Ideal) (φ := .f32) w (Ideal.pow (Ideal.ofBits .f32 0x40000000#32) (FloatOps.sitofp (F := Ideal) .f32 (-s)))))

/-- A code with its sign. -/
def signedE (y : Ideal .f32) (q : BitVec 32) : BitVec 32 :=
  Scalar.select (IntOp.andi (FloatOps.cmpf (F := Ideal) (φ := .f32) .olt y (FloatOps.ofBits .f32 0x00000000#32)) (IntOp.cmpi .sgt q 0#32)) (IntOp.ori q 8#32) q

/-- An element's magnitude, from its scaled value. -/
def magE (y : Ideal .f32) : Ideal .f32 := FloatOps.hostAbsf (F := Ideal) (φ := .f32) y

variable (V0 : Valuation τ sig (Elt Ideal))

theorem v70_read (d : Fin 16384) (n : Fin 192) (e : Fin 32) :
    res_main_v70 (F := Ideal) V0 (ValueIdx.ix4 (0 : Fin 1) d n e)
      = scaledE (wR V0 (ValueIdx.ix4 (0 : Fin 1) d n e)) (expOf (amaxR V0 (ValueIdx.ix3 (0 : Fin 1) d n))) := by
  rw [← exp_eq V0 d n]
  unfold res_main_v70
  clean_types
  pointwise
  rfl

theorem v71_read (i : S1x16384x192x32.Idx) : res_main_v71 (F := Ideal) V0 i = magE (res_main_v70 (F := Ideal) V0 i) := rfl

theorem v77_read (i : S1x16384x192x32.Idx) : res_main_v77 (F := Ideal) V0 i = stepE (res_main_v71 (F := Ideal) V0 i) := by
  unfold res_main_v77
  rfl

theorem v80_read (i : S1x16384x192x32.Idx) : res_main_v80 (F := Ideal) V0 i = lowE (res_main_v71 (F := Ideal) V0 i) := by
  unfold lowE
  rw [← v77_read]
  unfold res_main_v80
  rfl

/-- The random byte of an element. -/
def randR (d : Fin 16384) (n : Fin 192) (e : Fin 32) : BitVec 8 :=
  (V0 (Proc.devRef .tc main_arg2) : S1x16384x6144.Idx → BitVec 8) (ValueIdx.ix3 (0 : Fin 1) d (⟨n.val * 32 + e.val, by omega⟩ : Fin 6144))

/-- The sum the grid point is, at an index. -/
theorem grid_apply (A B C : FVec Ideal S1x16384x192x32 .f32) (R : IVec S1x16384x192x32 8) (i : S1x16384x192x32.Idx) :
    addf C (mulf B (uitofp .f32 (cmpf .olt (addf (sitofp .f32 (extui 32 R natLt_8_32)) (broadcastInDim S1x16384x192x32 ![] bcast_S_S1x16384x192x32 (constant S_ .f32 0x3F000000#32))) (mulf (Host.divf (subf A C) B) (broadcastInDim S1x16384x192x32 ![] bcast_S_S1x16384x192x32 (constant S_ .f32 0x43800000#32)))))) i
      = FloatOps.addf (F := Ideal) (φ := .f32) (C i) (FloatOps.mulf (F := Ideal) (φ := .f32) (B i) (FloatOps.uitofp (F := Ideal) .f32 (FloatOps.cmpf (F := Ideal) (φ := .f32) .olt (thrE (R i))
          (FloatOps.mulf (F := Ideal) (φ := .f32) (Ideal.div (FloatOps.subf (F := Ideal) (φ := .f32) (A i) (C i)) (B i)) (FloatOps.ofBits .f32 0x43800000#32))))) := rfl

theorem v96_read (d : Fin 16384) (n : Fin 192) (e : Fin 32) :
    res_main_v96 (F := Ideal) V0 (ValueIdx.ix4 (0 : Fin 1) d n e)
      = gridE (res_main_v71 (F := Ideal) V0 (ValueIdx.ix4 (0 : Fin 1) d n e)) (randR V0 d n e) := by
  unfold gridE farE
  rw [← v77_read, ← v80_read]
  unfold res_main_v96 randR
  rw [← rand_read (V0 (Proc.devRef .tc main_arg2)) d n e]
  exact grid_apply _ _ _ _ _

theorem v111_read (i : S1x16384x192x32.Idx) : res_main_v111 (F := Ideal) V0 i = codeE (res_main_v96 (F := Ideal) V0 i) := by
  unfold res_main_v111
  rfl

/-- The elements' codes with their signs, before they are packed. -/
def codedOf (v70 : FVec Ideal S1x16384x192x32 .f32) (v111 : IVec S1x16384x192x32 32) : IVec S1x16384x192x32 32 :=
  select (andi (cmpf .olt v70 (broadcastInDim S1x16384x192x32 ![] bcast_S_S1x16384x192x32 (constant S_ .f32 0x00000000#32))) (cmpi .sgt v111 (broadcastInDim S1x16384x192x32 ![] bcast_S_S1x16384x192x32 (constantI S_ 32 0#32)))) (ori v111 (broadcastInDim S1x16384x192x32 ![] bcast_S_S1x16384x192x32 (constantI S_ 32 8#32))) v111

abbrev codedR : IVec S1x16384x192x32 32 := codedOf (res_main_v70 (F := Ideal) V0) (res_main_v111 (F := Ideal) V0)

theorem v120_eq : res_main_v120 (F := Ideal) V0 = shapeCast S1x16384x3072x2 (codedR V0) shapeCasts_S1x16384x192x32_S1x16384x3072x2 := by
  unfold res_main_v120 codedR codedOf
  rfl

theorem coded_apply (v70 : FVec Ideal S1x16384x192x32 .f32) (v111 : IVec S1x16384x192x32 32) (i : S1x16384x192x32.Idx) :
    codedOf v70 v111 i = signedE (v70 i) (v111 i) := rfl

theorem coded_read (i : S1x16384x192x32.Idx) :
    codedR V0 i = signedE (res_main_v70 (F := Ideal) V0 i) (res_main_v111 (F := Ideal) V0 i) := coded_apply _ _ _

/-- The code of an element, its block's maximum and its random byte. -/
def elemE (w : Ideal .f32) (a : EReal) (r : BitVec 8) : BitVec 32 :=
  signedE (scaledE w (expOf a)) (codeE (gridE (magE (scaledE w (expOf a))) r))

theorem elem_read (d : Fin 16384) (n : Fin 192) (e : Fin 32) :
    codedR V0 (ValueIdx.ix4 (0 : Fin 1) d n e)
      = elemE (wR V0 (ValueIdx.ix4 (0 : Fin 1) d n e)) (amaxR V0 (ValueIdx.ix3 (0 : Fin 1) d n)) (randR V0 d n e) := by
  rw [coded_read, v111_read, v96_read, v71_read, v70_read]
  rfl

/-- The mask of the codes, at an element. -/
theorem mask_read (a2 : IVec S1x16384x6144 8) (v42 : FVec Ideal S1x16384x192 .f32) (v71 : FVec Ideal S1x16384x192x32 .f32) (i : S1x16384x192x32.Idx) :
    codeMask (F := Ideal) a2 v42 v71 i
      = IntOp.andi (IntOp.ori (FloatOps.cmpf (F := Ideal) (φ := .f32) .ole (farE (v71 i)) (thrE (shapeCast S1x16384x192x32 a2 shapeCasts_S1x16384x6144_S1x16384x192x32 i)))
          (FloatOps.cmpf (F := Ideal) (φ := .f32) .oge (farE (v71 i)) (FloatOps.addf (F := Ideal) (φ := .f32) (thrE (shapeCast S1x16384x192x32 a2 shapeCasts_S1x16384x6144_S1x16384x192x32 i)) (FloatOps.ofBits .f32 0x38800000#32))))
        (broadcastInDim S1x16384x192x32 ![0, 1, 2, 3] bcast_S1x16384x192x1_S1x16384x192x32_0_1_2_3 (broadcastInDim S1x16384x192x1 ![0, 1, 2] bcast_S1x16384x192_S1x16384x192x1_0_1_2
          (blocksFrom (F := Ideal) 0x01800000#32 v42)) i) := rfl

/-- An element the mask selects. -/
structure Selected (a : EReal) (y : EReal) (r : BitVec 8) : Prop where
  fin : a ≤ Ideal.ofBits .f32 0x7F7FFFFF#32
  low : a = 0 ∨ Ideal.ofBits .f32 0x01800000#32 ≤ a
  apart : (farE y : EReal) ≤ thrE r ∨ (thrE r : EReal) + Ideal.ofBits .f32 0x38800000#32 ≤ farE y

theorem selected_of (d : Fin 16384) (n : Fin 192) (e : Fin 32)
    (h : codeMask (F := Ideal) (V0 (Proc.devRef .tc main_arg2)) (res_main_v42 V0) (res_main_v71 V0) (ValueIdx.ix4 (0 : Fin 1) d n e) = 1#1) :
    Selected (amaxR V0 (ValueIdx.ix3 (0 : Fin 1) d n)) (res_main_v71 (F := Ideal) V0 (ValueIdx.ix4 (0 : Fin 1) d n e)) (randR V0 d n e) := by
  rw [mask_read, block_read, rand_read] at h
  obtain ⟨h1, h2⟩ := (and_iff _ _).1 h
  obtain ⟨h3, h4⟩ := blocks_of _ _ _ h2
  refine ⟨h3, h4, ?_⟩
  rcases (or_iff _ _).1 h1 with h5 | h5
  · exact Or.inl ((ole_iff _ _).1 h5)
  · exact Or.inr ((oge_iff _ _).1 h5)

/-- A byte the mask selects: both its elements are selected. -/
theorem codes_of (d : Fin 16384) (p : Fin 3072) (h : (maskOf (F := Ideal) V0).2.1 (ValueIdx.ix3 (0 : Fin 1) d p) = 1#1) :
    (codeMask (F := Ideal) (V0 (Proc.devRef .tc main_arg2)) (res_main_v42 V0) (res_main_v71 V0) (ValueIdx.ix4 (0 : Fin 1) d (⟨p.val / 16, by omega⟩ : Fin 192) (⟨p.val % 16 * 2, by omega⟩ : Fin 32)) = 1#1)
    ∧ (codeMask (F := Ideal) (V0 (Proc.devRef .tc main_arg2)) (res_main_v42 V0) (res_main_v71 V0) (ValueIdx.ix4 (0 : Fin 1) d (⟨p.val / 16, by omega⟩ : Fin 192) (⟨p.val % 16 * 2 + 1, by omega⟩ : Fin 32)) = 1#1) := by
  rw [codes_array] at h
  obtain ⟨h1, h2⟩ := (and_iff _ _).1 h
  rw [pair0] at h1
  rw [pair1] at h2
  exact ⟨h1, h2⟩

end Cert.Proof.Elements
-- ==== Proof.Scalar.lean ====
/-
  One element.  The code the kernel finds for a number, its block's maximum and its random byte, and the code the reference
  finds, are one, where the mask selects the element.
-/
module

public import proofs.«01_k».proof.Proof.Nibbles
public import proofs.«01_k».proof.Proof.Elements

@[expose] public section

noncomputable section

namespace Cert.Proof.Scalar

open Idealize.ShloMosaic
open Cert.Proof.Weights Cert.Proof.Words Cert.Proof.Sites Cert.Proof.Nibbles Cert.Proof.Grid Cert.Proof.FloatBits Cert.Proof.Reads Cert.Proof.Exponent
open Cert.Proof.Mask Cert.Proof.Elements

/-! ## Exact operations on real numbers -/

theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm

theorem abs_coe (x : ℝ) : max (x : EReal) (-(x : EReal)) = ((|x| : ℝ) : EReal) := by
  rw [← EReal.coe_neg, max_coe]; rfl

theorem b_half : Ideal.ofBits .f32 0x3F000000#32 = ((1 / 2 : ℝ) : EReal) := by
  rw [pow_bits 0x3F000000#32 126 (by norm_num) (by norm_num) (by decide)]; norm_num
theorem b_one : Ideal.ofBits .f32 0x3F800000#32 = ((1 : ℝ) : EReal) := by
  rw [pow_bits 0x3F800000#32 127 (by norm_num) (by norm_num) (by decide)]; norm_num
theorem b_two : Ideal.ofBits .f32 0x40000000#32 = ((2 : ℝ) : EReal) := by
  rw [pow_bits 0x40000000#32 128 (by norm_num) (by norm_num) (by decide)]; norm_num
theorem b_four : Ideal.ofBits .f32 0x40800000#32 = ((4 : ℝ) : EReal) := by
  rw [pow_bits 0x40800000#32 129 (by norm_num) (by norm_num) (by decide)]; norm_num
theorem b_eight : Ideal.ofBits .f32 0x41000000#32 = ((8 : ℝ) : EReal) := by
  rw [pow_bits 0x41000000#32 130 (by norm_num) (by norm_num) (by decide)]; norm_num
theorem b_sixteen : Ideal.ofBits .f32 0x41800000#32 = ((16 : ℝ) : EReal) := by
  rw [pow_bits 0x41800000#32 131 (by norm_num) (by norm_num) (by decide)]; norm_num
theorem b_256 : Ideal.ofBits .f32 0x43800000#32 = ((256 : ℝ) : EReal) := by
  rw [pow_bits 0x43800000#32 135 (by norm_num) (by norm_num) (by decide)]; norm_num
theorem b_margin : Ideal.ofBits .f32 0x38800000#32 = ((1 / 16384 : ℝ) : EReal) := by
  rw [pow_bits 0x38800000#32 113 (by norm_num) (by norm_num) (by decide)]; norm_num
theorem b_knee : Ideal.ofBits .f32 0x3FFFFFFF#32 = ((2 - 1 / 8388608 : ℝ) : EReal) := by
  rw [below_bits 0x3FFFFFFF#32 128 (by norm_num) (by norm_num) (by decide)]; norm_num
theorem b_six : Ideal.ofBits .f32 0x40C00000#32 = ((6 : ℝ) : EReal) := by
  rw [normal_bits 0x40C00000#32 129 4194304 (by norm_num) (by norm_num) (by norm_num) (by decide)]; norm_num
theorem b_negsix : Ideal.ofBits .f32 0xC0C00000#32 = ((-6 : ℝ) : EReal) := by
  have e1 : (BitVec.extractLsb' 23 8 (0xC0C00000#32 : BitVec 32)).toNat = 129 := by decide
  have e2 : (BitVec.extractLsb' 0 23 (0xC0C00000#32 : BitVec 32)).toNat = 4194304 := by decide
  have e3 : (BitVec.extractLsb' (8 + 23) 1 (0xC0C00000#32 : BitVec 32) == 1#1) = true := by decide
  show Ideal.ieee 8 23 (0xC0C00000#32 : BitVec 32) = _
  unfold Ideal.ieee
  simp only [e1, e2, e3]
  norm_num

theorem fptosi_coe (x : ℝ) (h0 : 0 ≤ x) (h1 : x < 2147483647) :
    FloatOps.fptosi (F := Ideal) (φ := .f32) 32 (x : EReal) = BitVec.ofInt 32 ⌊x⌋ := by
  have a : (0 : ℤ) ≤ ⌊x⌋ := Int.floor_nonneg.2 h0
  have b : ⌊x⌋ < 2147483647 := Int.floor_lt.2 (by push_cast; exact h1)
  show BitVec.ofInt 32 (Ideal.toIntClamped (-(2 ^ (32 - 1) : ℕ)) ((2 ^ (32 - 1) : ℕ) - 1) (x : EReal)) = _
  rw [Ideal.toIntClamped_coe, if_pos h0]
  congr 1
  norm_num
  omega

/-! ## The kernel's nibble -/

theorem oge_coe (x y : ℝ) : FloatOps.cmpf (F := Ideal) (φ := .f32) .oge (x : EReal) (y : EReal) = 1#1 ↔ y ≤ x :=
  (oge_iff _ _).trans EReal.coe_le_coe_iff

/-- What the kernel reads off `z`. -/
theorem top_eq (z : ℝ) (h1 : 1 ≤ z) (h32 : z < 32) : top (F := Ideal) (z : EReal) = BitVec.ofInt 32 (131072 + ⌊posZ z⌋) := by
  have key : ∀ (e b s : BitVec 32) (E : ℤ) (q : ℝ) (k : ℤ), exOf (F := Ideal) (z : EReal) = e →
      IntOp.shli .vector (IntOp.subi 264#32 e) 23#32 = b → Ideal.ofBits .f32 b = ((q : ℝ) : EReal) →
      IntOp.shli .vector (IntOp.subi e 1#32) 10#32 = s → s = BitVec.ofInt 32 E → 0 ≤ q → q ≤ 1024 →
      posZ z = q * z + (k : ℤ) → E = 131072 + k → top (F := Ideal) (z : EReal) = BitVec.ofInt 32 (131072 + ⌊posZ z⌋) := by
    intro e b s E q k he hb hq hs hE h0 h4 hp hk
    unfold top
    rw [he, hb, hs, hE]
    show BitVec.ofInt 32 E + FloatOps.fptosi (F := Ideal) (φ := .f32) 32 ((z : EReal) * Ideal.ofBits .f32 b) = _
    rw [hq, ← EReal.coe_mul, fptosi_coe _ (mul_nonneg (by linarith) h0) (by nlinarith), ← BitVec.ofInt_add, hp, Int.floor_add_intCast, hk, mul_comm z q]
    congr 1
    ring
  have c8 := oge_coe z 8
  have c16 := oge_coe z 16
  have c4 := oge_coe z 4
  have c2 := oge_coe z 2
  rw [← b_eight] at c8
  rw [← b_sixteen] at c16
  rw [← b_four] at c4
  rw [← b_two] at c2
  have ex : ∀ e, exOf (F := Ideal) (z : EReal) = e ↔ Scalar.select (FloatOps.cmpf (F := Ideal) (φ := .f32) .oge (z : EReal) (Ideal.ofBits .f32 0x41000000#32))
    (Scalar.select (FloatOps.cmpf (F := Ideal) (φ := .f32) .oge (z : EReal) (Ideal.ofBits .f32 0x41800000#32)) 131#32 130#32)
    (Scalar.select (FloatOps.cmpf (F := Ideal) (φ := .f32) .oge (z : EReal) (Ideal.ofBits .f32 0x40800000#32)) 129#32
      (Scalar.select (FloatOps.cmpf (F := Ideal) (φ := .f32) .oge (z : EReal) (Ideal.ofBits .f32 0x40000000#32)) 128#32 127#32)) = e := fun e => Iff.rfl
  rcases lt_or_ge z 2 with h | h
  · refine key 127#32 (BitVec.ofNat 32 (137 * 8388608)) 129024#32 129024 1024 (-2048) ?_ (by decide) ?_ (by decide) (by decide) (by norm_num) (by norm_num) ?_ (by norm_num)
    · rw [ex, sel_not (fun hh => by have := c8.1 hh; linarith), sel_not (fun hh => by have := c4.1 hh; linarith), sel_not (fun hh => by have := c2.1 hh; linarith)]
    · rw [pow_bits _ 137 (by norm_num) (by norm_num) (by decide)]; norm_num
    · unfold posZ; rw [if_pos h]; push_cast; ring
  rcases lt_or_ge z 4 with h' | h'
  · refine key 128#32 (BitVec.ofNat 32 (136 * 8388608)) 130048#32 130048 512 (-1024) ?_ (by decide) ?_ (by decide) (by decide) (by norm_num) (by norm_num) ?_ (by norm_num)
    · rw [ex, sel_not (fun hh => by have := c8.1 hh; linarith), sel_not (fun hh => by have := c4.1 hh; linarith), sel_one (c2.2 h)]
    · rw [pow_bits _ 136 (by norm_num) (by norm_num) (by decide)]; norm_num
    · unfold posZ; rw [if_neg (by linarith), if_pos h']; push_cast; ring
  rcases lt_or_ge z 8 with h'' | h''
  · refine key 129#32 (BitVec.ofNat 32 (135 * 8388608)) 131072#32 131072 256 0 ?_ (by decide) ?_ (by decide) (by decide) (by norm_num) (by norm_num) ?_ (by norm_num)
    · rw [ex, sel_not (fun hh => by have := c8.1 hh; linarith), sel_one (c4.2 h')]
    · rw [pow_bits _ 135 (by norm_num) (by norm_num) (by decide)]; norm_num
    · unfold posZ; rw [if_neg (by linarith), if_neg (by linarith), if_pos h'']; push_cast; ring
  rcases lt_or_ge z 16 with h3 | h3
  · refine key 130#32 (BitVec.ofNat 32 (134 * 8388608)) 132096#32 132096 128 1024 ?_ (by decide) ?_ (by decide) (by decide) (by norm_num) (by norm_num) ?_ (by norm_num)
    · rw [ex, sel_one (c8.2 h''), sel_not (fun hh => by have := c16.1 hh; linarith)]
    · rw [pow_bits _ 134 (by norm_num) (by norm_num) (by decide)]; norm_num
    · unfold posZ; rw [if_neg (by linarith), if_neg (by linarith), if_neg (by linarith), if_pos h3]; push_cast; ring
  · refine key 131#32 (BitVec.ofNat 32 (133 * 8388608)) 133120#32 133120 64 2048 ?_ (by decide) ?_ (by decide) (by decide) (by norm_num) (by norm_num) ?_ (by norm_num)
    · rw [ex, sel_one (c8.2 h''), sel_one (c16.2 h3)]
    · rw [pow_bits _ 133 (by norm_num) (by norm_num) (by decide)]; norm_num
    · unfold posZ; rw [if_neg (by linarith), if_neg (by linarith), if_neg (by linarith), if_neg (by linarith)]; push_cast; ring

theorem rnd_nat : ∀ r : BitVec 8, (rnd r).toNat = 65025 + 2 * r.toNat := by decide +kernel

/-- The kernel's nibble holds its code. -/
theorem nib_eq (x : ℝ) (h0 : 0 ≤ x) (h8 : x < 8) (r : BitVec 8) :
    ((top (F := Ideal) ((zR x : ℝ) : EReal)).setWidth 16 - rnd r).extractLsb' 9 4 = BitVec.ofNat 4 (kIdx x r.toNat).toNat := by
  obtain ⟨z1, z2⟩ := zR_bounds x h0 h8
  obtain ⟨p1, p2⟩ := posZ_bounds x h0 h8
  have h3 := pos_nonneg x h0
  have h4 := pos_lt x h8
  have a : (-1 : ℤ) ≤ ⌊posZ (zR x)⌋ := Int.le_floor.2 (by push_cast; norm_num at p2; linarith)
  have b : ⌊posZ (zR x)⌋ < 4096 := Int.floor_lt.2 (by push_cast; linarith)
  rw [top_eq _ z1 z2]
  unfold kIdx
  generalize ⌊posZ (zR x)⌋ = P at a b
  obtain ⟨Q, hQ⟩ : ∃ Q : ℕ, (Q : ℤ) = 131072 + P := ⟨(131072 + P).toNat, by omega⟩
  rw [← hQ, BitVec.ofInt_natCast]
  have hr := r.isLt
  apply BitVec.eq_of_toNat_eq
  rw [BitVec.extractLsb'_toNat, BitVec.toNat_sub, rnd_nat, BitVec.toNat_setWidth, BitVec.toNat_ofNat, BitVec.toNat_ofNat, Nat.shiftRight_eq_div_pow]
  norm_num
  omega

/-! ## The reference's code -/

theorem olt_coe (x y : ℝ) : FloatOps.cmpf (F := Ideal) (φ := .f32) .olt (x : EReal) (y : EReal) = 1#1 ↔ x < y :=
  (olt_iff _ _).trans EReal.coe_lt_coe_iff

theorem sel_coe {α : Type} (x y : ℝ) (a b : α) :
    Scalar.select (FloatOps.cmpf (F := Ideal) (φ := .f32) .olt (x : EReal) (y : EReal)) a b = if x < y then a else b := by
  by_cases h : x < y
  · rw [if_pos h, sel_one ((olt_coe x y).2 h)]
  · rw [if_neg h, sel_not (fun hh => h ((olt_coe x y).1 hh))]

theorem stepE_coe (x : ℝ) : (stepE (x : EReal) : EReal) = ((stepR x : ℝ) : EReal) := by
  show Scalar.select (FloatOps.cmpf (F := Ideal) (φ := .f32) .olt (x : EReal) (Ideal.ofBits .f32 0x40000000#32)) (Ideal.ofBits .f32 0x3F000000#32)
    (Scalar.select (FloatOps.cmpf (F := Ideal) (φ := .f32) .olt (x : EReal) (Ideal.ofBits .f32 0x40800000#32)) (Ideal.ofBits .f32 0x3F800000#32)
      (Ideal.ofBits .f32 0x40000000#32)) = _
  rw [b_two, b_half, b_four, b_one, sel_coe, sel_coe]
  unfold stepR
  split_ifs <;> rfl

theorem step_ne (x : ℝ) : stepR x ≠ 0 := by
  unfold stepR; split_ifs <;> norm_num

theorem lowE_coe (x : ℝ) : (lowE (x : EReal) : EReal) = ((loR x : ℝ) : EReal) := by
  show Ideal.liftRound Int.floor (Ideal.div (x : EReal) (stepE (x : EReal) : EReal)) * (stepE (x : EReal) : EReal) = _
  rw [stepE_coe, Ideal.div_coe (step_ne x), ← EReal.coe_mul, Ideal.liftRound_coe, ← EReal.coe_mul, mul_one_div]
  rfl

theorem farE_coe (x : ℝ) : (farE (x : EReal) : EReal) = ((fracR x * 256 : ℝ) : EReal) := by
  show Ideal.div ((x : EReal) - (lowE (x : EReal) : EReal)) (stepE (x : EReal) : EReal) * Ideal.ofBits .f32 0x43800000#32 = _
  rw [lowE_coe, stepE_coe, b_256, ← EReal.coe_sub, Ideal.div_coe (step_ne x), ← EReal.coe_mul, ← EReal.coe_mul, mul_one_div]
  rfl

theorem thrE_coe (r : BitVec 8) : (thrE r : EReal) = (((r.toNat : ℝ) + 1 / 2 : ℝ) : EReal) := by
  have e : ∀ r : BitVec 8, (r.setWidth 32).toInt = (r.toNat : ℤ) := by decide +kernel
  show (((r.setWidth 32).toInt : ℝ) : EReal) + Ideal.ofBits .f32 0x3F000000#32 = _
  rw [b_half, e, ← EReal.coe_add]
  push_cast
  rfl

/-- Whether the reference rounds up. -/
def upR (x : ℝ) (r : ℕ) : ℕ := if (r : ℝ) + 1 / 2 < fracR x * 256 then 1 else 0

theorem gridE_coe (x : ℝ) (r : BitVec 8) : (gridE (x : EReal) r : EReal) = ((loR x + stepR x * (upR x r.toNat : ℕ) : ℝ) : EReal) := by
  have e : (FloatOps.uitofp (F := Ideal) .f32 (FloatOps.cmpf (F := Ideal) (φ := .f32) .olt (thrE r) (farE (x : EReal))) : EReal) = (((upR x r.toNat : ℕ) : ℝ) : EReal) := by
    have h := olt_coe ((r.toNat : ℝ) + 1 / 2) (fracR x * 256)
    rw [← thrE_coe, ← farE_coe] at h
    show (((FloatOps.cmpf (F := Ideal) (φ := .f32) .olt (thrE r) (farE (x : EReal))).toNat : ℝ) : EReal) = _
    unfold upR
    by_cases hc : (r.toNat : ℝ) + 1 / 2 < fracR x * 256
    · rw [h.2 hc, if_pos hc]; rfl
    · have : ∀ b : BitVec 1, ¬ b = 1#1 → b = 0#1 := by decide
      rw [this _ (fun hh => hc (h.1 hh)), if_neg hc]; rfl
  show (lowE (x : EReal) : EReal) + (stepE (x : EReal) : EReal) * (FloatOps.uitofp (F := Ideal) .f32 (FloatOps.cmpf (F := Ideal) (φ := .f32) .olt (thrE r) (farE (x : EReal))) : EReal) = _
  rw [e, lowE_coe, stepE_coe, ← EReal.coe_mul, ← EReal.coe_add]

theorem codeE_coe (q : ℝ) (k : ℕ) (hk : k ≤ 8) (h : codeR q = k) : codeE (q : EReal) = BitVec.ofNat 32 k := by
  have e : codeE (q : EReal) = FloatOps.fptosi (F := Ideal) (φ := .f32) 32 ((codeR q : ℝ) : EReal) := by
    show FloatOps.fptosi (F := Ideal) (φ := .f32) 32 (Scalar.select (FloatOps.cmpf (F := Ideal) (φ := .f32) .olt (q : EReal) (Ideal.ofBits .f32 0x40000000#32))
      (Ideal.ofBits .f32 0x40000000#32 * (q : EReal))
      (Scalar.select (FloatOps.cmpf (F := Ideal) (φ := .f32) .olt (q : EReal) (Ideal.ofBits .f32 0x40800000#32))
        ((q : EReal) + Ideal.ofBits .f32 0x40000000#32) ((q : EReal) * Ideal.ofBits .f32 0x3F000000#32 + Ideal.ofBits .f32 0x40800000#32))) = _
    rw [b_two, b_half, b_four, sel_coe, sel_coe]
    congr 1
    unfold codeR
    split_ifs
    · rw [EReal.coe_mul]
    · rw [EReal.coe_add]
    · rw [EReal.coe_add, EReal.coe_mul]
  have hk' : (k : ℝ) ≤ 8 := by exact_mod_cast hk
  rw [e, h, fptosi_coe _ (Nat.cast_nonneg k) (by linarith), Int.floor_natCast, BitVec.ofInt_natCast]

theorem pos_top (x : ℝ) (h6 : x ≤ 6) : pos x ≤ 7 := by
  unfold pos; split_ifs <;> linarith

/-- The reference's code of a magnitude. -/
def idxR (x : ℝ) (r : ℕ) : ℕ := ⌊pos x⌋.toNat + upR x r

theorem idxR_le (x : ℝ) (h0 : 0 ≤ x) (h6 : x ≤ 6) (r : ℕ) : idxR x r ≤ 7 := by
  have a := pos_top x h6
  have b : ⌊pos x⌋ ≤ 7 := by exact_mod_cast Int.floor_le_floor a |>.trans (by norm_num)
  unfold idxR upR
  split_ifs with h
  · have c : ⌊pos x⌋ < 7 := by
      rcases lt_or_eq_of_le b with c | c
      · exact c
      · exfalso
        rw [fracR_eq, c] at h
        push_cast at h
        have : (0 : ℝ) ≤ r := Nat.cast_nonneg r
        linarith
    omega
  · omega

theorem code_eq (x : ℝ) (h0 : 0 ≤ x) (h6 : x ≤ 6) (r : BitVec 8) : codeE (gridE (x : EReal) r) = BitVec.ofNat 32 (idxR x r.toNat) := by
  have hu : upR x r.toNat ≤ 1 := by unfold upR; split_ifs <;> omega
  have hp : 0 ≤ ⌊pos x⌋ := Int.floor_nonneg.2 (pos_nonneg x h0)
  have e := codeR_eq x h0 h6 _ hu
  have e' : codeE ((loR x + stepR x * (upR x r.toNat : ℕ) : ℝ) : EReal) = BitVec.ofNat 32 (idxR x r.toNat) := by
    refine codeE_coe _ _ (by have := idxR_le x h0 h6 r.toNat; omega) ?_
    rw [e]
    unfold idxR
    have : ((⌊pos x⌋.toNat : ℕ) : ℝ) = (⌊pos x⌋ : ℝ) := by
      have h : ((⌊pos x⌋.toNat : ℕ) : ℤ) = ⌊pos x⌋ := Int.toNat_of_nonneg hp
      exact_mod_cast congrArg (fun z : ℤ => (z : ℝ)) h
    push_cast
    rw [this]
  rw [← e', ← gridE_coe]

/-! ## The two codes -/

/-- The two codes are one where the mask tells them apart, but for the top code, which the kernel still brings down. -/
theorem idx_agree (v : ℝ) (h0 : 0 ≤ v) (h8 : v < 8) (r : BitVec 8)
    (h : fracR (min v 6) * 256 ≤ (r.toNat : ℝ) + 1 / 2 ∨ (r.toNat : ℝ) + 1 / 2 + 1 / 16384 ≤ fracR (min v 6) * 256) :
    (kIdx v r.toNat).toNat = idxR (min v 6) r.toNat ∨ ((kIdx v r.toNat).toNat = 8 ∧ idxR (min v 6) r.toNat = 7) := by
  have hr := r.isLt
  rcases le_or_gt v 6 with h6 | h6
  · left
    rw [min_eq_left h6] at h ⊢
    obtain ⟨k, hk⟩ : ∃ k : ℕ, ⌊pos v⌋ = k := ⟨⌊pos v⌋.toNat, (Int.toNat_of_nonneg (Int.floor_nonneg.2 (pos_nonneg v h0))).symm⟩
    have hf : fracR v = pos v - k := by rw [fracR_eq, hk]; push_cast; rfl
    unfold idxR upR
    rw [hk, hf]
    rw [hf] at h
    rcases h with h | h
    · rw [kIdx_down v h0 h8 r.toNat k hr hk h, if_neg (not_lt.2 h)]; simp
    · rw [kIdx_up v h0 h8 r.toNat k hr hk h, if_pos (by linarith)]
      omega
  · rw [min_eq_right h6.le]
    have hp : pos 6 = 7 := by unfold pos; norm_num
    have hi : idxR 6 r.toNat = 7 := by
      unfold idxR upR
      rw [fracR_eq, hp]
      have : (0 : ℝ) ≤ r.toNat := Nat.cast_nonneg _
      rw [if_neg (by norm_num; linarith)]
      norm_num
      rfl
    rcases kIdx_top v h6.le h8 r.toNat hr with e | e <;> rw [e, hi] <;> simp

/-- A code's four bits, with the sign. -/
def bits4 (k : ℕ) (neg : Bool) : ℕ := if neg && decide (0 < k) then k + 8 else k

theorem fin4_eq (k i : ℕ) (neg : Bool) (hi : i ≤ 7) (h : k = i ∨ (k = 8 ∧ i = 7)) :
    fin4 (BitVec.ofNat 4 k) (if neg then 8#4 else 0#4) = BitVec.ofNat 4 (bits4 i neg) := by
  have : ∀ i : Fin 8, ∀ neg : Bool, fin4 (BitVec.ofNat 4 i.val) (if neg then 8#4 else 0#4) = BitVec.ofNat 4 (bits4 i.val neg) := by decide
  rcases h with h | ⟨h, h'⟩
  · subst h; exact this ⟨k, by omega⟩ neg
  · subst h; subst h'; revert neg; decide

theorem signed_eq (y : EReal) (i : ℕ) (hi : i ≤ 7) :
    signedE y (BitVec.ofNat 32 i) = BitVec.ofNat 32 (bits4 i (decide (y < 0))) := by
  have hs : ∀ (c : BitVec 1) (i : Fin 8), Scalar.select (IntOp.andi c (IntOp.cmpi .sgt (BitVec.ofNat 32 i.val) 0#32)) (IntOp.ori (BitVec.ofNat 32 i.val) 8#32) (BitVec.ofNat 32 i.val)
      = BitVec.ofNat 32 (bits4 i.val (c == 1#1)) := by decide
  unfold signedE
  refine (hs _ ⟨i, by omega⟩).trans ?_
  congr 2
  have h := olt_iff y (FloatOps.ofBits (F := Ideal) .f32 0x00000000#32)
  rw [zero_bits] at h
  rw [zero_bits]
  by_cases hy : y < 0
  · rw [h.2 hy, decide_eq_true hy]; rfl
  · rw [decide_eq_false hy]
    exact beq_false_of_ne (fun e => hy (h.1 e))

theorem sgn_eq (w : EReal) : sgn (F := Ideal) w = if decide (w < 0) then 8#4 else 0#4 := by
  have h := olt_iff w (FloatOps.ofBits (F := Ideal) .f32 0x00000000#32)
  unfold sgn
  rw [zero_bits] at h
  rw [zero_bits]
  by_cases hy : w < 0
  · rw [sel_one (h.2 hy), decide_eq_true hy]; rfl
  · rw [sel_not (fun e => hy (h.1 e)), decide_eq_false hy]; rfl

/-! ## Scaling -/

theorem zOf_coe (iv w : ℝ) : (zOf (F := Ideal) (iv : EReal) (w : EReal) : EReal) = ((|w| * iv + max (|w| * iv) (2 - 1 / 8388608) : ℝ) : EReal) := by
  show max (w : EReal) (-(w : EReal)) * (iv : EReal) + max (max (w : EReal) (-(w : EReal)) * (iv : EReal)) (Ideal.ofBits .f32 0x3FFFFFFF#32) = _
  rw [abs_coe, b_knee, ← EReal.coe_mul, max_coe, ← EReal.coe_add]

theorem scaledE_coe (w κ : ℝ) (s : BitVec 32) (hκ : Ideal.pow (Ideal.ofBits .f32 0x40000000#32) (((-s).toInt : ℝ) : EReal) = ((κ : ℝ) : EReal)) :
    (scaledE (w : EReal) s : EReal) = ((min 6 (max (-6) (w * κ)) : ℝ) : EReal) := by
  show min (Ideal.ofBits .f32 0x40C00000#32) (max (Ideal.ofBits .f32 0xC0C00000#32) ((w : EReal) * Ideal.pow (Ideal.ofBits .f32 0x40000000#32) (((-s).toInt : ℝ) : EReal))) = _
  rw [hκ, b_six, b_negsix, ← EReal.coe_mul, max_coe, min_coe]

/-- What the block's maximum makes of a number of the block. -/
structure Scaled (a w : EReal) (v : ℝ) : Prop where
  lt : |v| < 8
  z : (zOf (F := Ideal) (invOf (F := Ideal) a) w : EReal) = ((zR |v| : ℝ) : EReal)
  y : (scaledE w (expOf a) : EReal) = ((min 6 (max (-6) v) : ℝ) : EReal)
  neg : w < 0 ↔ v < 0

theorem neg_exp : ∀ n : Fin 255, (-(BitVec.ofNat 32 n.val - 129#32)).toInt = 129 - (n.val : ℤ) := by decide +kernel

theorem scaled_pos (x : ℝ) (n : ℕ) (h : IsExp x n) (h3 : 3 ≤ n) (w : EReal) (hw : max w (-w) ≤ (x : EReal)) : ∃ v : ℝ, Scaled (x : EReal) w v := by
  obtain ⟨hw1, hw2⟩ := max_le_iff.1 hw
  induction w with
  | bot => exact absurd (top_le_iff.1 hw2) (EReal.coe_ne_top x)
  | top => exact absurd (top_le_iff.1 hw1) (EReal.coe_ne_top x)
  | coe w =>
    rw [abs_coe, EReal.coe_le_coe_iff] at hw
    have hn := h.2.1
    have hκ : (0 : ℝ) < (2 : ℝ) ^ (129 - (n : ℤ)) := by positivity
    have e1 : (2 : ℝ) ^ (130 - (n : ℤ)) = 2 * (2 : ℝ) ^ (129 - (n : ℤ)) := by
      rw [show 130 - (n : ℤ) = 1 + (129 - (n : ℤ)) by ring, zpow_add₀ (by norm_num), zpow_one]
    have habs : |w * (2 : ℝ) ^ (129 - (n : ℤ))| = |w| * (2 : ℝ) ^ (129 - (n : ℤ)) := by rw [abs_mul, abs_of_pos hκ]
    refine ⟨w * (2 : ℝ) ^ (129 - (n : ℤ)), ?_, ?_, ?_, ?_⟩
    · rw [habs]
      have e8 : (2 : ℝ) ^ ((n : ℤ) - 126) * (2 : ℝ) ^ (129 - (n : ℤ)) = 8 := by
        rw [← zpow_add₀ (by norm_num), show (n : ℤ) - 126 + (129 - n) = 3 by ring]; norm_num
      rw [← e8]
      exact mul_lt_mul_of_pos_right (lt_of_le_of_lt hw h.2.2.2) hκ
    · rw [invOf_of (x : EReal) n h3 hn (by rw [expo_eq h, max3 hn, max_eq_left h3]), zOf_coe, e1, habs]
      unfold zR
      rw [show |w| * (2 * (2 : ℝ) ^ (129 - (n : ℤ)) * dl) = 2 * (|w| * (2 : ℝ) ^ (129 - (n : ℤ))) * dl by ring]
    · refine scaledE_coe w _ _ ?_
      rw [expOf_eq h, neg_exp ⟨n, by omega⟩, b_two, Ideal.pow_coe_coe]
      congr 1
      exact Real.rpow_intCast 2 _
    · rw [show (0 : EReal) = ((0 : ℝ) : EReal) from rfl, EReal.coe_lt_coe_iff]
      constructor
      · intro hh; exact mul_neg_of_neg_of_pos hh hκ
      · intro hh; exact neg_of_mul_neg_left hh hκ.le

theorem scaled_zero (w : EReal) (hw : max w (-w) ≤ 0) : ∃ v : ℝ, Scaled 0 w v := by
  have hw0 : w = 0 := by
    obtain ⟨h1, h2⟩ := max_le_iff.1 hw
    refine le_antisymm h1 ?_
    have := EReal.neg_le_neg_iff.2 h2
    simpa using this
  subst hw0
  refine ⟨0, by norm_num, ?_, ?_, by simp⟩
  · rw [invOf_of 0 3 le_rfl (by norm_num) (by rw [expo_zero]; decide), show (0 : EReal) = ((0 : ℝ) : EReal) from rfl, zOf_coe]
    unfold zR
    norm_num
  · rw [show (0 : EReal) = ((0 : ℝ) : EReal) from rfl, scaledE_coe 0 1 _ ?_]
    · norm_num
    · rw [show ((0 : ℝ) : EReal) = (0 : EReal) from rfl, expOf_zero, b_two]
      show Ideal.pow ((2 : ℝ) : EReal) ((((-(0#32)).toInt : ℤ) : ℝ) : EReal) = _
      rw [Ideal.pow_coe_coe]
      congr 1
      have : (-(0#32 : BitVec 32)).toInt = 0 := by decide
      rw [this]
      norm_num

/-- The numbers of a block that the mask selects. -/
theorem scaled_of (a w : EReal) (fin : a ≤ Ideal.ofBits .f32 0x7F7FFFFF#32) (low : a = 0 ∨ Ideal.ofBits .f32 0x01800000#32 ≤ a) (hw : max w (-w) ≤ a) :
    ∃ v : ℝ, Scaled a w v := by
  rcases low with low | low
  · subst low; exact scaled_zero w hw
  · have e : Ideal.ofBits .f32 0x01800000#32 = (((2 : ℝ) ^ (-124 : ℤ) : ℝ) : EReal) := by
      rw [pow_bits 0x01800000#32 3 (by norm_num) (by norm_num) (by decide)]; norm_num
    rw [e] at low
    obtain ⟨x, n, rfl, hn, h3⟩ := Agree.real_of (-124) (by norm_num) low fin
    exact scaled_pos x n hn (by omega) w hw

/-- The kernel's four bits of a number. -/
def nibE (w a : EReal) (r : BitVec 8) : BitVec 4 :=
  ((top (F := Ideal) (zOf (F := Ideal) (invOf (F := Ideal) a) w)).setWidth 16 - rnd r).extractLsb' 9 4

theorem nibE_eq {a w : EReal} {v : ℝ} (h : Scaled a w v) (r : BitVec 8) : nibE w a r = BitVec.ofNat 4 (kIdx |v| r.toNat).toNat := by
  unfold nibE
  rw [h.z]
  exact nib_eq _ (abs_nonneg v) h.lt r

theorem nibE_le {a w : EReal} {v : ℝ} (h : Scaled a w v) (r : BitVec 8) : (nibE w a r).toNat ≤ 8 := by
  obtain ⟨h1, h2⟩ := kIdx_range |v| (abs_nonneg v) h.lt r.toNat r.isLt
  rw [nibE_eq h, BitVec.toNat_ofNat]
  omega

theorem mag_eq {a w : EReal} {v : ℝ} (h : Scaled a w v) : (magE (scaledE w (expOf a)) : EReal) = ((min |v| 6 : ℝ) : EReal) := by
  show max (scaledE w (expOf a) : EReal) (-(scaledE w (expOf a) : EReal)) = _
  rw [h.y, abs_coe]
  congr 1
  rcases le_total 0 v with h0 | h0
  · rw [max_eq_right (by linarith), abs_of_nonneg h0, min_comm, abs_of_nonneg (le_min h0 (by norm_num))]
  · rw [abs_of_nonpos h0, min_eq_right (max_le (by norm_num) (by linarith)), abs_of_nonpos (max_le (by norm_num) h0), ← min_neg_neg, neg_neg, min_comm]

/-- The two codes of a selected number. -/
theorem elem_agree {a w : EReal} {v : ℝ} (h : Scaled a w v) (r : BitVec 8) (hs : Selected a (magE (scaledE w (expOf a))) r) :
    ∃ k : ℕ, k < 16 ∧ fin4 (nibE w a r) (sgn (F := Ideal) w) = BitVec.ofNat 4 k ∧ elemE w a r = BitVec.ofNat 32 k := by
  have m0 : 0 ≤ min |v| 6 := le_min (abs_nonneg v) (by norm_num)
  have m6 : min |v| 6 ≤ 6 := min_le_right _ _
  have hi := idxR_le _ m0 m6 r.toNat
  have hsep := hs.apart
  rw [mag_eq h, farE_coe, thrE_coe, b_margin, ← EReal.coe_add, EReal.coe_le_coe_iff, EReal.coe_le_coe_iff] at hsep
  have hneg : ((scaledE w (expOf a) : EReal) < 0 ↔ w < 0) := by
    rw [h.neg, h.y, show (0 : EReal) = ((0 : ℝ) : EReal) from rfl, EReal.coe_lt_coe_iff]
    constructor
    · intro hh
      rcases min_lt_iff.1 hh with hh | hh
      · exact absurd hh (by norm_num)
      · exact (max_lt_iff.1 hh).2
    · intro hh; exact min_lt_iff.2 (Or.inr (max_lt (by norm_num) hh))
  refine ⟨bits4 (idxR (min |v| 6) r.toNat) (decide (w < 0)), ?_, ?_, ?_⟩
  · unfold bits4; split_ifs <;> omega
  · rw [nibE_eq h, sgn_eq]
    exact fin4_eq _ _ _ hi (idx_agree |v| (abs_nonneg v) h.lt r hsep)
  · unfold elemE
    have e : codeE (gridE (magE (scaledE w (expOf a))) r) = BitVec.ofNat 32 (idxR (min |v| 6) r.toNat) := by
      rw [← code_eq _ m0 m6 r, ← mag_eq h]
    rw [e, signed_eq _ _ hi]
    congr 2
    exact decide_eq_decide.2 hneg

end Cert.Proof.Scalar

end
-- ==== Proof.Codes.lean ====
/-
  The kernel's code bytes are the reference's, where the mask selects them.
-/
module

public import proofs.«01_k».proof.Proof.Scalar

@[expose] public section

noncomputable section

namespace Cert.Proof.Codes

open Cert.ReferenceIdeal Cert.ReferenceIdeal.Value Cert.ReferenceIdeal.Gen
open Idealize.ShloMosaic Idealize.ShloMosaic.TcCoe Idealize.ShloMosaic.StableHlo
open Cert.Proof.Reads Cert.Proof.Exponent Cert.Proof.Agree Cert.Proof.Mask Cert.Proof.KernelValue
open Cert.Proof.Words (sgn)
open Cert.Proof.Sites (nib tok codeByte)
open Cert.Proof.Trips (kOf randBlk)

/-- The reference's code bytes. -/
def codesR {F : FTy → Type} [FloatOps F] (V0 : Valuation τ sig (Elt F)) : IVec S1x16384x3072 8 :=
  trunci 8 (ori (shapeCast _ (extractStridedSlice S1x16384x3072x1 ![0, 0, 0, 0] (res_main_v120 V0) slices_S1x16384x3072x2_S1x16384x3072x1_0_0_0_0) shapeCasts_S1x16384x3072x1_S1x16384x3072) (Host.shli (shapeCast _ (extractStridedSlice S1x16384x3072x1 ![0, 0, 0, 1] (res_main_v120 V0) slices_S1x16384x3072x2_S1x16384x3072x1_0_0_0_1) shapeCasts_S1x16384x3072x1_S1x16384x3072) (broadcastInDim S1x16384x3072 ![] bcast_S_S1x16384x3072 (constantI S_ 32 4#32)))) natLt_8_32

variable {m : (ℓ : Loc Cert.KernelIdeal.nD Cert.KernelIdeal.τ Cert.KernelIdeal.sig) → Buf (Elt Ideal) ℓ} {c : Dev Cert.KernelIdeal.nD}
  {V0 : Valuation τ sig (Elt Ideal)}

/-- Two codes of four bits in a byte. -/
theorem join (k1 k0 : ℕ) (h1 : k1 < 16) (h0 : k0 < 16) :
    (IntOp.ori (BitVec.ofNat 32 k0) (IntOp.shli .host (BitVec.ofNat 32 k1) 4#32)).setWidth 8 = (BitVec.ofNat 4 k1 ++ BitVec.ofNat 4 k0 : BitVec 8) := by
  have : ∀ k1 k0 : Fin 16, (IntOp.ori (BitVec.ofNat 32 k0.val) (IntOp.shli .host (BitVec.ofNat 32 k1.val) 4#32)).setWidth 8 = (BitVec.ofNat 4 k1.val ++ BitVec.ofNat 4 k0.val : BitVec 8) := by
    decide
  exact this ⟨k1, h1⟩ ⟨k0, h0⟩

theorem bytes_apply (A B : IVec S1x16384x3072 32) (i : S1x16384x3072.Idx) :
    trunci 8 (ori A (Host.shli B (broadcastInDim S1x16384x3072 ![] bcast_S_S1x16384x3072 (constantI S_ 32 4#32)))) natLt_8_32 i
      = (IntOp.ori (A i) (IntOp.shli .host (B i) 4#32)).setWidth 8 := rfl

/-- The reference's byte, from the codes of its two elements. -/
theorem codesR_read (d : Fin 16384) (p : Fin 3072) :
    codesR V0 (ValueIdx.ix3 (0 : Fin 1) d p)
      = (IntOp.ori (Elements.codedR V0 (ValueIdx.ix4 (0 : Fin 1) d (⟨p.val / 16, by omega⟩ : Fin 192) (⟨p.val % 16 * 2, by omega⟩ : Fin 32)))
          (IntOp.shli .host (Elements.codedR V0 (ValueIdx.ix4 (0 : Fin 1) d (⟨p.val / 16, by omega⟩ : Fin 192) (⟨p.val % 16 * 2 + 1, by omega⟩ : Fin 32))) 4#32)).setWidth 8 := by
  unfold codesR
  rw [bytes_apply, Elements.v120_eq, Elements.pair0, Elements.pair1]

/-- The kernel's random bytes are the reference's. -/
theorem rand_eq (h : SameArgs m c V0) (d : Fin 16384) (n : Fin 192) (e : Fin 32) :
    randBlk (F := Ideal) (Cert.KernelIdeal.Gen.iblk m c 2 (ptOf d.val)) (kOf (n.val / 8)) (32 * (n.val % 8) + e.val) (d.val % 256) = Elements.randR V0 d n e := by
  unfold randBlk Elements.randR
  rw [h.a2]
  refine Product.iblk2_apply m c (ptOf d.val) _ _ ?_ ?_
  · show d.val = 256 * (d.val / 256 % 64) + d.val % 256 % 256
    omega
  · show n.val * 32 + e.val = (256 * (n.val / 8 % 24) + (32 * (n.val % 8) + e.val)) % 6144
    omega

/-- The kernel's four bits of a token. -/
theorem nib_read (h : SameArgs m c V0) (d : Fin 16384) (n : Fin 192) (e : Fin 32) :
    nib (F := Ideal) (tileAt m c d.val n.val) (randBlk (F := Ideal) (Cert.KernelIdeal.Gen.iblk m c 2 (ptOf d.val)) (kOf (n.val / 8))) (32 * (n.val % 8) + e.val) (d.val % 256)
      = Scalar.nibE (wR V0 (ValueIdx.ix4 (0 : Fin 1) d n e)) (amaxR V0 (ValueIdx.ix3 (0 : Fin 1) d n)) (Elements.randR V0 d n e) := by
  have eg : (32 * (n.val % 8) + e.val) / 32 = n.val % 8 := by omega
  unfold nib Scalar.nibE
  rw [rand_eq h d n e, eg, ← tok_eq h d n e, ← max_eq h d n]

theorem codes_read (d : Fin 16384) (p : Fin 3072) :
    (resCodes (F := Ideal) m c : S1x16384x3072.Idx → BitVec 8) (ValueIdx.ix3 (0 : Fin 1) d p)
      = codeByte (F := Ideal) (tileAt m c d.val (p.val / 16)) (randBlk (F := Ideal) (Cert.KernelIdeal.Gen.iblk m c 2 (ptOf d.val)) (kOf (p.val / 16 / 8))) (d.val % 256) (p.val % 128) := by
  have e : p.val / 16 / 8 = p.val / 128 := by omega
  unfold tileAt
  rw [e]
  rfl

/-- The second result, where the mask selects it. -/
theorem codes_agree (h : SameArgs m c V0) (d : Fin 16384) (p : Fin 3072) (hm : (maskOf (F := Ideal) V0).2.1 (ValueIdx.ix3 (0 : Fin 1) d p) = 1#1) :
    (resCodes (F := Ideal) m c : S1x16384x3072.Idx → BitVec 8) (ValueIdx.ix3 (0 : Fin 1) d p) = codesR V0 (ValueIdx.ix3 (0 : Fin 1) d p) := by
  obtain ⟨m0, m1⟩ := Elements.codes_of V0 d p hm
  have s0 := Elements.selected_of V0 d _ _ m0
  have s1 := Elements.selected_of V0 d _ _ m1
  rw [Elements.v71_read, Elements.v70_read] at s0 s1
  obtain ⟨n, hn⟩ : ∃ n : Fin 192, n = ⟨p.val / 16, by omega⟩ := ⟨_, rfl⟩
  have hnv : n.val = p.val / 16 := by rw [hn]
  rw [← hn] at s0 s1
  have sc : ∀ e : Fin 32, ∃ v : ℝ, Scalar.Scaled (amaxR V0 (ValueIdx.ix3 (0 : Fin 1) d n)) (wR V0 (ValueIdx.ix4 (0 : Fin 1) d n e)) v := fun e =>
    Scalar.scaled_of _ _ s0.fin s0.low ((amax_le V0 d n _).1 le_rfl e)
  rw [codes_read, ← hnv]
  have hle : ∀ t, t / 8 = p.val % 128 / 4 →
      (nib (F := Ideal) (tileAt m c d.val n.val) (randBlk (F := Ideal) (Cert.KernelIdeal.Gen.iblk m c 2 (ptOf d.val)) (kOf (n.val / 8))) t (d.val % 256)).toNat ≤ 8 := by
    intro t ht
    have e : t = 32 * (n.val % 8) + (t - 32 * (n.val % 8)) := by omega
    have he : t - 32 * (n.val % 8) < 32 := by omega
    rw [e]
    obtain ⟨v, hv⟩ := sc ⟨t - 32 * (n.val % 8), he⟩
    have := nib_read h d n ⟨t - 32 * (n.val % 8), he⟩
    rw [this]
    exact Scalar.nibE_le hv _
  rw [Nibbles.codeByte_eq _ _ _ _ hle]
  have t0 : 2 * (p.val % 128) = 32 * (n.val % 8) + (⟨p.val % 16 * 2, by omega⟩ : Fin 32).val := by show _ = 32 * (n.val % 8) + p.val % 16 * 2; omega
  have t1 : 2 * (p.val % 128) + 1 = 32 * (n.val % 8) + (⟨p.val % 16 * 2 + 1, by omega⟩ : Fin 32).val := by show _ = 32 * (n.val % 8) + (p.val % 16 * 2 + 1); omega
  rw [t1, t0, nib_read h, nib_read h, tok_eq h, tok_eq h]
  obtain ⟨v0, hv0⟩ := sc ⟨p.val % 16 * 2, by omega⟩
  obtain ⟨v1, hv1⟩ := sc ⟨p.val % 16 * 2 + 1, by omega⟩
  obtain ⟨k0, b0, f0, g0⟩ := Scalar.elem_agree hv0 _ s0
  obtain ⟨k1, b1, f1, g1⟩ := Scalar.elem_agree hv1 _ s1
  rw [f0, f1, codesR_read, ← hn, Elements.elem_read, Elements.elem_read, g0, g1, join k1 k0 b1 b0]

end Cert.Proof.Codes
-- ==== Proof.Value.lean ====
/-
  The value claim: run on the same arguments, the kernel and the reference leave the same results where the mask selects.
-/
module

public import proofs.«01_k».proof.Defs
public import proofs.«01_k».proof.Proof.Codes

@[expose] public section

noncomputable section

namespace Cert.Proof.Value

open Idealize.ShloMosaic Idealize.ShloMosaic.TcCoe Idealize.SL.Sem Idealize.ShloMosaic.StableHlo
open Cert.Proof.Reads Cert.Proof.Exponent Cert.Proof.Agree Cert.Proof.Mask Cert.Proof.KernelValue Cert.Proof.Codes

/-- An index of a three-axis array whose first axis is one long. -/
theorem idx_eq {A B : ℕ} (i : (⟨3, ![1, A, B]⟩ : Shape).Idx) : i = ValueIdx.ix3 (0 : Fin 1) (i 1) (i 2) :=
  idx_ext₃ (congrArg Fin.val (Subsingleton.elim (α := Fin 1) _ _)) rfl rfl

section
variable {m : (ℓ : Loc Cert.KernelIdeal.nD Cert.KernelIdeal.τ Cert.KernelIdeal.sig) → Buf (Elt Ideal) ℓ} {c : Dev Cert.KernelIdeal.nD}
  {V0 : Valuation Cert.ReferenceIdeal.τ Cert.ReferenceIdeal.sig (Elt Ideal)}

/-- The reference's scale bytes. -/
def scalesR {F : FTy → Type} [FloatOps F] (V0 : Valuation Cert.ReferenceIdeal.τ Cert.ReferenceIdeal.sig (Elt F)) : IVec Cert.ReferenceIdeal.S1x16384x192 8 :=
  trunci 8 (addi (Cert.ReferenceIdeal.Value.res_main_v62 V0) (broadcastInDim Cert.ReferenceIdeal.S1x16384x192 ![] Cert.ReferenceIdeal.Gen.bcast_S_S1x16384x192 (constantI Cert.ReferenceIdeal.S_ 32 127#32))) Cert.ReferenceIdeal.Gen.natLt_8_32

theorem scales_apply (d : Fin 16384) (n : Fin 192) :
    scalesR V0 (ValueIdx.ix3 (0 : Fin 1) d n) = (IntOp.addi (expOf (amaxR V0 (ValueIdx.ix3 (0 : Fin 1) d n))) 127#32).setWidth 8 := by
  rw [← exp_eq V0 d n]
  rfl

theorem first (h : SameArgs m c V0) (i : Cert.ReferenceIdeal.S1x16384x192.Idx) :
    (resAmax (F := Ideal) m c : Cert.ReferenceIdeal.S1x16384x192.Idx → EReal) i = Cert.ReferenceIdeal.Value.res_main_v42 (F := Ideal) V0 i := by
  rw [idx_eq i]
  exact amax_agree h (i 1) (i 2)

theorem second (h : SameArgs m c V0) (i : Cert.ReferenceIdeal.S1x16384x3072.Idx) (hm : (maskOf (F := Ideal) V0).2.1 i = 1#1) :
    (resCodes (F := Ideal) m c : Cert.ReferenceIdeal.S1x16384x3072.Idx → BitVec 8) i = codesR V0 i := by
  rw [idx_eq i] at hm ⊢
  exact codes_agree h (i 1) (i 2) hm

theorem third (h : SameArgs m c V0) (i : Cert.ReferenceIdeal.S1x16384x192.Idx) (hm : (maskOf (F := Ideal) V0).2.2 i = 1#1) :
    (resScale (F := Ideal) m c : Cert.ReferenceIdeal.S1x16384x192.Idx → BitVec 8) i = scalesR V0 i := by
  rw [idx_eq i] at hm ⊢
  obtain ⟨h2, h1⟩ := scales_of V0 (i 1) (i 2) hm
  exact (scale_agree h (i 1) (i 2) h2 h1).trans (scales_apply (i 1) (i 2)).symm

end

theorem algebraic : Cert.algebraic_KernelIdeal_ReferenceIdeal_on_normal_and_untied := by
  intro m g m' g' _ hargs
  have same : ∀ c : Dev Cert.KernelIdeal.nD, SameArgs m c (launchContents m' c) := fun c =>
    ⟨(hargs c).1, (hargs c).2.1, (hargs c).2.2⟩
  refine ⟨fun c => resAmax (F := Ideal) m c, fun c => resCodes (F := Ideal) m c, fun c => resScale (F := Ideal) m c, ?_, ?_⟩
  · refine (θ_run Cert.KernelIdeal.defs _ _).mono (fun r h c => ?_) (Cert.Proof.KernelValue.run (F := Ideal) m g)
    obtain ⟨⟨h0, h1, h2⟩, h3⟩ := h c
    exact ⟨fun i _ => congrFun h0 i, fun i _ => congrFun h1 i, fun i _ => congrFun h2 i, h3⟩
  · refine (θ_run Cert.ReferenceIdeal.defs _ _).mono (fun r h c => ?_) (Cert.ReferenceIdeal.Value.run (F := Ideal) m' g')
    obtain ⟨h0, h1, h2, h3⟩ := h c
    have e : Cert.On_normal_and_untied.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = maskOf (F := Ideal) (launchContents m' c) := by
      rw [← (hargs c).1, ← (hargs c).2.1, ← (hargs c).2.2]
    refine ⟨fun i _ => (congrFun h0 i).trans (first (same c) i).symm, fun i hi => (congrFun h1 i).trans (second (same c) i ?_).symm,
      fun i hi => (congrFun h2 i).trans (third (same c) i ?_).symm, h3⟩
    · rw [← e]; exact hi
    · rw [← e]; exact hi

end Cert.Proof.Value
-- ==== Proof.lean ====
/-
  The proof of the certificate's claim: the frames of the kernel, of its ideal reading and of the reference, the
  idealization's sanction (it rewrote no operation), and the equality of results where the mask selects.
-/
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import proofs.«01_k».proof.Proof.Gen.On_normal_and_untied
public import proofs.«01_k».proof.Proof.Value
public import Idealize.ShloMosaic.Lib.Quiescent

@[expose] public section

noncomputable section

namespace Cert.Proof

open Idealize.ShloMosaic Idealize.SL.Sem

/-- The kernel's frame. -/
theorem frameKernel : Cert.quiescent_Kernel := fun m ρ _ => Cert.Proof.KernelRun.frame (F := Bits) m ρ

/-- The frame of the kernel read ideally. -/
theorem frameKernelIdeal : Cert.quiescent_KernelIdeal := fun m ρ _ => Cert.Proof.KernelIdealRun.frame (F := Ideal) m ρ

/-- The reference's frame: its run, read at the arguments; it has no semaphore. -/
theorem frameReferenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.On_normal_and_untied.Gen.facts,
    frameKernel, frameKernelIdeal, frameReferenceIdeal, trivial, Cert.Proof.Value.algebraic⟩

end Cert.Proof

end
